-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DecKernel [hPre_slots_stored : Cert.Pre_slots_stored.Facts] (m : (ℓ : Loc Cert.DecKernel.nD Cert.DecKernel.τ Cert.DecKernel.sig) → Buf (Elt Bits) ℓ) : Prop :=
  ∀ c : Dev Cert.DecKernel.nD,
    (Cert.Pre_slots_stored.fn (F := Bits) (m ((c.tc : Thread Cert.DecKernel.nD Cert.DecKernel.τ).loc Cert.DecKernel.main_arg0)) (m ((c.tc : Thread Cert.DecKernel.nD Cert.DecKernel.τ).loc Cert.DecKernel.main_arg1)) (m ((c.tc : Thread Cert.DecKernel.nD Cert.DecKernel.τ).loc Cert.DecKernel.main_arg2)) (m ((c.tc : Thread Cert.DecKernel.nD Cert.DecKernel.τ).loc Cert.DecKernel.main_arg3)) (m ((c.tc : Thread Cert.DecKernel.nD Cert.DecKernel.τ).loc Cert.DecKernel.main_arg4)) (m ((c.tc : Thread Cert.DecKernel.nD Cert.DecKernel.τ).loc Cert.DecKernel.main_arg5)) (m ((c.tc : Thread Cert.DecKernel.nD Cert.DecKernel.τ).loc Cert.DecKernel.main_arg6))) = (fun _ => 1#1)

def Pre_DecKernelIdeal [hPre_slots_stored : Cert.Pre_slots_stored.Facts] (m : (ℓ : Loc Cert.DecKernelIdeal.nD Cert.DecKernelIdeal.τ Cert.DecKernelIdeal.sig) → Buf (Elt Ideal) ℓ) : Prop :=
  ∀ c : Dev Cert.DecKernelIdeal.nD,
    (Cert.Pre_slots_stored.fn (F := Ideal) (m ((c.tc : Thread Cert.DecKernelIdeal.nD Cert.DecKernelIdeal.τ).loc Cert.DecKernelIdeal.main_arg0)) (m ((c.tc : Thread Cert.DecKernelIdeal.nD Cert.DecKernelIdeal.τ).loc Cert.DecKernelIdeal.main_arg1)) (m ((c.tc : Thread Cert.DecKernelIdeal.nD Cert.DecKernelIdeal.τ).loc Cert.DecKernelIdeal.main_arg2)) (m ((c.tc : Thread Cert.DecKernelIdeal.nD Cert.DecKernelIdeal.τ).loc Cert.DecKernelIdeal.main_arg3)) (m ((c.tc : Thread Cert.DecKernelIdeal.nD Cert.DecKernelIdeal.τ).loc Cert.DecKernelIdeal.main_arg4)) (m ((c.tc : Thread Cert.DecKernelIdeal.nD Cert.DecKernelIdeal.τ).loc Cert.DecKernelIdeal.main_arg5)) (m ((c.tc : Thread Cert.DecKernelIdeal.nD Cert.DecKernelIdeal.τ).loc Cert.DecKernelIdeal.main_arg6))) = (fun _ => 1#1)

def Pre_DecReferenceIdeal (m : (ℓ : Loc Cert.DecReferenceIdeal.nD Cert.DecReferenceIdeal.τ Cert.DecReferenceIdeal.sig) → Buf (Elt Ideal) ℓ) : Prop :=
  True

def Pre_DecReferenceIdeal_slots_stored [hPre_slots_stored : Cert.Pre_slots_stored.Facts] (m : (ℓ : Loc Cert.DecReferenceIdeal.nD Cert.DecReferenceIdeal.τ Cert.DecReferenceIdeal.sig) → Buf (Elt Ideal) ℓ) : Prop :=
  ∀ c : Dev Cert.DecReferenceIdeal.nD,
    (Cert.Pre_slots_stored.fn (F := Ideal) (m ((c.tc : Thread Cert.DecReferenceIdeal.nD Cert.DecReferenceIdeal.τ).loc Cert.DecReferenceIdeal.main_arg0)) (m ((c.tc : Thread Cert.DecReferenceIdeal.nD Cert.DecReferenceIdeal.τ).loc Cert.DecReferenceIdeal.main_arg1)) (m ((c.tc : Thread Cert.DecReferenceIdeal.nD Cert.DecReferenceIdeal.τ).loc Cert.DecReferenceIdeal.main_arg2)) (m ((c.tc : Thread Cert.DecReferenceIdeal.nD Cert.DecReferenceIdeal.τ).loc Cert.DecReferenceIdeal.main_arg3)) (m ((c.tc : Thread Cert.DecReferenceIdeal.nD Cert.DecReferenceIdeal.τ).loc Cert.DecReferenceIdeal.main_arg4)) (m ((c.tc : Thread Cert.DecReferenceIdeal.nD Cert.DecReferenceIdeal.τ).loc Cert.DecReferenceIdeal.main_arg5)) (m ((c.tc : Thread Cert.DecReferenceIdeal.nD Cert.DecReferenceIdeal.τ).loc Cert.DecReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_DecKernel [hDecKernel : Cert.DecKernel.Facts] [hPre_slots_stored : Cert.Pre_slots_stored.Facts] : Prop :=
  ∀ (m : (ℓ : Loc Cert.DecKernel.nD Cert.DecKernel.τ Cert.DecKernel.sig) → Buf (Elt Bits) ℓ) (g : Dev Cert.DecKernel.nD → PrngReg), Pre_DecKernel m →
    θ_run (Cert.DecKernel.defs (F := Bits)) (onTc (τ := Cert.DecKernel.τ) (Cert.DecKernel.main (F := Bits))) ⟨m, fun _ => 0, g⟩ (fun r => (∀ c : Dev Cert.DecKernel.nD,
      r.2.mem ((c.tc : Thread Cert.DecKernel.nD Cert.DecKernel.τ).loc Cert.DecKernel.main_arg0) = m ((c.tc : Thread Cert.DecKernel.nD Cert.DecKernel.τ).loc Cert.DecKernel.main_arg0)
      ∧ r.2.mem ((c.tc : Thread Cert.DecKernel.nD Cert.DecKernel.τ).loc Cert.DecKernel.main_arg1) = m ((c.tc : Thread Cert.DecKernel.nD Cert.DecKernel.τ).loc Cert.DecKernel.main_arg1)
      ∧ r.2.mem ((c.tc : Thread Cert.DecKernel.nD Cert.DecKernel.τ).loc Cert.DecKernel.main_arg2) = m ((c.tc : Thread Cert.DecKernel.nD Cert.DecKernel.τ).loc Cert.DecKernel.main_arg2)
      ∧ r.2.mem ((c.tc : Thread Cert.DecKernel.nD Cert.DecKernel.τ).loc Cert.DecKernel.main_arg3) = m ((c.tc : Thread Cert.DecKernel.nD Cert.DecKernel.τ).loc Cert.DecKernel.main_arg3)
      ∧ r.2.mem ((c.tc : Thread Cert.DecKernel.nD Cert.DecKernel.τ).loc Cert.DecKernel.main_arg4) = m ((c.tc : Thread Cert.DecKernel.nD Cert.DecKernel.τ).loc Cert.DecKernel.main_arg4)
      ∧ r.2.mem ((c.tc : Thread Cert.DecKernel.nD Cert.DecKernel.τ).loc Cert.DecKernel.main_arg5) = m ((c.tc : Thread Cert.DecKernel.nD Cert.DecKernel.τ).loc Cert.DecKernel.main_arg5)
      ∧ r.2.mem ((c.tc : Thread Cert.DecKernel.nD Cert.DecKernel.τ).loc Cert.DecKernel.main_arg6) = m ((c.tc : Thread Cert.DecKernel.nD Cert.DecKernel.τ).loc Cert.DecKernel.main_arg6))
      ∧ r.2.sem = fun _ => 0)

def quiescent_DecKernelIdeal [hDecKernelIdeal : Cert.DecKernelIdeal.Facts] [hPre_slots_stored : Cert.Pre_slots_stored.Facts] : Prop :=
  ∀ (m : (ℓ : Loc Cert.DecKernelIdeal.nD Cert.DecKernelIdeal.τ Cert.DecKernelIdeal.sig) → Buf (Elt Ideal) ℓ) (g : Dev Cert.DecKernelIdeal.nD → PrngReg), Pre_DecKernelIdeal m →
    θ_run (Cert.DecKernelIdeal.defs (F := Ideal)) (onTc (τ := Cert.DecKernelIdeal.τ) (Cert.DecKernelIdeal.main (F := Ideal))) ⟨m, fun _ => 0, g⟩ (fun r => (∀ c : Dev Cert.DecKernelIdeal.nD,
      r.2.mem ((c.tc : Thread Cert.DecKernelIdeal.nD Cert.DecKernelIdeal.τ).loc Cert.DecKernelIdeal.main_arg0) = m ((c.tc : Thread Cert.DecKernelIdeal.nD Cert.DecKernelIdeal.τ).loc Cert.DecKernelIdeal.main_arg0)
      ∧ r.2.mem ((c.tc : Thread Cert.DecKernelIdeal.nD Cert.DecKernelIdeal.τ).loc Cert.DecKernelIdeal.main_arg1) = m ((c.tc : Thread Cert.DecKernelIdeal.nD Cert.DecKernelIdeal.τ).loc Cert.DecKernelIdeal.main_arg1)
      ∧ r.2.mem ((c.tc : Thread Cert.DecKernelIdeal.nD Cert.DecKernelIdeal.τ).loc Cert.DecKernelIdeal.main_arg2) = m ((c.tc : Thread Cert.DecKernelIdeal.nD Cert.DecKernelIdeal.τ).loc Cert.DecKernelIdeal.main_arg2)
      ∧ r.2.mem ((c.tc : Thread Cert.DecKernelIdeal.nD Cert.DecKernelIdeal.τ).loc Cert.DecKernelIdeal.main_arg3) = m ((c.tc : Thread Cert.DecKernelIdeal.nD Cert.DecKernelIdeal.τ).loc Cert.DecKernelIdeal.main_arg3)
      ∧ r.2.mem ((c.tc : Thread Cert.DecKernelIdeal.nD Cert.DecKernelIdeal.τ).loc Cert.DecKernelIdeal.main_arg4) = m ((c.tc : Thread Cert.DecKernelIdeal.nD Cert.DecKernelIdeal.τ).loc Cert.DecKernelIdeal.main_arg4)
      ∧ r.2.mem ((c.tc : Thread Cert.DecKernelIdeal.nD Cert.DecKernelIdeal.τ).loc Cert.DecKernelIdeal.main_arg5) = m ((c.tc : Thread Cert.DecKernelIdeal.nD Cert.DecKernelIdeal.τ).loc Cert.DecKernelIdeal.main_arg5)
      ∧ r.2.mem ((c.tc : Thread Cert.DecKernelIdeal.nD Cert.DecKernelIdeal.τ).loc Cert.DecKernelIdeal.main_arg6) = m ((c.tc : Thread Cert.DecKernelIdeal.nD Cert.DecKernelIdeal.τ).loc Cert.DecKernelIdeal.main_arg6))
      ∧ r.2.sem = fun _ => 0)

def quiescent_DecReferenceIdeal [hDecReferenceIdeal : Cert.DecReferenceIdeal.Facts] : Prop :=
  ∀ (m : (ℓ : Loc Cert.DecReferenceIdeal.nD Cert.DecReferenceIdeal.τ Cert.DecReferenceIdeal.sig) → Buf (Elt Ideal) ℓ) (g : Dev Cert.DecReferenceIdeal.nD → PrngReg), Pre_DecReferenceIdeal m →
    θ_run (Cert.DecReferenceIdeal.defs (F := Ideal)) (onTc (τ := Cert.DecReferenceIdeal.τ) (Cert.DecReferenceIdeal.main (F := Ideal))) ⟨m, fun _ => 0, g⟩ (fun r => (∀ c : Dev Cert.DecReferenceIdeal.nD,
      r.2.mem ((c.tc : Thread Cert.DecReferenceIdeal.nD Cert.DecReferenceIdeal.τ).loc Cert.DecReferenceIdeal.main_arg0) = m ((c.tc : Thread Cert.DecReferenceIdeal.nD Cert.DecReferenceIdeal.τ).loc Cert.DecReferenceIdeal.main_arg0)
      ∧ r.2.mem ((c.tc : Thread Cert.DecReferenceIdeal.nD Cert.DecReferenceIdeal.τ).loc Cert.DecReferenceIdeal.main_arg1) = m ((c.tc : Thread Cert.DecReferenceIdeal.nD Cert.DecReferenceIdeal.τ).loc Cert.DecReferenceIdeal.main_arg1)
      ∧ r.2.mem ((c.tc : Thread Cert.DecReferenceIdeal.nD Cert.DecReferenceIdeal.τ).loc Cert.DecReferenceIdeal.main_arg2) = m ((c.tc : Thread Cert.DecReferenceIdeal.nD Cert.DecReferenceIdeal.τ).loc Cert.DecReferenceIdeal.main_arg2)
      ∧ r.2.mem ((c.tc : Thread Cert.DecReferenceIdeal.nD Cert.DecReferenceIdeal.τ).loc Cert.DecReferenceIdeal.main_arg3) = m ((c.tc : Thread Cert.DecReferenceIdeal.nD Cert.DecReferenceIdeal.τ).loc Cert.DecReferenceIdeal.main_arg3)
      ∧ r.2.mem ((c.tc : Thread Cert.DecReferenceIdeal.nD Cert.DecReferenceIdeal.τ).loc Cert.DecReferenceIdeal.main_arg4) = m ((c.tc : Thread Cert.DecReferenceIdeal.nD Cert.DecReferenceIdeal.τ).loc Cert.DecReferenceIdeal.main_arg4)
      ∧ r.2.mem ((c.tc : Thread Cert.DecReferenceIdeal.nD Cert.DecReferenceIdeal.τ).loc Cert.DecReferenceIdeal.main_arg5) = m ((c.tc : Thread Cert.DecReferenceIdeal.nD Cert.DecReferenceIdeal.τ).loc Cert.DecReferenceIdeal.main_arg5)
      ∧ r.2.mem ((c.tc : Thread Cert.DecReferenceIdeal.nD Cert.DecReferenceIdeal.τ).loc Cert.DecReferenceIdeal.main_arg6) = m ((c.tc : Thread Cert.DecReferenceIdeal.nD Cert.DecReferenceIdeal.τ).loc Cert.DecReferenceIdeal.main_arg6))
      ∧ r.2.sem = fun _ => 0)

def quiescent_DecReferenceIdeal_pre_slots_stored [hDecReferenceIdeal : Cert.DecReferenceIdeal.Facts] [hPre_slots_stored : Cert.Pre_slots_stored.Facts] : Prop :=
  ∀ (m : (ℓ : Loc Cert.DecReferenceIdeal.nD Cert.DecReferenceIdeal.τ Cert.DecReferenceIdeal.sig) → Buf (Elt Ideal) ℓ) (g : Dev Cert.DecReferenceIdeal.nD → PrngReg), Pre_DecReferenceIdeal_slots_stored m →
    θ_run (Cert.DecReferenceIdeal.defs (F := Ideal)) (onTc (τ := Cert.DecReferenceIdeal.τ) (Cert.DecReferenceIdeal.main (F := Ideal))) ⟨m, fun _ => 0, g⟩ (fun r => (∀ c : Dev Cert.DecReferenceIdeal.nD,
      r.2.mem ((c.tc : Thread Cert.DecReferenceIdeal.nD Cert.DecReferenceIdeal.τ).loc Cert.DecReferenceIdeal.main_arg0) = m ((c.tc : Thread Cert.DecReferenceIdeal.nD Cert.DecReferenceIdeal.τ).loc Cert.DecReferenceIdeal.main_arg0)
      ∧ r.2.mem ((c.tc : Thread Cert.DecReferenceIdeal.nD Cert.DecReferenceIdeal.τ).loc Cert.DecReferenceIdeal.main_arg1) = m ((c.tc : Thread Cert.DecReferenceIdeal.nD Cert.DecReferenceIdeal.τ).loc Cert.DecReferenceIdeal.main_arg1)
      ∧ r.2.mem ((c.tc : Thread Cert.DecReferenceIdeal.nD Cert.DecReferenceIdeal.τ).loc Cert.DecReferenceIdeal.main_arg2) = m ((c.tc : Thread Cert.DecReferenceIdeal.nD Cert.DecReferenceIdeal.τ).loc Cert.DecReferenceIdeal.main_arg2)
      ∧ r.2.mem ((c.tc : Thread Cert.DecReferenceIdeal.nD Cert.DecReferenceIdeal.τ).loc Cert.DecReferenceIdeal.main_arg3) = m ((c.tc : Thread Cert.DecReferenceIdeal.nD Cert.DecReferenceIdeal.τ).loc Cert.DecReferenceIdeal.main_arg3)
      ∧ r.2.mem ((c.tc : Thread Cert.DecReferenceIdeal.nD Cert.DecReferenceIdeal.τ).loc Cert.DecReferenceIdeal.main_arg4) = m ((c.tc : Thread Cert.DecReferenceIdeal.nD Cert.DecReferenceIdeal.τ).loc Cert.DecReferenceIdeal.main_arg4)
      ∧ r.2.mem ((c.tc : Thread Cert.DecReferenceIdeal.nD Cert.DecReferenceIdeal.τ).loc Cert.DecReferenceIdeal.main_arg5) = m ((c.tc : Thread Cert.DecReferenceIdeal.nD Cert.DecReferenceIdeal.τ).loc Cert.DecReferenceIdeal.main_arg5)
      ∧ r.2.mem ((c.tc : Thread Cert.DecReferenceIdeal.nD Cert.DecReferenceIdeal.τ).loc Cert.DecReferenceIdeal.main_arg6) = m ((c.tc : Thread Cert.DecReferenceIdeal.nD Cert.DecReferenceIdeal.τ).loc Cert.DecReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0_0) = v0 c
          ∧ r.2.mem ((c.tc : Thread Cert.OutReferenceIdeal.nD Cert.OutReferenceIdeal.τ).loc Cert.OutReferenceIdeal.main_v0_1) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_DecKernel_DecKernelIdeal : Prop :=
  True

def algebraic_DecKernelIdeal_DecReferenceIdeal [hDecKernelIdeal : Cert.DecKernelIdeal.Facts] [hDecReferenceIdeal : Cert.DecReferenceIdeal.Facts] [hPre_slots_stored : Cert.Pre_slots_stored.Facts] : Prop :=
  ∀ (m : (ℓ : Loc Cert.DecKernelIdeal.nD Cert.DecKernelIdeal.τ Cert.DecKernelIdeal.sig) → Buf (Elt Ideal) ℓ) (g : Dev Cert.DecKernelIdeal.nD → PrngReg)
    (m' : (ℓ : Loc Cert.DecReferenceIdeal.nD Cert.DecReferenceIdeal.τ Cert.DecReferenceIdeal.sig) → Buf (Elt Ideal) ℓ) (g' : Dev Cert.DecReferenceIdeal.nD → PrngReg), Pre_DecKernelIdeal m →
    (∀ c : Dev Cert.DecKernelIdeal.nD,
      m' ((c.tc : Thread Cert.DecReferenceIdeal.nD Cert.DecReferenceIdeal.τ).loc Cert.DecReferenceIdeal.main_arg0) = m ((c.tc : Thread Cert.DecKernelIdeal.nD Cert.DecKernelIdeal.τ).loc Cert.DecKernelIdeal.main_arg0)
      ∧ m' ((c.tc : Thread Cert.DecReferenceIdeal.nD Cert.DecReferenceIdeal.τ).loc Cert.DecReferenceIdeal.main_arg1) = m ((c.tc : Thread Cert.DecKernelIdeal.nD Cert.DecKernelIdeal.τ).loc Cert.DecKernelIdeal.main_arg1)
      ∧ m' ((c.tc : Thread Cert.DecReferenceIdeal.nD Cert.DecReferenceIdeal.τ).loc Cert.DecReferenceIdeal.main_arg2) = m ((c.tc : Thread Cert.DecKernelIdeal.nD Cert.DecKernelIdeal.τ).loc Cert.DecKernelIdeal.main_arg2)
      ∧ m' ((c.tc : Thread Cert.DecReferenceIdeal.nD Cert.DecReferenceIdeal.τ).loc Cert.DecReferenceIdeal.main_arg3) = m ((c.tc : Thread Cert.DecKernelIdeal.nD Cert.DecKernelIdeal.τ).loc Cert.DecKernelIdeal.main_arg3)
      ∧ m' ((c.tc : Thread Cert.DecReferenceIdeal.nD Cert.DecReferenceIdeal.τ).loc Cert.DecReferenceIdeal.main_arg4) = m ((c.tc : Thread Cert.DecKernelIdeal.nD Cert.DecKernelIdeal.τ).loc Cert.DecKernelIdeal.main_arg4)
      ∧ m' ((c.tc : Thread Cert.DecReferenceIdeal.nD Cert.DecReferenceIdeal.τ).loc Cert.DecReferenceIdeal.main_arg5) = m ((c.tc : Thread Cert.DecKernelIdeal.nD Cert.DecKernelIdeal.τ).loc Cert.DecKernelIdeal.main_arg5)
      ∧ m' ((c.tc : Thread Cert.DecReferenceIdeal.nD Cert.DecReferenceIdeal.τ).loc Cert.DecReferenceIdeal.main_arg6) = m ((c.tc : Thread Cert.DecKernelIdeal.nD Cert.DecKernelIdeal.τ).loc Cert.DecKernelIdeal.main_arg6)) →
    ∃ (v0 : (c : Dev Cert.DecKernelIdeal.nD) → Buf (Elt Ideal) ((c.tc : Thread Cert.DecKernelIdeal.nD Cert.DecKernelIdeal.τ).loc Cert.DecKernelIdeal.main_v5_1)) (v1 : (c : Dev Cert.DecKernelIdeal.nD) → Buf (Elt Ideal) ((c.tc : Thread Cert.DecKernelIdeal.nD Cert.DecKernelIdeal.τ).loc Cert.DecKernelIdeal.main_v5_2)),
      θ_run (Cert.DecKernelIdeal.defs (F := Ideal)) (onTc (τ := Cert.DecKernelIdeal.τ) (Cert.DecKernelIdeal.main (F := Ideal))) ⟨m, fun _ => 0, g⟩ (fun r => ∀ c : Dev Cert.DecKernelIdeal.nD,
          r.2.mem ((c.tc : Thread Cert.DecKernelIdeal.nD Cert.DecKernelIdeal.τ).loc Cert.DecKernelIdeal.main_v5_1) = v0 c
          ∧ r.2.mem ((c.tc : Thread Cert.DecKernelIdeal.nD Cert.DecKernelIdeal.τ).loc Cert.DecKernelIdeal.main_v5_2) = v1 c
          ∧ r.2.mem ((c.tc : Thread Cert.DecKernelIdeal.nD Cert.DecKernelIdeal.τ).loc Cert.DecKernelIdeal.main_arg0) = m ((c.tc : Thread Cert.DecKernelIdeal.nD Cert.DecKernelIdeal.τ).loc Cert.DecKernelIdeal.main_arg0)
          ∧ r.2.mem ((c.tc : Thread Cert.DecKernelIdeal.nD Cert.DecKernelIdeal.τ).loc Cert.DecKernelIdeal.main_arg1) = m ((c.tc : Thread Cert.DecKernelIdeal.nD Cert.DecKernelIdeal.τ).loc Cert.DecKernelIdeal.main_arg1)
          ∧ r.2.mem ((c.tc : Thread Cert.DecKernelIdeal.nD Cert.DecKernelIdeal.τ).loc Cert.DecKernelIdeal.main_arg2) = m ((c.tc : Thread Cert.DecKernelIdeal.nD Cert.DecKernelIdeal.τ).loc Cert.DecKernelIdeal.main_arg2)
          ∧ r.2.mem ((c.tc : Thread Cert.DecKernelIdeal.nD Cert.DecKernelIdeal.τ).loc Cert.DecKernelIdeal.main_arg3) = m ((c.tc : Thread Cert.DecKernelIdeal.nD Cert.DecKernelIdeal.τ).loc Cert.DecKernelIdeal.main_arg3)
          ∧ r.2.mem ((c.tc : Thread Cert.DecKernelIdeal.nD Cert.DecKernelIdeal.τ).loc Cert.DecKernelIdeal.main_arg4) = m ((c.tc : Thread Cert.DecKernelIdeal.nD Cert.DecKernelIdeal.τ).loc Cert.DecKernelIdeal.main_arg4)
          ∧ r.2.mem ((c.tc : Thread Cert.DecKernelIdeal.nD Cert.DecKernelIdeal.τ).loc Cert.DecKernelIdeal.main_arg5) = m ((c.tc : Thread Cert.DecKernelIdeal.nD Cert.DecKernelIdeal.τ).loc Cert.DecKernelIdeal.main_arg5)
          ∧ r.2.mem ((c.tc : Thread Cert.DecKernelIdeal.nD Cert.DecKernelIdeal.τ).loc Cert.DecKernelIdeal.main_arg6) = m ((c.tc : Thread Cert.DecKernelIdeal.nD Cert.DecKernelIdeal.τ).loc Cert.DecKernelIdeal.main_arg6))
      ∧ θ_run (Cert.DecReferenceIdeal.defs (F := Ideal)) (onTc (τ := Cert.DecReferenceIdeal.τ) (Cert.DecReferenceIdeal.main (F := Ideal))) ⟨m', fun _ => 0, g'⟩ (fun r => ∀ c : Dev Cert.DecReferenceIdeal.nD,
          r.2.mem ((c.tc : Thread Cert.DecReferenceIdeal.nD Cert.DecReferenceIdeal.τ).loc Cert.DecReferenceIdeal.main_v23_0) = v0 c
          ∧ r.2.mem ((c.tc : Thread Cert.DecReferenceIdeal.nD Cert.DecReferenceIdeal.τ).loc Cert.DecReferenceIdeal.main_v23_1) = v1 c
          ∧ r.2.mem ((c.tc : Thread Cert.DecReferenceIdeal.nD Cert.DecReferenceIdeal.τ).loc Cert.DecReferenceIdeal.main_arg0) = m' ((c.tc : Thread Cert.DecReferenceIdeal.nD Cert.DecReferenceIdeal.τ).loc Cert.DecReferenceIdeal.main_arg0)
          ∧ r.2.mem ((c.tc : Thread Cert.DecReferenceIdeal.nD Cert.DecReferenceIdeal.τ).loc Cert.DecReferenceIdeal.main_arg1) = m' ((c.tc : Thread Cert.DecReferenceIdeal.nD Cert.DecReferenceIdeal.τ).loc Cert.DecReferenceIdeal.main_arg1)
          ∧ r.2.mem ((c.tc : Thread Cert.DecReferenceIdeal.nD Cert.DecReferenceIdeal.τ).loc Cert.DecReferenceIdeal.main_arg2) = m' ((c.tc : Thread Cert.DecReferenceIdeal.nD Cert.DecReferenceIdeal.τ).loc Cert.DecReferenceIdeal.main_arg2)
          ∧ r.2.mem ((c.tc : Thread Cert.DecReferenceIdeal.nD Cert.DecReferenceIdeal.τ).loc Cert.DecReferenceIdeal.main_arg3) = m' ((c.tc : Thread Cert.DecReferenceIdeal.nD Cert.DecReferenceIdeal.τ).loc Cert.DecReferenceIdeal.main_arg3)
          ∧ r.2.mem ((c.tc : Thread Cert.DecReferenceIdeal.nD Cert.DecReferenceIdeal.τ).loc Cert.DecReferenceIdeal.main_arg4) = m' ((c.tc : Thread Cert.DecReferenceIdeal.nD Cert.DecReferenceIdeal.τ).loc Cert.DecReferenceIdeal.main_arg4)
          ∧ r.2.mem ((c.tc : Thread Cert.DecReferenceIdeal.nD Cert.DecReferenceIdeal.τ).loc Cert.DecReferenceIdeal.main_arg5) = m' ((c.tc : Thread Cert.DecReferenceIdeal.nD Cert.DecReferenceIdeal.τ).loc Cert.DecReferenceIdeal.main_arg5)
          ∧ r.2.mem ((c.tc : Thread Cert.DecReferenceIdeal.nD Cert.DecReferenceIdeal.τ).loc Cert.DecReferenceIdeal.main_arg6) = m' ((c.tc : Thread Cert.DecReferenceIdeal.nD Cert.DecReferenceIdeal.τ).loc Cert.DecReferenceIdeal.main_arg6))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hDecKernel : Cert.DecKernel.Facts) (hDecKernelIdeal : Cert.DecKernelIdeal.Facts) (hDecReferenceIdeal : Cert.DecReferenceIdeal.Facts) (hPre_slots_stored : Cert.Pre_slots_stored.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DecKernel (hDecKernel := hDecKernel) (hPre_slots_stored := hPre_slots_stored)
    ∧ quiescent_DecKernelIdeal (hDecKernelIdeal := hDecKernelIdeal) (hPre_slots_stored := hPre_slots_stored)
    ∧ quiescent_DecReferenceIdeal (hDecReferenceIdeal := hDecReferenceIdeal)
    ∧ quiescent_DecReferenceIdeal_pre_slots_stored (hDecReferenceIdeal := hDecReferenceIdeal) (hPre_slots_stored := hPre_slots_stored)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
    ∧ preserves_DecKernel_DecKernelIdeal
    ∧ algebraic_DecKernelIdeal_DecReferenceIdeal (hDecKernelIdeal := hDecKernelIdeal) (hDecReferenceIdeal := hDecReferenceIdeal) (hPre_slots_stored := hPre_slots_stored)
-- ==== Pre_slots_stored.lean ====
abbrev S59 : Shape := ⟨1, ![59]⟩
abbrev S76x32x64x128 : Shape := ⟨4, ![76, 32, 64, 128]⟩
abbrev S76x32x64 : Shape := ⟨3, ![76, 32, 64]⟩
abbrev S8320x2560 : Shape := ⟨2, ![8320, 2560]⟩
abbrev S8320x128 : Shape := ⟨2, ![8320, 128]⟩
abbrev S32 : Shape := ⟨1, ![32]⟩
abbrev S40 : Shape := ⟨1, ![40]⟩
abbrev S_ : Shape := ⟨0, ![]⟩

class Facts : Prop where
  slices_S59_S40_0 : S59.Slices ![0] S40
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S59 32) (main_arg1 : IVec S76x32x64x128 8) (main_arg2 : FVec F S76x32x64 .f32) (main_arg3 : FVec F S8320x2560 .f32) (main_arg4 : FVec F S8320x128 .f32) (main_arg5 : FVec F S32 .f32) (main_arg6 : FVec F S32 .f32) : IVec S_ 1 :=
  let main_v0 : IVec S40 32 := (extractStridedSlice S40 ![0] · slices_S59_S40_0) main_arg0
  let main_c : IVec S_ 32 := constantI S_ 32 0#32
  let main_v1 : IVec S40 32 := broadcastInDim S40 ![] bcast_S_S40 main_c
  let main_v2 : IVec S40 1 := cmpi .sge main_v0 main_v1
  let main_v3 : IVec S40 32 := (extractStridedSlice S40 ![0] · slices_S59_S40_0) main_arg0
  let main_c_0 : IVec S_ 32 := constantI S_ 32 76#32
  let main_v4 : IVec S40 32 := broadcastInDim S40 ![] bcast_S_S40 main_c_0
  let main_v5 : IVec S40 1 := cmpi .slt main_v3 main_v4
  let main_v6 : IVec S40 1 := andi main_v2 main_v5
  let main_c_1 : IVec S_ 1 := constantI S_ 1 1#1
  let main_v7 : IVec S_ 1 := (fun x v => Host.reduce IntOp.andi x v reducesTo_S40_S_d0 h_S_) main_v6 main_c_1
  main_v7
-- ==== Kernel.lean ====
abbrev S1 : Shape := ⟨1, ![1]⟩
abbrev S8232x4096 : Shape := ⟨2, ![8232, 4096]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S1x5376 : Shape := ⟨2, ![1, 5376]⟩
abbrev S1x4096 : Shape := ⟨2, ![1, 4096]⟩
abbrev S8232x5376 : Shape := ⟨2, ![8232, 5376]⟩
abbrev S192x4096 : Shape := ⟨2, ![192, 4096]⟩
abbrev S192x5376 : Shape := ⟨2, ![192, 5376]⟩
abbrev S4096x256 : Shape := ⟨2, ![4096, 256]⟩
abbrev S192x256 : Shape := ⟨2, ![192, 256]⟩
abbrev S1x256 : Shape := ⟨2, ![1, 256]⟩
abbrev S5376x256 : Shape := ⟨2, ![5376, 256]⟩

abbrev nBuf : Space → Nat
  | .hbm => 12
  | .vmem => 12
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8232x4096, .fp8e4m3⟩
  | .hbm, ⟨3, _⟩ => ⟨S8232x4096, .f32⟩
  | .hbm, ⟨4, _⟩ => ⟨S4096x5376, .fp8e4m3⟩
  | .hbm, ⟨5, _⟩ => ⟨S5376, .f32⟩
  | .hbm, ⟨6, _⟩ => ⟨S5376x4096, .fp8e4m3⟩
  | .hbm, ⟨7, _⟩ => ⟨S4096, .f32⟩
  | .hbm, ⟨8, _⟩ => ⟨S1x5376, .f32⟩
  | .hbm, ⟨9, _⟩ => ⟨S1x4096, .f32⟩
  | .hbm, ⟨10, _⟩ => ⟨S8232x5376, .fp8e4m3⟩
  | .hbm, ⟨11, _⟩ => ⟨S8232x4096, .bf16⟩
  | .local _ .vmem, ⟨0, _⟩ => ⟨S192x4096, .fp8e4m3⟩
  | .local _ .vmem, ⟨1, _⟩ => ⟨S192x4096, .fp8e4m3⟩
  | .local _ .vmem, ⟨2, _⟩ => ⟨S192x4096, .f32⟩
  | .local _ .vmem, ⟨3, _⟩ => ⟨S192x4096, .f32⟩
  | .local _ .vmem, ⟨4, _⟩ => ⟨S4096x5376, .fp8e4m3⟩
  | .local _ .vmem, ⟨5, _⟩ => ⟨S1x5376, .f32⟩
  | .local _ .vmem, ⟨6, _⟩ => ⟨S5376x4096, .fp8e4m3⟩
  | .local _ .vmem, ⟨7, _⟩ => ⟨S1x4096, .f32⟩
  | .local _ .vmem, ⟨8, _⟩ => ⟨S192x5376, .fp8e4m3⟩
  | .local _ .vmem, ⟨9, _⟩ => ⟨S192x5376, .fp8e4m3⟩
  | .local _ .vmem, ⟨10, _⟩ => ⟨S192x4096, .bf16⟩
  | .local _ .vmem, ⟨11, _⟩ => ⟨S192x4096, .bf16⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x5376 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5376x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S192x5376 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1 : Shape := ⟨1, ![1]⟩
abbrev S8232x4096 : Shape := ⟨2, ![8232, 4096]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S8232x5376 : Shape := ⟨2, ![8232, 5376]⟩
abbrev S1x5376 : Shape := ⟨2, ![1, 5376]⟩
abbrev S1x1 : Shape := ⟨2, ![1, 1]⟩
abbrev S1x4096 : Shape := ⟨2, ![1, 4096]⟩

abbrev nBuf : Space → Nat
  | .hbm => 10
  | .vmem => 10
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8232x4096, .fp8e4m3⟩
  | .hbm, ⟨3, _⟩ => ⟨S8232x4096, .f32⟩
  | .hbm, ⟨4, _⟩ => ⟨S4096x5376, .fp8e4m3⟩
  | .hbm, ⟨5, _⟩ => ⟨S5376, .f32⟩
  | .hbm, ⟨6, _⟩ => ⟨S5376x4096, .fp8e4m3⟩
  | .hbm, ⟨7, _⟩ => ⟨S4096, .f32⟩
  | .hbm, ⟨8, _⟩ => ⟨S8232x4096, .bf16⟩
  | .hbm, ⟨9, _⟩ => ⟨S8232x5376, .fp8e4m3⟩
  | .local _ .vmem, ⟨0, _⟩ => ⟨S1, .f32⟩
  | .local _ .vmem, ⟨1, _⟩ => ⟨S1, .f32⟩
  | .local _ .vmem, ⟨2, _⟩ => ⟨S8232x4096, .fp8e4m3⟩
  | .local _ .vmem, ⟨3, _⟩ => ⟨S8232x4096, .f32⟩
  | .local _ .vmem, ⟨4, _⟩ => ⟨S4096x5376, .fp8e4m3⟩
  | .local _ .vmem, ⟨5, _⟩ => ⟨S5376, .f32⟩
  | .local _ .vmem, ⟨6, _⟩ => ⟨S5376x4096, .fp8e4m3⟩
  | .local _ .vmem, ⟨7, _⟩ => ⟨S4096, .f32⟩
  | .local _ .vmem, ⟨8, _⟩ => ⟨S8232x4096, .bf16⟩
  | .local _ .vmem, ⟨9, _⟩ => ⟨S8232x5376, .fp8e4m3⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8232x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8232x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5376 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5376x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8232x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8232x5376 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== OutKernel.lean ====
abbrev S1 : Shape := ⟨1, ![1]⟩
abbrev S8232x2048 : Shape := ⟨2, ![8232, 2048]⟩
abbrev S8232x4096 : Shape := ⟨2, ![8232, 4096]⟩
abbrev S2048x4096 : Shape := ⟨2, ![2048, 4096]⟩
abbrev S4096 : Shape := ⟨1, ![4096]⟩
abbrev S1x4096 : Shape := ⟨2, ![1, 4096]⟩
abbrev S320x2048 : Shape := ⟨2, ![320, 2048]⟩
abbrev S320x4096 : Shape := ⟨2, ![320, 4096]⟩
abbrev S2048x512 : Shape := ⟨2, ![2048, 512]⟩
abbrev S320x512 : Shape := ⟨2, ![320, 512]⟩
abbrev S1x512 : Shape := ⟨2, ![1, 512]⟩
abbrev S32x128 : Shape := ⟨2, ![32, 128]⟩
abbrev S32 : Shape := ⟨1, ![32]⟩
abbrev S32x1 : Shape := ⟨2, ![32, 1]⟩
abbrev S32x512 : Shape := ⟨2, ![32, 512]⟩

abbrev nBuf : Space → Nat
  | .hbm => 11
  | .vmem => 11
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8232x2048, .fp8e4m3⟩
  | .hbm, ⟨3, _⟩ => ⟨S8232x4096, .bf16⟩
  | .hbm, ⟨4, _⟩ => ⟨S2048x4096, .fp8e4m3⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S8232x4096, .f32⟩
  | .hbm, ⟨10, _⟩ => ⟨S8232x4096, .fp8e4m3⟩
  | .local _ .vmem, ⟨0, _⟩ => ⟨S320x2048, .fp8e4m3⟩
  | .local _ .vmem, ⟨1, _⟩ => ⟨S320x2048, .fp8e4m3⟩
  | .local _ .vmem, ⟨2, _⟩ => ⟨S320x4096, .bf16⟩
  | .local _ .vmem, ⟨3, _⟩ => ⟨S320x4096, .bf16⟩
  | .local _ .vmem, ⟨4, _⟩ => ⟨S2048x4096, .fp8e4m3⟩
  | .local _ .vmem, ⟨5, _⟩ => ⟨S1x4096, .f32⟩
  | .local _ .vmem, ⟨6, _⟩ => ⟨S1x4096, .f32⟩
  | .local _ .vmem, ⟨7, _⟩ => ⟨S320x4096, .f32⟩
  | .local _ .vmem, ⟨8, _⟩ => ⟨S320x4096, .f32⟩
  | .local _ .vmem, ⟨9, _⟩ => ⟨S320x4096, .fp8e4m3⟩
  | .local _ .vmem, ⟨10, _⟩ => ⟨S320x4096, .fp8e4m3⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![26], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S1 : Shape := ⟨1, ![1]⟩
abbrev S8232x2048 : Shape := ⟨2, ![8232, 2048]⟩
abbrev S8232x4096 : Shape := ⟨2, ![8232, 4096]⟩
abbrev S2048x4096 : Shape := ⟨2, ![2048, 4096]⟩
abbrev S4096 : Shape := ⟨1, ![4096]⟩
abbrev S1x4096 : Shape := ⟨2, ![1, 4096]⟩
abbrev S8232 : Shape := ⟨1, ![8232]⟩
abbrev S8232x1 : Shape := ⟨2, ![8232, 1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8232x2048, .fp8e4m3⟩
  | .hbm, ⟨3, _⟩ => ⟨S8232x4096, .bf16⟩
  | .hbm, ⟨4, _⟩ => ⟨S2048x4096, .fp8e4m3⟩
  | .hbm, ⟨5, _⟩ => ⟨S4096, .f32⟩
  | .hbm, ⟨6, _⟩ => ⟨S4096, .f32⟩
  | .hbm, ⟨7, _⟩ => ⟨S8232x4096, .f32⟩
  | .hbm, ⟨8, _⟩ => ⟨S8232x4096, .fp8e4m3⟩
  | .local _ .vmem, ⟨0, _⟩ => ⟨S1, .f32⟩
  | .local _ .vmem, ⟨1, _⟩ => ⟨S1, .f32⟩
  | .local _ .vmem, ⟨2, _⟩ => ⟨S8232x2048, .fp8e4m3⟩
  | .local _ .vmem, ⟨3, _⟩ => ⟨S8232x4096, .bf16⟩
  | .local _ .vmem, ⟨4, _⟩ => ⟨S2048x4096, .fp8e4m3⟩
  | .local _ .vmem, ⟨5, _⟩ => ⟨S4096, .f32⟩
  | .local _ .vmem, ⟨6, _⟩ => ⟨S4096, .f32⟩
  | .local _ .vmem, ⟨7, _⟩ => ⟨S8232x4096, .f32⟩
  | .local _ .vmem, ⟨8, _⟩ => ⟨S8232x4096, .fp8e4m3⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8232x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8232x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8232x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8232x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DecKernel.lean ====
abbrev S59 : Shape := ⟨1, ![59]⟩
abbrev S76x32x64x128 : Shape := ⟨4, ![76, 32, 64, 128]⟩
abbrev S76x32x64 : Shape := ⟨3, ![76, 32, 64]⟩
abbrev S8320x2560 : Shape := ⟨2, ![8320, 2560]⟩
abbrev S8320x128 : Shape := ⟨2, ![8320, 128]⟩
abbrev S32 : Shape := ⟨1, ![32]⟩
abbrev S1x32 : Shape := ⟨2, ![1, 32]⟩
abbrev S_ : Shape := ⟨0, ![]⟩
abbrev S1x128 : Shape := ⟨2, ![1, 128]⟩
abbrev S76x1x2048 : Shape := ⟨3, ![76, 1, 2048]⟩
abbrev S40x32x64 : Shape := ⟨3, ![40, 32, 64]⟩
abbrev S40x32x64x128 : Shape := ⟨4, ![40, 32, 64, 128]⟩
abbrev S1x32x64x128 : Shape := ⟨4, ![1, 32, 64, 128]⟩
abbrev S1 : Shape := ⟨1, ![1]⟩
abbrev S1x1x2048 : Shape := ⟨3, ![1, 1, 2048]⟩
abbrev S8x2560 : Shape := ⟨2, ![8, 2560]⟩
abbrev S8x128 : Shape := ⟨2, ![8, 128]⟩
abbrev S1x32x64 : Shape := ⟨3, ![1, 32, 64]⟩
abbrev S128x2048 : Shape := ⟨2, ![128, 2048]⟩
abbrev S8x1 : Shape := ⟨2, ![8, 1]⟩
abbrev S8x2048 : Shape := ⟨2, ![8, 2048]⟩
abbrev S1x2048 : Shape := ⟨2, ![1, 2048]⟩
abbrev S128 : Shape := ⟨1, ![128]⟩
abbrev S8x1024 : Shape := ⟨2, ![8, 1024]⟩
abbrev S1024x128 : Shape := ⟨2, ![1024, 128]⟩
abbrev S1x16x64x128 : Shape := ⟨4, ![1, 16, 64, 128]⟩
abbrev S16x64x128 : Shape := ⟨3, ![16, 64, 128]⟩
abbrev S16x64 : Shape := ⟨2, ![16, 64]⟩
abbrev S1x16x64 : Shape := ⟨3, ![1, 16, 64]⟩
abbrev S16x64x1 : Shape := ⟨3, ![16, 64, 1]⟩
abbrev S1x1x128 : Shape := ⟨3, ![1, 1, 128]⟩

abbrev nBuf : Space → Nat
  | .hbm => 18
  | .vmem => 17
  | .smem => 1
  | _ => 0

abbrev bufTy : (tb : Table) → Fin (tcTables nBuf tb) → BufTy
  | .hbm, ⟨0, _⟩ => ⟨S76x32x64x128, .i8⟩
  | .hbm, ⟨1, _⟩ => ⟨S76x32x64, .f32⟩
  | .hbm, ⟨2, _⟩ => ⟨S8320x2560, .f32⟩
  | .hbm, ⟨3, _⟩ => ⟨S8320x128, .f32⟩
  | .hbm, ⟨4, _⟩ => ⟨S32, .f32⟩
  | .hbm, ⟨5, _⟩ => ⟨S32, .f32⟩
  | .hbm, ⟨6, _⟩ => ⟨S1x32, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x32, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S76x1x2048, .f32⟩
  | .hbm, ⟨15, _⟩ => ⟨S40x32x64, .f32⟩
  | .hbm, ⟨16, _⟩ => ⟨S40x32x64x128, .i8⟩
  | .hbm, ⟨17, _⟩ => ⟨S40x32x64, .f32⟩
  | .local _ .vmem, ⟨0, _⟩ => ⟨S1x32x64x128, .i8⟩
  | .local _ .vmem, ⟨1, _⟩ => ⟨S1x32x64x128, .i8⟩
  | .local _ .vmem, ⟨2, _⟩ => ⟨S1x1x2048, .f32⟩
  | .local _ .vmem, ⟨3, _⟩ => ⟨S1x1x2048, .f32⟩
  | .local _ .vmem, ⟨4, _⟩ => ⟨S8x2560, .f32⟩
  | .local _ .vmem, ⟨5, _⟩ => ⟨S8x2560, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S1x32x64, .f32⟩
  | .local _ .vmem, ⟨11, _⟩ => ⟨S1x32x64, .f32⟩
  | .local _ .vmem, ⟨12, _⟩ => ⟨S1x32x64x128, .i8⟩
  | .local _ .vmem, ⟨13, _⟩ => ⟨S1x32x64x128, .i8⟩
  | .local _ .vmem, ⟨14, _⟩ => ⟨S1x32x64, .f32⟩
  | .local _ .vmem, ⟨15, _⟩ => ⟨S1x32x64, .f32⟩
  | .local _ .vmem, ⟨16, _⟩ => ⟨S128x2048, .f32⟩
  | .local _ .smem, ⟨0, _⟩ => ⟨S59, .i32⟩
  | _, _ => ⟨S76x32x64x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S59.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x64x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DecReferenceIdeal.lean ====
abbrev S59 : Shape := ⟨1, ![59]⟩
abbrev S76x32x64x128 : Shape := ⟨4, ![76, 32, 64, 128]⟩
abbrev S76x32x64 : Shape := ⟨3, ![76, 32, 64]⟩
abbrev S8320x2560 : Shape := ⟨2, ![8320, 2560]⟩
abbrev S8320x128 : Shape := ⟨2, ![8320, 128]⟩
abbrev S32 : Shape := ⟨1, ![32]⟩
abbrev S40 : Shape := ⟨1, ![40]⟩
abbrev S40x2048 : Shape := ⟨2, ![40, 2048]⟩
abbrev S40x32x64 : Shape := ⟨3, ![40, 32, 64]⟩
abbrev S40x256 : Shape := ⟨2, ![40, 256]⟩
abbrev S40x2x128 : Shape := ⟨3, ![40, 2, 128]⟩
abbrev S40x2x16x128 : Shape := ⟨4, ![40, 2, 16, 128]⟩
abbrev S40x32x128 : Shape := ⟨3, ![40, 32, 128]⟩
abbrev S_ : Shape := ⟨0, ![]⟩
abbrev S40x1 : Shape := ⟨2, ![40, 1]⟩
abbrev S40x32x64x128 : Shape := ⟨4, ![40, 32, 64, 128]⟩
abbrev S40x32 : Shape := ⟨2, ![40, 32]⟩
abbrev S1x32 : Shape := ⟨2, ![1, 32]⟩
abbrev S40x32x64x1 : Shape := ⟨4, ![40, 32, 64, 1]⟩
abbrev S40x32x1x1 : Shape := ⟨4, ![40, 32, 1, 1]⟩
abbrev S40x32x1 : Shape := ⟨3, ![40, 32, 1]⟩
abbrev S40x32x1x128 : Shape := ⟨4, ![40, 32, 1, 128]⟩

abbrev nBuf : Space → Nat
  | .hbm => 36
  | .vmem => 8
  | .smem => 0
  | _ => 0

abbrev bufTy : (tb : Table) → Fin (tcTables nBuf tb) → BufTy
  | .hbm, ⟨0, _⟩ => ⟨S59, .i32⟩
  | .hbm, ⟨1, _⟩ => ⟨S76x32x64x128, .i8⟩
  | .hbm, ⟨2, _⟩ => ⟨S76x32x64, .f32⟩
  | .hbm, ⟨3, _⟩ => ⟨S8320x2560, .f32⟩
  | .hbm, ⟨4, _⟩ => ⟨S8320x128, .f32⟩
  | .hbm, ⟨5, _⟩ => ⟨S32, .f32⟩
  | .hbm, ⟨6, _⟩ => ⟨S32, .f32⟩
  | .hbm, ⟨7, _⟩ => ⟨S40, .i32⟩
  | .hbm, ⟨8, _⟩ => ⟨S40x2048, .f32⟩
  | .hbm, ⟨9, _⟩ => ⟨S40x32x64, .f32⟩
  | .hbm, ⟨10, _⟩ => ⟨S40x256, .f32⟩
  | .hbm, ⟨11, _⟩ => ⟨S40x2x128, .f32⟩
  | .hbm, ⟨12, _⟩ => ⟨S40x2x16x128, .f32⟩
  | .hbm, ⟨13, _⟩ => ⟨S40x32x128, .f32⟩
  | .hbm, ⟨14, _⟩ => ⟨S_, .i32⟩
  | .hbm, ⟨15, _⟩ => ⟨S40, .i32⟩
  | .hbm, ⟨16, _⟩ => ⟨S40, .i1⟩
  | .hbm, ⟨17, _⟩ => ⟨S_, .i32⟩
  | .hbm, ⟨18, _⟩ => ⟨S40, .i32⟩
  | .hbm, ⟨19, _⟩ => ⟨S40, .i32⟩
  | .hbm, ⟨20, _⟩ => ⟨S40, .i32⟩
  | .hbm, ⟨21, _⟩ => ⟨S40x1, .i32⟩
  | .hbm, ⟨22, _⟩ => ⟨S40x32x64x128, .i8⟩
  | .hbm, ⟨23, _⟩ => ⟨S_, .i32⟩
  | .hbm, ⟨24, _⟩ => ⟨S40, .i32⟩
  | .hbm, ⟨25, _⟩ => ⟨S40, .i1⟩
  | .hbm, ⟨26, _⟩ => ⟨S_, .i32⟩
  | .hbm, ⟨27, _⟩ => ⟨S40, .i32⟩
  | .hbm, ⟨28, _⟩ => ⟨S40, .i32⟩
  | .hbm, ⟨29, _⟩ => ⟨S40, .i32⟩
  | .hbm, ⟨30, _⟩ => ⟨S40x1, .i32⟩
  | .hbm, ⟨31, _⟩ => ⟨S40x32x64, .f32⟩
  | .hbm, ⟨32, _⟩ => ⟨S40x32, .f32⟩
  | .hbm, ⟨33, _⟩ => ⟨S1x32, .f32⟩
  | .hbm, ⟨34, _⟩ => ⟨S40x32x64x128, .i8⟩
  | .hbm, ⟨35, _⟩ => ⟨S40x32x64, .f32⟩
  | .local _ .vmem, ⟨0, _⟩ => ⟨S40x32x64x128, .i8⟩
  | .local _ .vmem, ⟨1, _⟩ => ⟨S40x32x64, .f32⟩
  | .local _ .vmem, ⟨2, _⟩ => ⟨S40x32x64, .f32⟩
  | .local _ .vmem, ⟨3, _⟩ => ⟨S40x32x128, .f32⟩
  | .local _ .vmem, ⟨4, _⟩ => ⟨S40x32, .f32⟩
  | .local _ .vmem, ⟨5, _⟩ => ⟨S1x32, .f32⟩
  | .local _ .vmem, ⟨6, _⟩ => ⟨S40x32x64x128, .i8⟩
  | .local _ .vmem, ⟨7, _⟩ => ⟨S40x32x64, .f32⟩
  | _, _ => ⟨S59, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S40x32x64x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x32x64x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.FfnBits.lean ====
/- The FRAME of the kernel as written (any float semantics, so the word-exact one): the body's run over whole staging
   buffers, the proof data of the pipeline and the launch. The last of the 43 row blocks overhangs the arrays' 8232 rows, so the two
   row-blocked inputs are stated on the rows inside the arrays only (`Window.fill`, any word past the end), and what the kernel
   leaves in the two outputs is not named (`Dat.toRForget`): the claim reads the arguments and the counters. -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c)⟩) h

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x5376 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5376x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S192x5376 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S192x4096 .bf16 := win0_9.stage (cfg0.slots t 9)
abbrev hs0_9 (t : Fin cfg0.N) : (ms0_9 t).IsWhole := hstage0_9 ((cfg0.slots t 9).cast nbuf0_9)

-- (the run's proof term is large: checking it walks past the default budget)
set_option maxHeartbeats 1000000 in
/-- The body's triple: on whole staging memrefs — the inputs' at their contents,
    the FORGOTTEN outputs' (8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S192x4096 .fp8e4m3) (harg3 : arg3.IsWhole) (arg4 : Memref sig .tc .vmem S192x4096 .f32) (harg4 : arg4.IsWhole) (arg5 : Memref sig .tc .vmem S4096x5376 .fp8e4m3) (harg5 : arg5.IsWhole) (arg6 : Memref sig .tc .vmem S1x5376 .f32) (harg6 : arg6.IsWhole) (arg7 : Memref sig .tc .vmem S5376x4096 .fp8e4m3) (harg7 : arg7.IsWhole) (arg8 : Memref sig .tc .vmem S1x4096 .f32) (harg8 : arg8.IsWhole) (arg9 : Memref sig .tc .vmem S192x5376 .fp8e4m3) (harg9 : arg9.IsWhole) (arg10 : Memref sig .tc .vmem S192x4096 .bf16) (harg10 : arg10.IsWhole)
    (x0 : Vec F S1 .f32) (x1 : Vec F S1 .f32) (x2 : Vec F S192x4096 .fp8e4m3) (x3 : Vec F S192x4096 .f32) (x4 : Vec F S4096x5376 .fp8e4m3) (x5 : Vec F S1x5376 .f32) (x6 : Vec F S5376x4096 .fp8e4m3) (x7 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
    intro E K
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    iexists _, _; isplitr; swap; · iexact H9
    ipureintro; rfl

/-- Input window 2's staging buffer at point `t`: the array's block on the rows inside the array, the zero word on the rows past
    its end (a filler the obligation never reads: the window is loose). -/
def rblk2 (c : Dev nD) (t : Fin cfg0.N) : Vec F S192x4096 .fp8e4m3 :=
  win0_2.fill (grid0.coords t) (fun _ => Scalar.ofBits .fp8e4m3 0) (iblk m c 2 t)
theorem cut_rblk2 (c : Dev nD) (t : Fin cfg0.N) : win0_2.cut (grid0.coords t) (rblk2 m c t) = iblk m c 2 t :=
  win0_2.cut_fill _ _ _

/-- Input window 3's staging buffer at point `t`: the array's block on the rows inside the array, the zero word on the rows past
    its end (a filler the obligation never reads: the window is loose). -/
def rblk3 (c : Dev nD) (t : Fin cfg0.N) : Vec F S192x4096 .f32 :=
  win0_3.fill (grid0.coords t) (fun _ => Scalar.ofBits .f32 0) (iblk m c 3 t)
theorem cut_rblk3 (c : Dev nD) (t : Fin cfg0.N) : win0_3.cut (grid0.coords t) (rblk3 m c t) = iblk m c 3 t :=
  win0_3.cut_fill _ _ _

/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.Kernel.Hand

end
-- ==== Proof.FfnRun.lean ====
/- The kernel body's RUN over any whole staging buffers: the inputs' contents kept, each output ending at a list of stored
   pieces (21 column chunks of the codes, 16 of the result), found by running the body's skeleton. Any float semantics. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 8, through which its contents are stated (`View.read_writes_of_cover`: the
    choice does not matter). -/
abbrev VO0_8 : View sig .tc .vmem S192x5376 .fp8e4m3 := (Memref.whole cc0_stg8_0 : Memref sig .tc .vmem S192x5376 .fp8e4m3).view
/-- One staging buffer of output window 9, through which its contents are stated (`View.read_writes_of_cover`: the
    choice does not matter). -/
abbrev VO0_9 : View sig .tc .vmem S192x4096 .bf16 := (Memref.whole cc0_stg9_0 : Memref sig .tc .vmem S192x4096 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x5376 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5376x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S192x5376 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S192x4096 .bf16 := win0_9.stage (cfg0.slots t 9)
abbrev hs0_9 (t : Fin cfg0.N) : (ms0_9 t).IsWhole := hstage0_9 ((cfg0.slots t 9).cast nbuf0_9)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S192x4096 .fp8e4m3) (harg3 : arg3.IsWhole) (arg4 : Memref sig .tc .vmem S192x4096 .f32) (harg4 : arg4.IsWhole) (arg5 : Memref sig .tc .vmem S4096x5376 .fp8e4m3) (harg5 : arg5.IsWhole) (arg6 : Memref sig .tc .vmem S1x5376 .f32) (harg6 : arg6.IsWhole) (arg7 : Memref sig .tc .vmem S5376x4096 .fp8e4m3) (harg7 : arg7.IsWhole) (arg8 : Memref sig .tc .vmem S1x4096 .f32) (harg8 : arg8.IsWhole) (arg9 : Memref sig .tc .vmem S192x5376 .fp8e4m3) (harg9 : arg9.IsWhole) (arg10 : Memref sig .tc .vmem S192x4096 .bf16) (harg10 : arg10.IsWhole)
    (x0 : Vec F S1 .f32) (x1 : Vec F S1 .f32) (x2 : Vec F S192x4096 .fp8e4m3) (x3 : Vec F S192x4096 .f32) (x4 : Vec F S4096x5376 .fp8e4m3) (x5 : Vec F S1x5376 .f32) (x6 : Vec F S5376x4096 .fp8e4m3) (x7 : Vec F S1x4096 .f32) :
    Σ' (L8 : List (View.Piece (Elt F) S192x5376 .fp8e4m3)), { L9 : List (View.Piece (Elt F) S192x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.FfnFrame.lean ====
/- The FRAME of the idealized program at any float semantics: as for the kernel as written, the outputs are not named and the
   two row-blocked inputs are stated on the rows inside the arrays. -/
module

public import proofs.«01_k».proof.Proof.FfnRun

@[expose] public section

set_option maxRecDepth 16384

noncomputable section

namespace Cert.KernelIdeal.Hand.Forget

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
open Cert.KernelIdeal.Hand

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c)⟩) h

/-- Input window 2's staging buffer at point `t`: the array's block on the rows inside the array, the zero word on the rows past
    its end (a filler the obligation never reads: the window is loose). -/
def rblk2 (c : Dev nD) (t : Fin cfg0.N) : Vec F S192x4096 .fp8e4m3 :=
  win0_2.fill (grid0.coords t) (fun _ => Scalar.ofBits .fp8e4m3 0) (iblk m c 2 t)
theorem cut_rblk2 (c : Dev nD) (t : Fin cfg0.N) : win0_2.cut (grid0.coords t) (rblk2 m c t) = iblk m c 2 t :=
  win0_2.cut_fill _ _ _

/-- Input window 3's staging buffer at point `t`: the array's block on the rows inside the array, the zero word on the rows past
    its end (a filler the obligation never reads: the window is loose). -/
def rblk3 (c : Dev nD) (t : Fin cfg0.N) : Vec F S192x4096 .f32 :=
  win0_3.fill (grid0.coords t) (fun _ => Scalar.ofBits .f32 0) (iblk m c 3 t)
theorem cut_rblk3 (c : Dev nD) (t : Fin cfg0.N) : win0_3.cut (grid0.coords t) (rblk3 m c t) = iblk m c 3 t :=
  win0_3.cut_fill _ _ _

/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]; · iexact H7
  isplitl [H8]
  · unfold owns; iexists _, _; isplitr; swap; · iexact H8
    ipureintro; rfl
  unfold owns; iexists _, _; isplitr; swap; · iexact H9
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.KernelIdeal.Hand.Forget

end
-- ==== Proof.FfnMath.lean ====
/- One row of the feed-forward block over the extended reals: the quantised squared-ReLU code of one hidden column, and one
   column of the result. Both programs are proved to compute these two functions at every index. -/
module

public import Idealize.ShloMosaic.Lib.ValueIdx
public import Idealize.ShloMosaic.Lib.MatmulPlain

@[expose] public section

noncomputable section

namespace Ffn

open Idealize.ShloMosaic Idealize.ShloMosaic.ValueIdx
open scoped BigOperators

/-- The quantised squared ReLU of a scaled product: with `r = max (p · (s · w)) 0`, the value `r² / su` clamped to ±448. -/
def act (p s w su : Ideal .f32) : Ideal .f32 :=
  min (Ideal.ofBits .f32 0x43E00000#32) (max (Ideal.ofBits .f32 0xC3E00000#32)
    (Ideal.div (max (p * (s * w)) (Ideal.ofBits .f32 0x00000000#32) * max (p * (s * w)) (Ideal.ofBits .f32 0x00000000#32)) su))

/-- The code of hidden column `n` for the row of codes `f`. -/
def uval (s su : Ideal .f32) (f : Fin 4096 → Ideal .f32) (w : Fin 4096 → Fin 5376 → Ideal .f32) (ws : Fin 5376 → Ideal .f32)
    (n : Fin 5376) : Ideal .f32 :=
  act (Ideal.ofBits .f32 0x00000000#32 + ∑ k : Fin 4096, f k * w k n) s (ws n) su

/-- Column `n` of the result for the row of hidden codes `u` and the residual entry `h`. -/
def oval (su : Ideal .f32) (h : Ideal .f32) (u : Fin 5376 → Ideal .f32) (w : Fin 5376 → Fin 4096 → Ideal .f32)
    (ws : Fin 4096 → Ideal .f32) (n : Fin 4096) : Ideal .f32 :=
  h + (Ideal.ofBits .f32 0x00000000#32 + ∑ k : Fin 5376, u k * w k n) * (su * ws n)

theorem uval_congr {s s' su su' : Ideal .f32} {f f' : Fin 4096 → Ideal .f32} {w w' : Fin 4096 → Fin 5376 → Ideal .f32}
    {ws ws' : Fin 5376 → Ideal .f32} {n n' : Fin 5376} (h₁ : s = s') (h₂ : su = su') (h₃ : f = f') (h₄ : w = w') (h₅ : ws = ws')
    (h₆ : n = n') : uval s su f w ws n = uval s' su' f' w' ws' n' := by subst h₁ h₂ h₃ h₄ h₅ h₆; rfl

theorem oval_congr (su : Ideal .f32) {h h' : Ideal .f32} {u u' : Fin 5376 → Ideal .f32} (h₁ : h = h') (h₂ : u = u')
    (w : Fin 5376 → Fin 4096 → Ideal .f32) (ws : Fin 4096 → Ideal .f32) (n : Fin 4096) : oval su h u w ws n = oval su h' u' w ws n := by
  subst h₁ h₂; rfl

theorem oval_congr' {su su' h h' : Ideal .f32} {u u' : Fin 5376 → Ideal .f32} {w w' : Fin 5376 → Fin 4096 → Ideal .f32}
    {ws ws' : Fin 4096 → Ideal .f32} {n n' : Fin 4096} (h₁ : su = su') (h₂ : h = h') (h₃ : u = u') (h₄ : w = w') (h₅ : ws = ws')
    (h₆ : n = n') : oval su h u w ws n = oval su' h' u' w' ws' n' := by subst h₁ h₂ h₃ h₄ h₅ h₆; rfl

end Ffn

end
-- ==== Proof.FfnPieces.lean ====
/- What the kernel body stores, over the extended reals: every stored column chunk of the hidden codes is the matching
   slice of `Ffn.uval`, every stored chunk of the result the matching slice of `Ffn.oval`; so the two output buffers end
   holding those functions of the input blocks, row by row. -/
module

public import proofs.«01_k».proof.Proof.FfnRun
public import proofs.«01_k».proof.Proof.FfnMath
public import Idealize.ShloMosaic.Lib.Pipeline.ValueKit
public import Idealize.ShloMosaic.Lib.ValueLayout

@[expose] public section

set_option maxRecDepth 16384

noncomputable section

namespace Cert.KernelIdeal.Hand

open Cert.KernelIdeal Cert.KernelIdeal.Gen
open Idealize.ShloMosaic hiding ix0 ix1 ix2 ix3 ix4 ix5 eq_ix2
open Idealize.ShloMosaic.TcCoe Idealize.ShloMosaic.ValueIdx Idealize.ShloMosaic.Tactic
open Idealize.SL Idealize.SL.Sem
open scoped BigOperators

/-- The hidden codes of a block, at every index. -/
def UB (x0 x1 : Vec Ideal S1 .f32) (x2 : Vec Ideal S192x4096 .fp8e4m3) (x4 : Vec Ideal S4096x5376 .fp8e4m3)
    (x5 : Vec Ideal S1x5376 .f32) : Vec Ideal S192x5376 .fp8e4m3 := fun y =>
  Ffn.uval (x0 (ix1 0)) (x1 (ix1 0)) (fun k => x2 (ix2 (y 0) k)) (fun k n => x4 (ix2 k n)) (fun n => x5 (ix2 0 n)) (y 1)

/-- The result of a block, at every index. -/
def OB (x0 x1 : Vec Ideal S1 .f32) (x2 : Vec Ideal S192x4096 .fp8e4m3) (x3 : Vec Ideal S192x4096 .f32)
    (x4 : Vec Ideal S4096x5376 .fp8e4m3) (x5 : Vec Ideal S1x5376 .f32) (x6 : Vec Ideal S5376x4096 .fp8e4m3)
    (x7 : Vec Ideal S1x4096 .f32) : Vec Ideal S192x4096 .bf16 := fun y =>
  Ffn.oval (x1 (ix1 0)) (x3 (ix2 (y 0) (y 1))) (fun k => UB x0 x1 x2 x4 x5 (ix2 (y 0) k)) (fun k n => x6 (ix2 k n))
    (fun n => x7 (ix2 0 n)) (y 1)

/-- One chunk of codes at an index, from the chunk of weights it reads. -/
theorem pay3_apply (s su : Elt Ideal .f32) (f : Vec Ideal S192x4096 .fp8e4m3) (w : Vec Ideal S4096x256 .fp8e4m3)
    (ws : Vec Ideal S1x256 .f32) (r : Fin 192) (n : Fin 256) :
    k0_pay3 (F := Ideal) s su f w ws (ix2 r n)
      = Ffn.act (Ideal.ofBits .f32 0x00000000#32 + ∑ k : Fin 4096, f (ix2 r k) * w (ix2 k n)) s (ws (ix2 0 n)) su := by
  have hd : dot_S192x4096_S4096x256_S192x256_1_0_0_1_n_n = DotDims.plain 192 4096 256 := rfl
  have hm := Ideal.matmul_plain_apply (φ₁ := .fp8e4m3) (φ₂ := .fp8e4m3) (none : Option ContractPrecision) f w
    (constant (F := Ideal) S192x256 .f32 0x00000000#32) r n
  have hc : shapeCast S1x256 ws shapeCasts_S1x256_S1x256 = ws := shapeCast_self ws shapeCasts_S1x256_S1x256
  have hb : broadcastTo S192x256 (mulf (F := Ideal) (φ := .f32) (broadcast S1x256 s) ws) broadcasts_S1x256_S192x256 (ix2 r n) = s * ws (ix2 0 n) :=
    broadcastTo_1b_ab_apply _ _ r n
  unfold k0_pay3 Ffn.act
  rw [truncf_apply, minimumf_apply, maximumf_apply, divf_apply, mulf_apply, maximumf_apply, mulf_apply, hc, hb, hd]
  exact congrArg (fun z => Ffn.act z s (ws (ix2 0 n)) su) hm

/-- One chunk of the result at an index, from the chunks it reads. -/
theorem pay2_apply (su : Elt Ideal .f32) (h : Vec Ideal S192x256 .f32) (u : Vec Ideal S192x5376 .fp8e4m3)
    (w : Vec Ideal S5376x256 .fp8e4m3) (ws : Vec Ideal S1x256 .f32) (r : Fin 192) (n : Fin 256) :
    k0_pay2 (F := Ideal) su h u w ws (ix2 r n)
      = h (ix2 r n) + (Ideal.ofBits .f32 0x00000000#32 + ∑ k : Fin 5376, u (ix2 r k) * w (ix2 k n)) * (su * ws (ix2 0 n)) := by
  have hd : dot_S192x5376_S5376x256_S192x256_1_0_0_1_n_n = DotDims.plain 192 5376 256 := rfl
  have hm := Ideal.matmul_plain_apply (φ₁ := .fp8e4m3) (φ₂ := .fp8e4m3) (none : Option ContractPrecision) u w
    (constant (F := Ideal) S192x256 .f32 0x00000000#32) r n
  have hu : shapeCast S192x5376 u shapeCasts_S192x5376_S192x5376 = u := shapeCast_self u shapeCasts_S192x5376_S192x5376
  have hc : shapeCast S1x256 ws shapeCasts_S1x256_S1x256 = ws := shapeCast_self ws shapeCasts_S1x256_S1x256
  have hb : broadcastTo S192x256 (mulf (F := Ideal) (φ := .f32) (broadcast S1x256 su) ws) broadcasts_S1x256_S192x256 (ix2 r n) = su * ws (ix2 0 n) :=
    broadcastTo_1b_ab_apply _ _ r n
  unfold k0_pay2
  rw [truncf_apply, addf_apply, mulf_apply, hc, hu, hb, hd]
  exact congrArg (fun z => h (ix2 r n) + z * (su * ws (ix2 0 n))) hm

/-- A unit-stride rectangle at row 0, column `b`, places `(r, n)` at `(r, b + n)`. -/
theorem emb_col {R N R' n' : ℕ} (b : ℕ) (h : ∀ a, (![0, b] : Fin 2 → ℕ) a + (⟨2, ![R', n']⟩ : Shape).size a ≤ (⟨2, ![R, N]⟩ : Shape).size a)
    (r : Fin R') (n : Fin n') (r' : Fin R) (q : Fin N) (hr : (r' : ℕ) = r) (hq : (q : ℕ) = b + n) :
    (Rect.unit (s := ⟨2, ![R, N]⟩) ![0, b] ![R', n'] h).emb (ix2 r n) = ix2 r' q := by
  funext a
  refine Fin.ext ?_
  match a with
  | ⟨0, _⟩ => rw [Rect.emb_apply]; show 0 + 1 * (r : ℕ) = r'; omega
  | ⟨1, _⟩ => rw [Rect.emb_apply]; show b + 1 * (n : ℕ) = q; omega

/-- A load through such a rectangle at `(r, n)`. -/
theorem ld_col {R N R' n' : ℕ} {e : EltTy} (X : (⟨2, ![R, N]⟩ : Shape).Idx → Elt Ideal e) (b : ℕ)
    (h : ∀ a, (![0, b] : Fin 2 → ℕ) a + (⟨2, ![R', n']⟩ : Shape).size a ≤ (⟨2, ![R, N]⟩ : Shape).size a)
    (r : Fin R') (n : Fin n') (r' : Fin R) (q : Fin N) (hr : (r' : ℕ) = r) (hq : (q : ℕ) = b + n) :
    View.ld (Val := Elt Ideal) (e' := e) X (Rect.unit (s := ⟨2, ![R, N]⟩) ![0, b] ![R', n'] h) (ix2 r n) = X (ix2 r' q) :=
  congrArg X (emb_col b h r n r' q hr hq)

/-- A chunk of codes cut out of the whole blocks at column `b` is the slice of `UB` there. -/
theorem chunkU (x0 x1 : Vec Ideal S1 .f32) (x2 : Vec Ideal S192x4096 .fp8e4m3) (x4 : Vec Ideal S4096x5376 .fp8e4m3)
    (x5 : Vec Ideal S1x5376 .f32) (b : ℕ) (h2 : ∀ a, (![0, 0] : Fin 2 → ℕ) a + S192x4096.size a ≤ S192x4096.size a)
    (h4 : ∀ a, (![0, b] : Fin 2 → ℕ) a + S4096x256.size a ≤ S4096x5376.size a)
    (h5 : ∀ a, (![0, b] : Fin 2 → ℕ) a + S1x256.size a ≤ S1x5376.size a)
    (h8 : ∀ a, (![0, b] : Fin 2 → ℕ) a + S192x256.size a ≤ S192x5376.size a) (x : S192x256.Idx) (s su : Elt Ideal .f32)
    (hs : s = x0 (ix1 0)) (hsu : su = x1 (ix1 0)) :
    k0_pay3 (F := Ideal) s su (View.ld x2 (Rect.unit (s := S192x4096) ![0, 0] S192x4096.size h2))
        (View.ld x4 (Rect.unit (s := S4096x5376) ![0, b] S4096x256.size h4)) (View.ld x5 (Rect.unit (s := S1x5376) ![0, b] S1x256.size h5)) x
      = UB x0 x1 x2 x4 x5 ((Rect.unit (s := S192x5376) ![0, b] S192x256.size h8).emb x) := by
  subst hs hsu
  obtain ⟨r, n, rfl⟩ : ∃ (r : Fin 192) (n : Fin 256), x = ix2 r n := ⟨x 0, x 1, eq_ix2 x⟩
  have hb : b + (n : ℕ) < 5376 := by have h : b + 256 ≤ 5376 := h8 1; have := n.isLt; omega
  rw [pay3_apply, emb_col b h8 r n r ⟨b + n, hb⟩ rfl rfl]
  show _ = Ffn.act _ _ _ _
  rw [ld_col x5 b h5 (0 : Fin 1) n (0 : Fin 1) ⟨b + n, hb⟩ rfl rfl]
  congr 2
  refine Finset.sum_congr rfl fun k _ => ?_
  rw [ld_col x2 0 h2 r k r k rfl (Nat.zero_add _).symm, ld_col x4 b h4 k n k ⟨b + n, hb⟩ rfl rfl]

/-- A chunk of the result cut out of the whole blocks at column `b` is the slice of `OB` there. -/
theorem chunkO (x0 x1 : Vec Ideal S1 .f32) (x2 : Vec Ideal S192x4096 .fp8e4m3) (x3 : Vec Ideal S192x4096 .f32)
    (x4 : Vec Ideal S4096x5376 .fp8e4m3) (x5 : Vec Ideal S1x5376 .f32) (x6 : Vec Ideal S5376x4096 .fp8e4m3)
    (x7 : Vec Ideal S1x4096 .f32) (b : ℕ)
    (h3 : ∀ a, (![0, b] : Fin 2 → ℕ) a + S192x256.size a ≤ S192x4096.size a)
    (h6 : ∀ a, (![0, b] : Fin 2 → ℕ) a + S5376x256.size a ≤ S5376x4096.size a)
    (h7 : ∀ a, (![0, b] : Fin 2 → ℕ) a + S1x256.size a ≤ S1x4096.size a) (x : S192x256.Idx) (su : Elt Ideal .f32)
    (hsu : su = x1 (ix1 0)) :
    k0_pay2 (F := Ideal) su (View.ld x3 (Rect.unit (s := S192x4096) ![0, b] S192x256.size h3)) (UB x0 x1 x2 x4 x5)
        (View.ld x6 (Rect.unit (s := S5376x4096) ![0, b] S5376x256.size h6)) (View.ld x7 (Rect.unit (s := S1x4096) ![0, b] S1x256.size h7)) x
      = OB x0 x1 x2 x3 x4 x5 x6 x7 ((Rect.unit (s := S192x4096) ![0, b] S192x256.size h3).emb x) := by
  subst hsu
  obtain ⟨r, n, rfl⟩ : ∃ (r : Fin 192) (n : Fin 256), x = ix2 r n := ⟨x 0, x 1, eq_ix2 x⟩
  have hb : b + (n : ℕ) < 4096 := by have h : b + 256 ≤ 4096 := h3 1; have := n.isLt; omega
  rw [pay2_apply, emb_col b h3 r n r ⟨b + n, hb⟩ rfl rfl]
  show _ = Ffn.oval _ _ _ _ _ _
  rw [ld_col x7 b h7 (0 : Fin 1) n (0 : Fin 1) ⟨b + n, hb⟩ rfl rfl, ld_col x3 b h3 r n r ⟨b + n, hb⟩ rfl rfl]
  unfold Ffn.oval
  congr 3
  refine Finset.sum_congr rfl fun k _ => ?_
  rw [ld_col x6 b h6 k n k ⟨b + n, hb⟩ rfl rfl]

/-! Every other chunk of codes is stored through its own expression of the same function. -/

theorem pay6_eq (s su : Elt Ideal .f32) (f : Vec Ideal S192x4096 .fp8e4m3) (w : Vec Ideal S4096x256 .fp8e4m3) (ws : Vec Ideal S1x256 .f32) :
    k0_pay6 (F := Ideal) s su f w ws = k0_pay3 s su f w ws := rfl
theorem pay9_eq (s su : Elt Ideal .f32) (f : Vec Ideal S192x4096 .fp8e4m3) (w : Vec Ideal S4096x256 .fp8e4m3) (ws : Vec Ideal S1x256 .f32) :
    k0_pay9 (F := Ideal) s su f w ws = k0_pay3 s su f w ws := rfl
theorem pay12_eq (s su : Elt Ideal .f32) (f : Vec Ideal S192x4096 .fp8e4m3) (w : Vec Ideal S4096x256 .fp8e4m3) (ws : Vec Ideal S1x256 .f32) :
    k0_pay12 (F := Ideal) s su f w ws = k0_pay3 s su f w ws := rfl
theorem pay13_eq (s su : Elt Ideal .f32) (f : Vec Ideal S192x4096 .fp8e4m3) (w : Vec Ideal S4096x256 .fp8e4m3) (ws : Vec Ideal S1x256 .f32) :
    k0_pay13 (F := Ideal) s su f w ws = k0_pay3 s su f w ws := rfl
theorem pay14_eq (s su : Elt Ideal .f32) (f : Vec Ideal S192x4096 .fp8e4m3) (w : Vec Ideal S4096x256 .fp8e4m3) (ws : Vec Ideal S1x256 .f32) :
    k0_pay14 (F := Ideal) s su f w ws = k0_pay3 s su f w ws := rfl
theorem pay15_eq (s su : Elt Ideal .f32) (f : Vec Ideal S192x4096 .fp8e4m3) (w : Vec Ideal S4096x256 .fp8e4m3) (ws : Vec Ideal S1x256 .f32) :
    k0_pay15 (F := Ideal) s su f w ws = k0_pay3 s su f w ws := rfl
theorem pay19_eq (s su : Elt Ideal .f32) (f : Vec Ideal S192x4096 .fp8e4m3) (w : Vec Ideal S4096x256 .fp8e4m3) (ws : Vec Ideal S1x256 .f32) :
    k0_pay19 (F := Ideal) s su f w ws = k0_pay3 s su f w ws := rfl
theorem pay22_eq (s su : Elt Ideal .f32) (f : Vec Ideal S192x4096 .fp8e4m3) (w : Vec Ideal S4096x256 .fp8e4m3) (ws : Vec Ideal S1x256 .f32) :
    k0_pay22 (F := Ideal) s su f w ws = k0_pay3 s su f w ws := rfl
theorem pay27_eq (s su : Elt Ideal .f32) (f : Vec Ideal S192x4096 .fp8e4m3) (w : Vec Ideal S4096x256 .fp8e4m3) (ws : Vec Ideal S1x256 .f32) :
    k0_pay27 (F := Ideal) s su f w ws = k0_pay3 s su f w ws := rfl
theorem pay29_eq (s su : Elt Ideal .f32) (f : Vec Ideal S192x4096 .fp8e4m3) (w : Vec Ideal S4096x256 .fp8e4m3) (ws : Vec Ideal S1x256 .f32) :
    k0_pay29 (F := Ideal) s su f w ws = k0_pay3 s su f w ws := rfl
theorem pay30_eq (s su : Elt Ideal .f32) (f : Vec Ideal S192x4096 .fp8e4m3) (w : Vec Ideal S4096x256 .fp8e4m3) (ws : Vec Ideal S1x256 .f32) :
    k0_pay30 (F := Ideal) s su f w ws = k0_pay3 s su f w ws := rfl
theorem pay33_eq (s su : Elt Ideal .f32) (f : Vec Ideal S192x4096 .fp8e4m3) (w : Vec Ideal S4096x256 .fp8e4m3) (ws : Vec Ideal S1x256 .f32) :
    k0_pay33 (F := Ideal) s su f w ws = k0_pay3 s su f w ws := rfl
theorem pay5_eq (s su : Elt Ideal .f32) (f : Vec Ideal S192x4096 .fp8e4m3) (w : Vec Ideal S4096x256 .fp8e4m3) (ws : Vec Ideal S1x256 .f32) :
    k0_pay5 (k0_pay4 (F := Ideal) s su f w ws) = k0_pay3 s su f w ws := rfl
theorem pay8_eq (s su : Elt Ideal .f32) (f : Vec Ideal S192x4096 .fp8e4m3) (w : Vec Ideal S4096x256 .fp8e4m3) (ws : Vec Ideal S1x256 .f32) :
    k0_pay8 su (k0_pay7 (F := Ideal) s f w ws) = k0_pay3 s su f w ws := rfl
theorem pay11_eq (s su : Elt Ideal .f32) (f : Vec Ideal S192x4096 .fp8e4m3) (w : Vec Ideal S4096x256 .fp8e4m3) (ws : Vec Ideal S1x256 .f32) :
    k0_pay11 s su (k0_pay10 (F := Ideal) f w) ws = k0_pay3 s su f w ws := rfl
theorem pay18_eq (s su : Elt Ideal .f32) (f : Vec Ideal S192x4096 .fp8e4m3) (w : Vec Ideal S4096x256 .fp8e4m3) (ws : Vec Ideal S1x256 .f32) :
    k0_pay18 (k0_pay16 (F := Ideal) s su f w ws) (FloatOps.ofBits FTy.f32 1138753536#32) k0_pay17 = k0_pay3 s su f w ws := rfl
theorem pay21_eq (s su : Elt Ideal .f32) (f : Vec Ideal S192x4096 .fp8e4m3) (w : Vec Ideal S4096x256 .fp8e4m3) (ws : Vec Ideal S1x256 .f32) :
    k0_pay21 su (k0_pay20 (F := Ideal) s f w ws) = k0_pay3 s su f w ws := rfl
theorem pay26_eq (s su : Elt Ideal .f32) (f : Vec Ideal S192x4096 .fp8e4m3) (w : Vec Ideal S4096x256 .fp8e4m3) (ws : Vec Ideal S1x256 .f32) :
    k0_pay26 su (k0_pay23 (F := Ideal) f w) (k0_pay24 ws) (k0_pay25 s) = k0_pay3 s su f w ws := rfl
theorem pay28_eq (s su : Elt Ideal .f32) (f : Vec Ideal S192x4096 .fp8e4m3) (w : Vec Ideal S4096x256 .fp8e4m3) (ws : Vec Ideal S1x256 .f32) :
    k0_pay28 (F := Ideal) s su f w (constant S192x256 .f32 0x00000000#32) ws = k0_pay3 s su f w ws := rfl
theorem pay32_eq (s su : Elt Ideal .f32) (f : Vec Ideal S192x4096 .fp8e4m3) (w : Vec Ideal S4096x256 .fp8e4m3) (ws : Vec Ideal S1x256 .f32) :
    k0_pay32 (k0_pay31 (F := Ideal) s su f w ws) = k0_pay3 s su f w ws := rfl

/-! Likewise every chunk of the result. -/

theorem pay34_eq (su : Elt Ideal .f32) (h : Vec Ideal S192x256 .f32) (u : Vec Ideal S192x5376 .fp8e4m3) (w : Vec Ideal S5376x256 .fp8e4m3) (ws : Vec Ideal S1x256 .f32) :
    k0_pay34 (F := Ideal) su h u w ws = k0_pay2 su h u w ws := rfl
theorem pay35_eq (su : Elt Ideal .f32) (h : Vec Ideal S192x256 .f32) (u : Vec Ideal S192x5376 .fp8e4m3) (w : Vec Ideal S5376x256 .fp8e4m3) (ws : Vec Ideal S1x256 .f32) :
    k0_pay35 (F := Ideal) su h u w ws = k0_pay2 su h u w ws := rfl
theorem pay36_eq (su : Elt Ideal .f32) (h : Vec Ideal S192x256 .f32) (u : Vec Ideal S192x5376 .fp8e4m3) (w : Vec Ideal S5376x256 .fp8e4m3) (ws : Vec Ideal S1x256 .f32) :
    k0_pay36 (F := Ideal) su h u w ws = k0_pay2 su h u w ws := rfl
theorem pay37_eq (su : Elt Ideal .f32) (h : Vec Ideal S192x256 .f32) (u : Vec Ideal S192x5376 .fp8e4m3) (w : Vec Ideal S5376x256 .fp8e4m3) (ws : Vec Ideal S1x256 .f32) :
    k0_pay37 (F := Ideal) su h u w ws = k0_pay2 su h u w ws := rfl
theorem pay38_eq (su : Elt Ideal .f32) (h : Vec Ideal S192x256 .f32) (u : Vec Ideal S192x5376 .fp8e4m3) (w : Vec Ideal S5376x256 .fp8e4m3) (ws : Vec Ideal S1x256 .f32) :
    k0_pay38 (F := Ideal) su h u w ws = k0_pay2 su h u w ws := rfl
theorem pay41_eq (su : Elt Ideal .f32) (h : Vec Ideal S192x256 .f32) (u : Vec Ideal S192x5376 .fp8e4m3) (w : Vec Ideal S5376x256 .fp8e4m3) (ws : Vec Ideal S1x256 .f32) :
    k0_pay41 (F := Ideal) su h u w ws = k0_pay2 su h u w ws := rfl
theorem pay44_eq (su : Elt Ideal .f32) (h : Vec Ideal S192x256 .f32) (u : Vec Ideal S192x5376 .fp8e4m3) (w : Vec Ideal S5376x256 .fp8e4m3) (ws : Vec Ideal S1x256 .f32) :
    k0_pay44 (F := Ideal) su h u w ws = k0_pay2 su h u w ws := rfl
theorem pay45_eq (su : Elt Ideal .f32) (h : Vec Ideal S192x256 .f32) (u : Vec Ideal S192x5376 .fp8e4m3) (w : Vec Ideal S5376x256 .fp8e4m3) (ws : Vec Ideal S1x256 .f32) :
    k0_pay45 (F := Ideal) su h u w ws = k0_pay2 su h u w ws := rfl
theorem pay46_eq (su : Elt Ideal .f32) (h : Vec Ideal S192x256 .f32) (u : Vec Ideal S192x5376 .fp8e4m3) (w : Vec Ideal S5376x256 .fp8e4m3) (ws : Vec Ideal S1x256 .f32) :
    k0_pay46 (F := Ideal) su h u w ws = k0_pay2 su h u w ws := rfl
theorem pay47_eq (su : Elt Ideal .f32) (h : Vec Ideal S192x256 .f32) (u : Vec Ideal S192x5376 .fp8e4m3) (w : Vec Ideal S5376x256 .fp8e4m3) (ws : Vec Ideal S1x256 .f32) :
    k0_pay47 (F := Ideal) su h u w ws = k0_pay2 su h u w ws := rfl
theorem pay50_eq (su : Elt Ideal .f32) (h : Vec Ideal S192x256 .f32) (u : Vec Ideal S192x5376 .fp8e4m3) (w : Vec Ideal S5376x256 .fp8e4m3) (ws : Vec Ideal S1x256 .f32) :
    k0_pay50 (F := Ideal) su h u w ws = k0_pay2 su h u w ws := rfl
theorem pay40_eq (su : Elt Ideal .f32) (h : Vec Ideal S192x256 .f32) (u : Vec Ideal S192x5376 .fp8e4m3) (w : Vec Ideal S5376x256 .fp8e4m3) (ws : Vec Ideal S1x256 .f32) :
    k0_pay40 su h (k0_pay39 (F := Ideal) u w) ws = k0_pay2 su h u w ws := rfl
theorem pay43_eq (su : Elt Ideal .f32) (h : Vec Ideal S192x256 .f32) (u : Vec Ideal S192x5376 .fp8e4m3) (w : Vec Ideal S5376x256 .fp8e4m3) (ws : Vec Ideal S1x256 .f32) :
    k0_pay43 h (k0_pay42 (F := Ideal) su u w ws) = k0_pay2 su h u w ws := rfl
theorem pay49_eq (su : Elt Ideal .f32) (h : Vec Ideal S192x256 .f32) (u : Vec Ideal S192x5376 .fp8e4m3) (w : Vec Ideal S5376x256 .fp8e4m3) (ws : Vec Ideal S1x256 .f32) :
    k0_pay49 su h (k0_pay48 (F := Ideal) u) w ws = k0_pay2 su h u w ws := rfl
theorem pay1_eq (su : Elt Ideal .f32) (h : Vec Ideal S192x256 .f32) (u : Vec Ideal S192x5376 .fp8e4m3) (w : Vec Ideal S5376x256 .fp8e4m3) (ws : Vec Ideal S1x256 .f32) :
    k0_pay1 h (k0_pay51 (F := Ideal) u w) (k0_pay52 su ws) = k0_pay2 su h u w ws := rfl

/-- The one entry of a scalar block. -/
theorem ld_one (x : Vec Ideal S1 .f32) (h : ∀ a, (![0] : Fin 1 → ℕ) a + (![1] : Fin 1 → ℕ) a ≤ S1.size a) (j : (⟨1, ![1]⟩ : Shape).Idx) :
    View.ld (Val := Elt Ideal) (e' := .f32) x (Rect.unit (s := S1) ![0] ![1] h) j = x (ix1 0) :=
  congrArg x (funext fun a => match a with | ⟨0, _⟩ => Subsingleton.elim (α := Fin 1) _ _)

variable (c : Dev nD) (i : grid0.Coords) (arg1 : Memref sig .tc .smem S1 .f32) (harg1 : arg1.IsWhole) (arg2 : Memref sig .tc .smem S1 .f32) (harg2 : arg2.IsWhole) (arg3 : Memref sig .tc .vmem S192x4096 .fp8e4m3) (harg3 : arg3.IsWhole) (arg4 : Memref sig .tc .vmem S192x4096 .f32) (harg4 : arg4.IsWhole) (arg5 : Memref sig .tc .vmem S4096x5376 .fp8e4m3) (harg5 : arg5.IsWhole) (arg6 : Memref sig .tc .vmem S1x5376 .f32) (harg6 : arg6.IsWhole) (arg7 : Memref sig .tc .vmem S5376x4096 .fp8e4m3) (harg7 : arg7.IsWhole) (arg8 : Memref sig .tc .vmem S1x4096 .f32) (harg8 : arg8.IsWhole) (arg9 : Memref sig .tc .vmem S192x5376 .fp8e4m3) (harg9 : arg9.IsWhole) (arg10 : Memref sig .tc .vmem S192x4096 .bf16) (harg10 : arg10.IsWhole)
  (x0 : Vec Ideal S1 .f32) (x1 : Vec Ideal S1 .f32) (x2 : Vec Ideal S192x4096 .fp8e4m3) (x3 : Vec Ideal S192x4096 .f32) (x4 : Vec Ideal S4096x5376 .fp8e4m3) (x5 : Vec Ideal S1x5376 .f32) (x6 : Vec Ideal S5376x4096 .fp8e4m3) (x7 : Vec Ideal S1x4096 .f32)

/-- Every stored chunk of codes is the slice of `UB` under it. -/
theorem piecesU : ∀ p ∈ kernelRun0_A.sl.H8_21 (F := Ideal) c arg1 harg1 arg2 harg2 arg3 harg3 arg5 harg5 arg6 harg6 x0 x1 x2 x4 x5, ∀ x : p.1.shape.Idx, p.2 x = UB x0 x1 x2 x4 x5 (p.1.emb x) := by
  sl_unfold_run_names
  simp only [View.readAt_eq_ld, Memref.IsWhole.read_unread]
  simp only [pay6_eq, pay9_eq, pay12_eq, pay13_eq, pay14_eq, pay15_eq, pay19_eq, pay22_eq, pay27_eq, pay29_eq, pay30_eq, pay33_eq, pay5_eq, pay8_eq, pay11_eq, pay18_eq, pay21_eq, pay26_eq, pay28_eq, pay32_eq]
  refine List.forall_mem_cons.mpr ⟨?_, ?_⟩
  · exact fun x => chunkU x0 x1 x2 x4 x5 5120 _ _ _ inb_S192x5376_S192x256_0_5120 x _ _ (ld_one x0 _ _) (ld_one x1 _ _)
  refine List.forall_mem_cons.mpr ⟨?_, ?_⟩
  · exact fun x => chunkU x0 x1 x2 x4 x5 4864 _ _ _ inb_S192x5376_S192x256_0_4864 x _ _ (ld_one x0 _ _) (ld_one x1 _ _)
  refine List.forall_mem_cons.mpr ⟨?_, ?_⟩
  · exact fun x => chunkU x0 x1 x2 x4 x5 4608 _ _ _ inb_S192x5376_S192x256_0_4608 x _ _ (ld_one x0 _ _) (ld_one x1 _ _)
  refine List.forall_mem_cons.mpr ⟨?_, ?_⟩
  · exact fun x => chunkU x0 x1 x2 x4 x5 4352 _ _ _ inb_S192x5376_S192x256_0_4352 x _ _ (ld_one x0 _ _) (ld_one x1 _ _)
  refine List.forall_mem_cons.mpr ⟨?_, ?_⟩
  · exact fun x => chunkU x0 x1 x2 x4 x5 4096 _ _ _ inb_S192x5376_S192x256_0_4096 x _ _ (ld_one x0 _ _) (ld_one x1 _ _)
  refine List.forall_mem_cons.mpr ⟨?_, ?_⟩
  · exact fun x => chunkU x0 x1 x2 x4 x5 3840 _ _ _ inb_S192x5376_S192x256_0_3840 x _ _ (ld_one x0 _ _) (ld_one x1 _ _)
  refine List.forall_mem_cons.mpr ⟨?_, ?_⟩
  · exact fun x => chunkU x0 x1 x2 x4 x5 3584 _ _ _ inb_S192x5376_S192x256_0_3584 x _ _ (ld_one x0 _ _) (ld_one x1 _ _)
  refine List.forall_mem_cons.mpr ⟨?_, ?_⟩
  · exact fun x => chunkU x0 x1 x2 x4 x5 3328 _ _ _ inb_S192x5376_S192x256_0_3328 x _ _ (ld_one x0 _ _) (ld_one x1 _ _)
  refine List.forall_mem_cons.mpr ⟨?_, ?_⟩
  · exact fun x => chunkU x0 x1 x2 x4 x5 3072 _ _ _ inb_S192x5376_S192x256_0_3072 x _ _ (ld_one x0 _ _) (ld_one x1 _ _)
  refine List.forall_mem_cons.mpr ⟨?_, ?_⟩
  · exact fun x => chunkU x0 x1 x2 x4 x5 2816 _ _ _ inb_S192x5376_S192x256_0_2816 x _ _ (ld_one x0 _ _) (ld_one x1 _ _)
  refine List.forall_mem_cons.mpr ⟨?_, ?_⟩
  · exact fun x => chunkU x0 x1 x2 x4 x5 2560 _ _ _ inb_S192x5376_S192x256_0_2560 x _ _ (ld_one x0 _ _) (ld_one x1 _ _)
  refine List.forall_mem_cons.mpr ⟨?_, ?_⟩
  · exact fun x => chunkU x0 x1 x2 x4 x5 2304 _ _ _ inb_S192x5376_S192x256_0_2304 x _ _ (ld_one x0 _ _) (ld_one x1 _ _)
  refine List.forall_mem_cons.mpr ⟨?_, ?_⟩
  · exact fun x => chunkU x0 x1 x2 x4 x5 2048 _ _ _ inb_S192x5376_S192x256_0_2048 x _ _ (ld_one x0 _ _) (ld_one x1 _ _)
  refine List.forall_mem_cons.mpr ⟨?_, ?_⟩
  · exact fun x => chunkU x0 x1 x2 x4 x5 1792 _ _ _ inb_S192x5376_S192x256_0_1792 x _ _ (ld_one x0 _ _) (ld_one x1 _ _)
  refine List.forall_mem_cons.mpr ⟨?_, ?_⟩
  · exact fun x => chunkU x0 x1 x2 x4 x5 1536 _ _ _ inb_S192x5376_S192x256_0_1536 x _ _ (ld_one x0 _ _) (ld_one x1 _ _)
  refine List.forall_mem_cons.mpr ⟨?_, ?_⟩
  · exact fun x => chunkU x0 x1 x2 x4 x5 1280 _ _ _ inb_S192x5376_S192x256_0_1280 x _ _ (ld_one x0 _ _) (ld_one x1 _ _)
  refine List.forall_mem_cons.mpr ⟨?_, ?_⟩
  · exact fun x => chunkU x0 x1 x2 x4 x5 1024 _ _ _ inb_S192x5376_S192x256_0_1024 x _ _ (ld_one x0 _ _) (ld_one x1 _ _)
  refine List.forall_mem_cons.mpr ⟨?_, ?_⟩
  · exact fun x => chunkU x0 x1 x2 x4 x5 768 _ _ _ inb_S192x5376_S192x256_0_768 x _ _ (ld_one x0 _ _) (ld_one x1 _ _)
  refine List.forall_mem_cons.mpr ⟨?_, ?_⟩
  · exact fun x => chunkU x0 x1 x2 x4 x5 512 _ _ _ inb_S192x5376_S192x256_0_512 x _ _ (ld_one x0 _ _) (ld_one x1 _ _)
  refine List.forall_mem_cons.mpr ⟨?_, ?_⟩
  · exact fun x => chunkU x0 x1 x2 x4 x5 256 _ _ _ inb_S192x5376_S192x256_0_256 x _ _ (ld_one x0 _ _) (ld_one x1 _ _)
  refine List.forall_mem_cons.mpr ⟨?_, ?_⟩
  · exact fun x => chunkU x0 x1 x2 x4 x5 0 _ _ _ inb_S192x5376_S192x256_0_0 x _ _ (ld_one x0 _ _) (ld_one x1 _ _)
  exact List.forall_mem_nil _

/-- The chunks of codes cover the buffer. -/
theorem coverU (y : S192x5376.Idx) : ∃ p ∈ kernelRun0_A.sl.H8_21 (F := Ideal) c arg1 harg1 arg2 harg2 arg3 harg3 arg5 harg5 arg6 harg6 x0 x1 x2 x4 x5, y ∈ p.1.set :=
  View.cover_of_tiledL (kernelRun0_A.sl.H8_21 (F := Ideal) c arg1 harg1 arg2 harg2 arg3 harg3 arg5 harg5 arg6 harg6 x0 x1 x2 x4 x5) S192x256.size (by sl_kernel_rfl) y

/-- The read-back of the whole buffer of codes, after its stores. -/
theorem v423_eq : kernelRun0_A.sl.v423 (F := Ideal) c arg1 harg1 arg2 harg2 arg3 harg3 arg5 harg5 arg6 harg6 arg9 x0 x1 x2 x4 x5 = UB x0 x1 x2 x4 x5 := by
  funext y
  unfold kernelRun0_A.sl.v423
  have hp := View.read_writes_apply_of_pieces arg9.view arg9.view.junk (UB x0 x1 x2 x4 x5) _ (piecesU c arg1 harg1 arg2 harg2 arg3 harg3 arg5 harg5 arg6 harg6 x0 x1 x2 x4 x5) y (coverU c arg1 harg1 arg2 harg2 arg3 harg3 arg5 harg5 arg6 harg6 x0 x1 x2 x4 x5 y)
  rw [View.readCov, View.readAt_eq_ld]
  refine Eq.trans ?_ hp
  exact View.ld_unit_apply_of _ _ _ _ y y fun a => by
    match a with
    | ⟨0, _⟩ => exact (Nat.zero_add _).symm
    | ⟨1, _⟩ => exact (Nat.zero_add _).symm

/-- The read-back of the whole buffer of codes, after its stores, as the last chunk reads it. -/
theorem v633_eq : kernelRun0_A.sl.v633 (F := Ideal) c arg1 harg1 arg2 harg2 arg3 harg3 arg5 harg5 arg6 harg6 arg9 x0 x1 x2 x4 x5 = UB x0 x1 x2 x4 x5 := by
  funext y
  unfold kernelRun0_A.sl.v633
  have hp := View.read_writes_apply_of_pieces arg9.view arg9.view.junk (UB x0 x1 x2 x4 x5) _ (piecesU c arg1 harg1 arg2 harg2 arg3 harg3 arg5 harg5 arg6 harg6 x0 x1 x2 x4 x5) y (coverU c arg1 harg1 arg2 harg2 arg3 harg3 arg5 harg5 arg6 harg6 x0 x1 x2 x4 x5 y)
  rw [View.readCov, View.readAt_eq_ld]
  refine Eq.trans ?_ hp
  exact View.ld_unit_apply_of _ _ _ _ y y fun a => by
    match a with
    | ⟨0, _⟩ => exact (Nat.zero_add _).symm
    | ⟨1, _⟩ => exact (Nat.zero_add _).symm

/-- The codes' buffer after the run, whatever it held. -/
theorem outU (v : View sig .tc .vmem S192x5376 .fp8e4m3) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 x0 x1 x2 x3 x4 x5 x6 x7).1) = UB x0 x1 x2 x4 x5 := by
  funext y
  unfold kernelRun0_A
  exact View.read_writes_apply_of_pieces _ _ (UB x0 x1 x2 x4 x5) _ (piecesU c arg1 harg1 arg2 harg2 arg3 harg3 arg5 harg5 arg6 harg6 x0 x1 x2 x4 x5) y (coverU c arg1 harg1 arg2 harg2 arg3 harg3 arg5 harg5 arg6 harg6 x0 x1 x2 x4 x5 y)

/-- Every stored chunk of the result is the slice of `OB` under it. -/
theorem piecesO : ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5 x6 x7).2.1, ∀ x : p.1.shape.Idx, p.2 x = OB x0 x1 x2 x3 x4 x5 x6 x7 (p.1.emb x) := by
  unfold kernelRun0_A
  dsimp only
  dsimp only [kernelRun0_A.sl.r_1, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25]
  simp only [v423_eq, v633_eq]
  simp only [View.readAt_eq_ld, Memref.IsWhole.read_unread]
  simp only [pay34_eq, pay35_eq, pay36_eq, pay37_eq, pay38_eq, pay41_eq, pay44_eq, pay45_eq, pay46_eq, pay47_eq, pay50_eq, pay40_eq, pay43_eq, pay49_eq, pay1_eq]
  refine List.forall_mem_cons.mpr ⟨?_, ?_⟩
  · exact fun x => chunkO x0 x1 x2 x3 x4 x5 x6 x7 3840 inb_S192x4096_S192x256_0_3840 _ _ x _ (ld_one x1 _ _)
  refine List.forall_mem_cons.mpr ⟨?_, ?_⟩
  · exact fun x => chunkO x0 x1 x2 x3 x4 x5 x6 x7 3584 inb_S192x4096_S192x256_0_3584 _ _ x _ (ld_one x1 _ _)
  refine List.forall_mem_cons.mpr ⟨?_, ?_⟩
  · exact fun x => chunkO x0 x1 x2 x3 x4 x5 x6 x7 3328 inb_S192x4096_S192x256_0_3328 _ _ x _ (ld_one x1 _ _)
  refine List.forall_mem_cons.mpr ⟨?_, ?_⟩
  · exact fun x => chunkO x0 x1 x2 x3 x4 x5 x6 x7 3072 inb_S192x4096_S192x256_0_3072 _ _ x _ (ld_one x1 _ _)
  refine List.forall_mem_cons.mpr ⟨?_, ?_⟩
  · exact fun x => chunkO x0 x1 x2 x3 x4 x5 x6 x7 2816 inb_S192x4096_S192x256_0_2816 _ _ x _ (ld_one x1 _ _)
  refine List.forall_mem_cons.mpr ⟨?_, ?_⟩
  · exact fun x => chunkO x0 x1 x2 x3 x4 x5 x6 x7 2560 inb_S192x4096_S192x256_0_2560 _ _ x _ (ld_one x1 _ _)
  refine List.forall_mem_cons.mpr ⟨?_, ?_⟩
  · exact fun x => chunkO x0 x1 x2 x3 x4 x5 x6 x7 2304 inb_S192x4096_S192x256_0_2304 _ _ x _ (ld_one x1 _ _)
  refine List.forall_mem_cons.mpr ⟨?_, ?_⟩
  · exact fun x => chunkO x0 x1 x2 x3 x4 x5 x6 x7 2048 inb_S192x4096_S192x256_0_2048 _ _ x _ (ld_one x1 _ _)
  refine List.forall_mem_cons.mpr ⟨?_, ?_⟩
  · exact fun x => chunkO x0 x1 x2 x3 x4 x5 x6 x7 1792 inb_S192x4096_S192x256_0_1792 _ _ x _ (ld_one x1 _ _)
  refine List.forall_mem_cons.mpr ⟨?_, ?_⟩
  · exact fun x => chunkO x0 x1 x2 x3 x4 x5 x6 x7 1536 inb_S192x4096_S192x256_0_1536 _ _ x _ (ld_one x1 _ _)
  refine List.forall_mem_cons.mpr ⟨?_, ?_⟩
  · exact fun x => chunkO x0 x1 x2 x3 x4 x5 x6 x7 1280 inb_S192x4096_S192x256_0_1280 _ _ x _ (ld_one x1 _ _)
  refine List.forall_mem_cons.mpr ⟨?_, ?_⟩
  · exact fun x => chunkO x0 x1 x2 x3 x4 x5 x6 x7 1024 inb_S192x4096_S192x256_0_1024 _ _ x _ (ld_one x1 _ _)
  refine List.forall_mem_cons.mpr ⟨?_, ?_⟩
  · exact fun x => chunkO x0 x1 x2 x3 x4 x5 x6 x7 768 inb_S192x4096_S192x256_0_768 _ _ x _ (ld_one x1 _ _)
  refine List.forall_mem_cons.mpr ⟨?_, ?_⟩
  · exact fun x => chunkO x0 x1 x2 x3 x4 x5 x6 x7 512 inb_S192x4096_S192x256_0_512 _ _ x _ (ld_one x1 _ _)
  refine List.forall_mem_cons.mpr ⟨?_, ?_⟩
  · exact fun x => chunkO x0 x1 x2 x3 x4 x5 x6 x7 256 inb_S192x4096_S192x256_0_256 _ _ x _ (ld_one x1 _ _)
  refine List.forall_mem_cons.mpr ⟨?_, ?_⟩
  · exact fun x => chunkO x0 x1 x2 x3 x4 x5 x6 x7 0 inb_S192x4096_S192x256_0_0 _ _ x _ (ld_one x1 _ _)
  exact List.forall_mem_nil _

/-- The result's buffer after the run, whatever it held. -/
theorem outO (v : View sig .tc .vmem S192x4096 .bf16) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 x0 x1 x2 x3 x4 x5 x6 x7).2.1) = OB x0 x1 x2 x3 x4 x5 x6 x7 := by
  funext y
  exact View.read_writes_apply_of_pieces _ _ (OB x0 x1 x2 x3 x4 x5 x6 x7) _ (piecesO c i arg1 harg1 arg2 harg2 arg3 harg3 arg4 harg4 arg5 harg5 arg6 harg6 arg7 harg7 arg8 harg8 arg9 harg9 arg10 harg10 x0 x1 x2 x3 x4 x5 x6 x7) y
    (View.cover_of_tiledL (kernelRun0_A (F := Ideal) c i arg1 harg1 arg2 harg2 arg3 harg3 arg4 harg4 arg5 harg5 arg6 harg6 arg7 harg7 arg8 harg8 arg9 harg9 arg10 harg10 x0 x1 x2 x3 x4 x5 x6 x7).2.1 S192x256.size (by sl_kernel_rfl) y)

end Cert.KernelIdeal.Hand

end
-- ==== Proof.FfnExact.lean ====
/- THE RUN of the idealized program with its two outputs NAMED: at every grid point the body leaves in the codes' and the
   result's buffers `UB` and `OB` of the blocks it was given, on the rows inside the arrays. -/
module

public import proofs.«01_k».proof.Proof.FfnFrame
public import proofs.«01_k».proof.Proof.FfnPieces

@[expose] public section

set_option maxRecDepth 16384

noncomputable section

namespace Cert.KernelIdeal.Hand.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Hand
open Cert.KernelIdeal.Hand.Forget (rblk2 rblk3 cut_rblk2 cut_rblk3)

local notation "𝕄" => MT nD τ sig Unit (Elt Ideal) ℕ (UR sig nD τ) ℕ

variable (m : (ℓ : Loc nD τ sig) → Buf (Elt Ideal) ℓ) (ρ : Dev nD → PrngReg)

/-! ## The rows inside the array -/

theorem xsize2 (t : Fin cfg0.N) : win0_2.xsize (grid0.coords t) 0 = win0_8.xsize (grid0.coords t) 0 := rfl
theorem xsize3 (t : Fin cfg0.N) : win0_3.xsize (grid0.coords t) 0 = win0_8.xsize (grid0.coords t) 0 := rfl
theorem xsize9 (t : Fin cfg0.N) : win0_9.xsize (grid0.coords t) 0 = win0_8.xsize (grid0.coords t) 0 := rfl
theorem xsize2' (t : Fin cfg0.N) : win0_2.xsize (grid0.coords t) 1 = 4096 := rfl
theorem xsize3' (t : Fin cfg0.N) : win0_3.xsize (grid0.coords t) 1 = 4096 := rfl

/-- A row of a row-blocked input that lies inside the array is the fetched one, whatever filled the rest. -/
theorem fill2_row (t : Fin cfg0.N) (d d' : Vec Ideal S192x4096 .fp8e4m3) (g) (r : Fin 192)
    (hr : (r : Nat) < win0_8.xsize (grid0.coords t) 0) (k : Fin 4096) :
    win0_2.fill (grid0.coords t) d g (ix2 r k) = win0_2.fill (grid0.coords t) d' g (ix2 r k) := by
  have hm : win0_2.moved (grid0.coords t) (ix2 r k) = true := (win0_2.moved_iff _ _).mpr fun a => match a with
    | ⟨0, _⟩ => hr
    | ⟨1, _⟩ => k.isLt.trans_eq (xsize2' t).symm
  unfold Window.fill; rw [dif_pos hm, dif_pos hm]
theorem fill3_row (t : Fin cfg0.N) (d d' : Vec Ideal S192x4096 .f32) (g) (r : Fin 192)
    (hr : (r : Nat) < win0_8.xsize (grid0.coords t) 0) (k : Fin 4096) :
    win0_3.fill (grid0.coords t) d g (ix2 r k) = win0_3.fill (grid0.coords t) d' g (ix2 r k) := by
  have hm : win0_3.moved (grid0.coords t) (ix2 r k) = true := (win0_3.moved_iff _ _).mpr fun a => match a with
    | ⟨0, _⟩ => hr
    | ⟨1, _⟩ => k.isLt.trans_eq (xsize3' t).symm
  unfold Window.fill; rw [dif_pos hm, dif_pos hm]

/-- A row of the codes depends on that row of the input only, -/
theorem UB_row (x0 x1 : Vec Ideal S1 .f32) (x2 x2' : Vec Ideal S192x4096 .fp8e4m3) (x4 : Vec Ideal S4096x5376 .fp8e4m3) (x5 : Vec Ideal S1x5376 .f32)
    (y : S192x5376.Idx) (h : ∀ k, x2 (ix2 (y 0) k) = x2' (ix2 (y 0) k)) : UB x0 x1 x2 x4 x5 y = UB x0 x1 x2' x4 x5 y := by
  exact congrArg (fun z : Fin 4096 → Ideal .f32 => Ffn.uval (x0 (ix1 0)) (x1 (ix1 0)) z (fun k n => x4 (ix2 k n)) (fun n => x5 (ix2 0 n)) (y 1)) (funext h)

/-- and so does a row of the result. -/
theorem OB_row (x0 x1 : Vec Ideal S1 .f32) (x2 x2' : Vec Ideal S192x4096 .fp8e4m3) (x3 x3' : Vec Ideal S192x4096 .f32)
    (x4 : Vec Ideal S4096x5376 .fp8e4m3) (x5 : Vec Ideal S1x5376 .f32) (x6 : Vec Ideal S5376x4096 .fp8e4m3) (x7 : Vec Ideal S1x4096 .f32)
    (y : S192x4096.Idx) (h : ∀ k, x2 (ix2 (y 0) k) = x2' (ix2 (y 0) k)) (h3 : ∀ k, x3 (ix2 (y 0) k) = x3' (ix2 (y 0) k)) :
    OB x0 x1 x2 x3 x4 x5 x6 x7 y = OB x0 x1 x2' x3' x4 x5 x6 x7 y := by
  exact Ffn.oval_congr _ (h3 (y 1)) (funext fun k : Fin 5376 => UB_row x0 x1 x2 x2' x4 x5 (ix2 (y 0) k : S192x5376.Idx) h) _ _ _

/-! ## The pipeline's proof data -/

/-- The proof data of the one pipeline on core `c`: the arrays as the region finds them (`V`); after the body at
    point `t` each input's buffer at its block and the outputs at what the body computes from the blocks; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, _⟩ => iblk m c 7 t
    | ⟨8, _⟩ => UB (iblk m c 0 t) (iblk m c 1 t) (rblk2 m c t) (iblk m c 4 t) (iblk m c 5 t)
    | ⟨9, _⟩ => OB (iblk m c 0 t) (iblk m c 1 t) (rblk2 m c t) (rblk3 m c t) (iblk m c 4 t) (iblk m c 5 t) (iblk m c 6 t) (iblk m c 7 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem after0_8 (c : Dev nD) (t : Fin cfg0.N) : (dats m 0 c).after 8 t = UB (iblk m c 0 t) (iblk m c 1 t) (rblk2 m c t) (iblk m c 4 t) (iblk m c 5 t) := by dsimp only [dats]
theorem after0_9 (c : Dev nD) (t : Fin cfg0.N) : (dats m 0 c).after 9 t = OB (iblk m c 0 t) (iblk m c 1 t) (rblk2 m c t) (rblk3 m c t) (iblk m c 4 t) (iblk m c 5 t) (iblk m c 6 t) (iblk m c 7 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-- Only rows inside the array are flushed, and on those the body's codes do not depend on what lies past the array's end, -/
theorem fill_after8 (c : Dev nD) (t : Fin cfg0.N) (d2) :
    win0_8.fill (grid0.coords t) (UB (iblk m c 0 t) (iblk m c 1 t) (win0_2.fill (grid0.coords t) d2 (iblk m c 2 t)) (iblk m c 4 t) (iblk m c 5 t))
      (win0_8.cut (grid0.coords t) ((dats m 0 c).after 8 t))
    = UB (iblk m c 0 t) (iblk m c 1 t) (win0_2.fill (grid0.coords t) d2 (iblk m c 2 t)) (iblk m c 4 t) (iblk m c 5 t) := by
  apply win0_8.fill_congr_cut
  rw [after0_8]
  funext j
  exact UB_row _ _ _ _ _ _ _ fun k => fill2_row t _ _ _ _ (j 0).isLt k

/-- nor does the result. -/
theorem fill_after9 (c : Dev nD) (t : Fin cfg0.N) (d2 d3) :
    win0_9.fill (grid0.coords t) (OB (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t))
      (win0_9.cut (grid0.coords t) ((dats m 0 c).after 9 t))
    = OB (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) := by
  apply win0_9.fill_congr_cut
  rw [after0_9]
  funext j
  exact OB_row _ _ _ _ _ _ _ _ _ _ _ (fun k => fill2_row t _ _ _ _ ((j 0).isLt.trans_eq (xsize9 t)) k) fun k => fill3_row t _ _ _ _ ((j 0).isLt.trans_eq (xsize9 t)) k

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare (win0_8.fill (grid0.coords t) d (win0_8.cut (grid0.coords t) ((dats m 0 c).after 8 t))))
    ∗ (∃ d, owns (c : Thread nD τ) (ms0_9 t) fullShare (win0_9.fill (grid0.coords t) d (win0_9.cut (grid0.coords t) ((dats m 0 c).after 9 t)))))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]; · iexact H7
  isplitl [H8]
  · iexists (UB (iblk m c 0 t) (iblk m c 1 t) (win0_2.fill (grid0.coords t) d2 (iblk m c 2 t)) (iblk m c 4 t) (iblk m c 5 t))
    rw [fill_after8]
    unfold owns; iexists _; isplitr; swap; · iexact H8
    ipureintro; exact outU c (grid0.coords t) _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) _ e8
  iexists (OB (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t))
  rw [fill_after9]
  unfold owns; iexists _; isplitr; swap; · iexact H9
  ipureintro; exact outO c (grid0.coords t) _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) _ e9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: every final state has the arrays at what the library computes from the proof data, every other unscoped
    buffer as the region found it, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Hand.Exact

end
-- ==== Proof.FfnValue.lean ====
/- The two result arrays of the idealized program after its run, each one function of the arguments, index by index. -/
module

public import proofs.«01_k».proof.Proof.FfnExact
public import Idealize.ShloMosaic.Lib.Pipeline.ValueKit
public import Idealize.ShloMosaic.Lib.ValueLayout

@[expose] public section

set_option maxRecDepth 16384

noncomputable section

namespace Cert.KernelIdeal.Hand.Exact

open Cert.KernelIdeal Cert.KernelIdeal.Gen
open Idealize.ShloMosaic hiding ix0 ix1 ix2 ix3 ix4 ix5 eq_ix2
open Idealize.ShloMosaic.TcCoe Idealize.SL.Sem
open Idealize.ShloMosaic.Pipeline (Dat Cfg Window)
open Idealize.ShloMosaic.ValueIdx (ix1 ix2)
open Cert.KernelIdeal.Hand
open Cert.KernelIdeal.Hand.Forget (rblk2 rblk3)

/-- The codes, from the whole arguments; -/
def GU (a0 a1 : Vec Ideal S1 .f32) (a2 : Vec Ideal S8232x4096 .fp8e4m3) (a4 : Vec Ideal S4096x5376 .fp8e4m3) (a5 : Vec Ideal S5376 .f32) :
    Vec Ideal S8232x5376 .fp8e4m3 := fun i =>
  Ffn.uval (a0 (ix1 0)) (a1 (ix1 0)) (fun k => a2 (ix2 (i 0) k)) (fun k n => a4 (ix2 k n)) (fun n => a5 (ix1 n)) (i 1)

/-- and the result. -/
def GO (a0 a1 : Vec Ideal S1 .f32) (a2 : Vec Ideal S8232x4096 .fp8e4m3) (a3 : Vec Ideal S8232x4096 .f32) (a4 : Vec Ideal S4096x5376 .fp8e4m3)
    (a5 : Vec Ideal S5376 .f32) (a6 : Vec Ideal S5376x4096 .fp8e4m3) (a7 : Vec Ideal S4096 .f32) : Vec Ideal S8232x4096 .bf16 := fun i =>
  Ffn.oval (a1 (ix1 0)) (a3 (ix2 (i 0) (i 1))) (fun k => GU a0 a1 a2 a4 a5 (ix2 (i 0) k)) (fun k n => a6 (ix2 k n)) (fun n => a7 (ix1 n)) (i 1)

variable (m : (ℓ : Loc nD τ sig) → Buf (Elt Ideal) ℓ) (ρ : Dev nD → PrngReg)

/-! ## The region's entry: two reshapes of arguments -/

theorem V_main_v0 (c : Dev nD) :
    V m c main_v0 = shapeCast S1x5376 (m ((c : Thread nD τ).loc main_arg5) : Vec Ideal S5376 .f32) shapeCasts_S5376_S1x5376 := by
  show StableHlo.after hostOps0 _ (Proc.devRef .tc main_v0) = _
  after_results
  rfl

theorem V_main_v1 (c : Dev nD) :
    V m c main_v1 = shapeCast S1x4096 (m ((c : Thread nD τ).loc main_arg7) : Vec Ideal S4096 .f32) shapeCasts_S4096_S1x4096 := by
  show StableHlo.after hostOps0 _ (Proc.devRef .tc main_v1) = _
  after_results
  rfl

/-! ## Where each block lies -/

theorem idx0 : ∀ t : Fin cfg0.N, win0_0.index t = ![0] := by decide +kernel
theorem idx1 : ∀ t : Fin cfg0.N, win0_1.index t = ![0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel

theorem covers8 : (cfg0.win 8).Covers := by decide +kernel
theorem covers9 : (cfg0.win 9).Covers := by decide +kernel

/-! ## Each block, at coordinates -/

theorem blk0 (c : Dev nD) (t : Fin cfg0.N) : iblk m c 0 t (ix1 0) = m ((c : Thread nD τ).loc main_arg0) (ix1 0 : S1.Idx) := by
  refine Eq.trans ?_ (congrFun (V_main_arg0 m c) (ix1 0 : S1.Idx))
  blk_simp [iblk, idx0]
  refine congrArg _ ?_
  blk_ext [idx0]

theorem blk1 (c : Dev nD) (t : Fin cfg0.N) : iblk m c 1 t (ix1 0) = m ((c : Thread nD τ).loc main_arg1) (ix1 0 : S1.Idx) := by
  refine Eq.trans ?_ (congrFun (V_main_arg1 m c) (ix1 0 : S1.Idx))
  blk_simp [iblk, idx1]
  refine congrArg _ ?_
  blk_ext [idx1]

theorem blk4 (c : Dev nD) (t : Fin cfg0.N) (k : Fin 4096) (n : Fin 5376) :
    iblk m c 4 t (ix2 k n) = m ((c : Thread nD τ).loc main_arg4) (ix2 k n : S4096x5376.Idx) := by
  refine Eq.trans ?_ (congrFun (V_main_arg4 m c) (ix2 k n : S4096x5376.Idx))
  blk_simp [iblk, idx4]
  refine congrArg _ ?_
  blk_ext [idx4]

theorem blk5 (c : Dev nD) (t : Fin cfg0.N) (n : Fin 5376) :
    iblk m c 5 t (ix2 0 n) = m ((c : Thread nD τ).loc main_arg5) (ix1 n : S5376.Idx) := by
  refine Eq.trans ?_ ((congrFun (V_main_v0 m c) (ix2 0 n : S1x5376.Idx)).trans (ValueIdx.shapeCast_a_1a_apply _ _ 0 n))
  blk_simp [iblk, idx5]
  refine congrArg _ ?_
  blk_ext [idx5]

theorem blk6 (c : Dev nD) (t : Fin cfg0.N) (k : Fin 5376) (n : Fin 4096) :
    iblk m c 6 t (ix2 k n) = m ((c : Thread nD τ).loc main_arg6) (ix2 k n : S5376x4096.Idx) := by
  refine Eq.trans ?_ (congrFun (V_main_arg6 m c) (ix2 k n : S5376x4096.Idx))
  blk_simp [iblk, idx6]
  refine congrArg _ ?_
  blk_ext [idx6]

theorem blk7 (c : Dev nD) (t : Fin cfg0.N) (n : Fin 4096) :
    iblk m c 7 t (ix2 0 n) = m ((c : Thread nD τ).loc main_arg7) (ix1 n : S4096.Idx) := by
  refine Eq.trans ?_ ((congrFun (V_main_v1 m c) (ix2 0 n : S1x4096.Idx)).trans (ValueIdx.shapeCast_a_1a_apply _ _ 0 n))
  blk_simp [iblk, idx7]
  refine congrArg _ ?_
  blk_ext [idx7]

/-- Row `r` of point `t`'s block, if it lies inside the array, is the array's row `192 t + r`. -/
theorem rblk2_row (c : Dev nD) (t : Fin cfg0.N) (r : Fin 192) (hr : (r : Nat) < win0_8.xsize (grid0.coords t) 0) (k : Fin 4096)
    (R : Fin 8232) (hR : (R : Nat) = t.val * 192 + r) :
    rblk2 m c t (ix2 r k) = m ((c : Thread nD τ).loc main_arg2) (ix2 R k : S8232x4096.Idx) := by
  refine Eq.trans ?_ (congrFun (V_main_arg2 m c) (ix2 R k : S8232x4096.Idx))
  have hl : ∀ a, (((ix2 r k : S192x4096.Idx) a : Fin _) : Nat) < win0_2.xsize (grid0.coords t) a := fun a => match a with
    | ⟨0, _⟩ => hr
    | ⟨1, _⟩ => k.isLt.trans_eq (xsize2' t).symm
  unfold rblk2 Window.fill
  rw [dif_pos ((win0_2.moved_iff _ _).mpr hl)]
  generalize hy : (fun a => (⟨((ix2 r k : S192x4096.Idx) a : Nat), hl a⟩ : Fin _) : (win0_2.xblock (grid0.coords t)).Idx) = y
  have y0 : (y 0 : Nat) = r := by rw [← hy]; rfl
  have y1 : (y 1 : Nat) = k := by rw [← hy]; rfl
  have e0 := win0_2.rect_emb_val t y 0 rfl
  have e1 := win0_2.rect_emb_val t y 1 rfl
  rw [idx2] at e0 e1
  have he : ∀ z : S8232x4096.Idx, z = ix2 (z 0) (z 1) := ValueIdx.eq_ix2
  have h0 : ((win0_2.blk t).view.emb y : S8232x4096.Idx) 0 = R :=
    Fin.ext (e0.trans ((congrArg (t.val * 192 + ·) y0).trans hR.symm))
  have h1 : ((win0_2.blk t).view.emb y : S8232x4096.Idx) 1 = k := Fin.ext (e1.trans ((Nat.zero_add _).trans y1))
  show V m c main_arg2 ((win0_2.blk t).view.emb y) = V m c main_arg2 _
  rw [he ((win0_2.blk t).view.emb y), h0, h1]
  rfl

theorem rblk3_row (c : Dev nD) (t : Fin cfg0.N) (r : Fin 192) (hr : (r : Nat) < win0_8.xsize (grid0.coords t) 0) (k : Fin 4096)
    (R : Fin 8232) (hR : (R : Nat) = t.val * 192 + r) :
    rblk3 m c t (ix2 r k) = m ((c : Thread nD τ).loc main_arg3) (ix2 R k : S8232x4096.Idx) := by
  refine Eq.trans ?_ (congrFun (V_main_arg3 m c) (ix2 R k : S8232x4096.Idx))
  have hl : ∀ a, (((ix2 r k : S192x4096.Idx) a : Fin _) : Nat) < win0_3.xsize (grid0.coords t) a := fun a => match a with
    | ⟨0, _⟩ => hr
    | ⟨1, _⟩ => k.isLt.trans_eq (xsize3' t).symm
  unfold rblk3 Window.fill
  rw [dif_pos ((win0_3.moved_iff _ _).mpr hl)]
  generalize hy : (fun a => (⟨((ix2 r k : S192x4096.Idx) a : Nat), hl a⟩ : Fin _) : (win0_3.xblock (grid0.coords t)).Idx) = y
  have y0 : (y 0 : Nat) = r := by rw [← hy]; rfl
  have y1 : (y 1 : Nat) = k := by rw [← hy]; rfl
  have e0 := win0_3.rect_emb_val t y 0 rfl
  have e1 := win0_3.rect_emb_val t y 1 rfl
  rw [idx3] at e0 e1
  have he : ∀ z : S8232x4096.Idx, z = ix2 (z 0) (z 1) := ValueIdx.eq_ix2
  have h0 : ((win0_3.blk t).view.emb y : S8232x4096.Idx) 0 = R :=
    Fin.ext (e0.trans ((congrArg (t.val * 192 + ·) y0).trans hR.symm))
  have h1 : ((win0_3.blk t).view.emb y : S8232x4096.Idx) 1 = k := Fin.ext (e1.trans ((Nat.zero_add _).trans y1))
  show V m c main_arg3 ((win0_3.blk t).view.emb y) = V m c main_arg3 _
  rw [he ((win0_3.blk t).view.emb y), h0, h1]
  rfl

/-- A row of the body's codes is a row of `GU`. -/
theorem UB_eq_GU (c : Dev nD) (t : Fin cfg0.N) (r : Fin 192) (hr : (r : Nat) < win0_8.xsize (grid0.coords t) 0) (n : Fin 5376)
    (R : Fin 8232) (hR : (R : Nat) = t.val * 192 + r) :
    UB (iblk m c 0 t) (iblk m c 1 t) (rblk2 m c t) (iblk m c 4 t) (iblk m c 5 t) (ix2 r n : S192x5376.Idx)
    = GU (m ((c : Thread nD τ).loc main_arg0)) (m ((c : Thread nD τ).loc main_arg1)) (m ((c : Thread nD τ).loc main_arg2))
        (m ((c : Thread nD τ).loc main_arg4)) (m ((c : Thread nD τ).loc main_arg5)) (ix2 R n : S8232x5376.Idx) :=
  Ffn.uval_congr (blk0 m c t) (blk1 m c t) (funext fun k => rblk2_row m c t r hr k R hR)
    (funext fun k => funext fun n => blk4 m c t k n) (funext fun n => blk5 m c t n) rfl

/-- A row of the body's result is a row of `GO`. -/
theorem OB_eq_GO (c : Dev nD) (t : Fin cfg0.N) (r : Fin 192) (hr : (r : Nat) < win0_8.xsize (grid0.coords t) 0) (n : Fin 4096)
    (R : Fin 8232) (hR : (R : Nat) = t.val * 192 + r) :
    OB (iblk m c 0 t) (iblk m c 1 t) (rblk2 m c t) (rblk3 m c t) (iblk m c 4 t) (iblk m c 5 t) (iblk m c 6 t) (iblk m c 7 t) (ix2 r n : S192x4096.Idx)
    = GO (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix2 R n : S8232x4096.Idx) :=
  Ffn.oval_congr' (blk1 m c t) (rblk3_row m c t r hr n R hR) (funext fun k => UB_eq_GU m c t r hr k R hR)
    (funext fun k => funext fun n => blk6 m c t k n) (funext fun n => blk7 m c t n) rfl

/-! ## The final arrays -/

theorem final8 (c : Dev nD) : (dats m 0 c).arrAt 8 cfg0.N
    = GU (m ((c : Thread nD τ).loc main_arg0)) (m ((c : Thread nD τ).loc main_arg1)) (m ((c : Thread nD τ).loc main_arg2))
        (m ((c : Thread nD τ).loc main_arg4)) (m ((c : Thread nD τ).loc main_arg5)) := by
  refine (dats m 0 c).arrAt_eq_of_covers 8 _ covers8 fun t _ y => ?_
  show (dats m 0 c).after 8 t (win0_8.xinj (grid0.coords t) y) = GU _ _ _ _ _ ((win0_8.blk t).view.emb y)
  rw [after0_8]
  have hr : (y 0 : Nat) < win0_8.xsize (grid0.coords t) 0 := (y 0).isLt
  have e0 := win0_8.rect_emb_val t y 0 rfl
  have e1 := win0_8.rect_emb_val t y 1 rfl
  rw [idx8] at e0 e1
  have hx : ∀ z : S192x5376.Idx, z = ix2 (z 0) (z 1) := ValueIdx.eq_ix2
  have he : ∀ z : S8232x5376.Idx, z = ix2 (z 0) (z 1) := ValueIdx.eq_ix2
  have e1' : (((win0_8.blk t).view.emb y : S8232x5376.Idx) 1 : Fin 5376) = (win0_8.xinj (grid0.coords t) y : S192x5376.Idx) 1 :=
    Fin.ext (e1.trans (Nat.zero_add _))
  rw [hx (win0_8.xinj (grid0.coords t) y), he ((win0_8.blk t).view.emb y), e1']
  exact UB_eq_GU m c t _ hr _ _ e0

theorem final9 (c : Dev nD) : (dats m 0 c).arrAt 9 cfg0.N
    = GO (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 9 _ covers9 fun t _ y => ?_
  show (dats m 0 c).after 9 t (win0_9.xinj (grid0.coords t) y) = GO _ _ _ _ _ _ _ _ ((win0_9.blk t).view.emb y)
  rw [after0_9]
  have hr : (y 0 : Nat) < win0_8.xsize (grid0.coords t) 0 := (y 0).isLt.trans_eq (xsize9 t)
  have e0 := win0_9.rect_emb_val t y 0 rfl
  have e1 := win0_9.rect_emb_val t y 1 rfl
  rw [idx9] at e0 e1
  have hx : ∀ z : S192x4096.Idx, z = ix2 (z 0) (z 1) := ValueIdx.eq_ix2
  have he : ∀ z : S8232x4096.Idx, z = ix2 (z 0) (z 1) := ValueIdx.eq_ix2
  have e1' : (((win0_9.blk t).view.emb y : S8232x4096.Idx) 1 : Fin 4096) = (win0_9.xinj (grid0.coords t) y : S192x4096.Idx) 1 :=
    Fin.ext (e1.trans (Nat.zero_add _))
  rw [hx (win0_9.xinj (grid0.coords t) y), he ((win0_9.blk t).view.emb y), e1']
  exact OB_eq_GO m c t _ hr _ _ e0

/-- The run with both results named, the arguments unchanged. -/
theorem run : θ_run defs (onTc (τ := τ) (main (F := Ideal))) ⟨m, fun _ => 0, ρ⟩ fun r => ∀ c : Dev nD,
      r.2.mem ((c : Thread nD τ).loc main_v2_1) = GO (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      ∧ r.2.mem ((c : Thread nD τ).loc main_v2_0) = GU (m ((c : Thread nD τ).loc main_arg0)) (m ((c : Thread nD τ).loc main_arg1)) (m ((c : Thread nD τ).loc main_arg2))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 9).trans (final9 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main m ρ)

end Cert.KernelIdeal.Hand.Exact

end
-- ==== Proof.FfnRef.lean ====
/- What the reference computes, over the extended reals: its codes are `Ffn.uval` and its result `Ffn.oval` at every index. -/
module

public import proofs.«01_k».proof.Proof.Gen.ReferenceIdeal.Value
public import proofs.«01_k».proof.Proof.FfnMath
public import Idealize.ShloMosaic.Lib.Pipeline.ValueKit
public import Idealize.ShloMosaic.Lib.ValueLayout

@[expose] public section

set_option maxRecDepth 16384

noncomputable section

namespace Cert.ReferenceIdeal.Hand

open Cert.ReferenceIdeal Cert.ReferenceIdeal.Gen
open Idealize.ShloMosaic hiding ix0 ix1 ix2 ix3 ix4 ix5 eq_ix2
open Idealize.ShloMosaic.TcCoe Idealize.ShloMosaic.ValueIdx
open scoped BigOperators

/-- A one-element array spread over a row, -/
theorem spread1 {b : ℕ} (x : Vec Ideal S1 .f32) (h : S1.Broadcasts ⟨1, ![b]⟩) (n : Fin b) :
    broadcastTo (⟨1, ![b]⟩ : Shape) x h (ix1 n) = x (ix1 0) := by
  exact broadcastTo_apply x h (ix1 n) (ix1 0) fun a => match a with | ⟨0, _⟩ => rfl

/-- and over a matrix. -/
theorem spread2 {a b : ℕ} (x : Vec Ideal S1 .f32) (h : S1x1.Broadcasts ⟨2, ![a, b]⟩) (r : Fin a) (n : Fin b) :
    broadcastTo (⟨2, ![a, b]⟩ : Shape) (shapeCast S1x1 x shapeCasts_S1_S1x1) h (ix2 r n) = x (ix1 0) := by
  exact (broadcastTo_apply _ h (ix2 r n) (ix2 (0 : Fin 1) (0 : Fin 1)) fun a => match a with | ⟨0, _⟩ => rfl | ⟨1, _⟩ => rfl).trans
    (shapeCast_a_1a_apply x shapeCasts_S1_S1x1 0 0)

/-- The reference's codes at an index. -/
theorem codes_apply (s su : Vec Ideal S1 .f32) (f : Vec Ideal S8232x4096 .fp8e4m3) (w : Vec Ideal S4096x5376 .fp8e4m3)
    (ws : Vec Ideal S5376 .f32) (r : Fin 8232) (n : Fin 5376) :
    k0_pay1 (F := Ideal) s su f w ws (ix2 r n)
      = Ffn.uval (s (ix1 0)) (su (ix1 0)) (fun k => f (ix2 r k)) (fun k n => w (ix2 k n)) (fun n => ws (ix1 n)) n := by
  have hd : dot_S8232x4096_S4096x5376_S8232x5376_1_0_0_1_n_n = DotDims.plain 8232 4096 5376 := rfl
  have hm := Ideal.matmul_plain_apply (φ₁ := .fp8e4m3) (φ₂ := .fp8e4m3) (none : Option ContractPrecision) f w
    (constant (F := Ideal) S8232x5376 .f32 0x00000000#32) r n
  have hb : broadcastTo S8232x5376 (shapeCast S1x5376 (mulf (F := Ideal) (φ := .f32) (broadcastTo S5376 s broadcasts_S1_S5376) ws) shapeCasts_S5376_S1x5376)
      broadcasts_S1x5376_S8232x5376 (ix2 r n) = s (ix1 0) * ws (ix1 n) := by
    refine (broadcastTo_1b_ab_apply _ _ r n).trans ((shapeCast_a_1a_apply _ _ 0 n).trans ?_)
    rw [mulf_apply]
    exact congrArg (fun z => z * ws (ix1 n)) (spread1 s broadcasts_S1_S5376 n)
  have hs : broadcastTo S8232x5376 (shapeCast S1x1 su shapeCasts_S1_S1x1) broadcasts_S1x1_S8232x5376 (ix2 r n) = su (ix1 0) :=
    spread2 su broadcasts_S1x1_S8232x5376 r n
  unfold k0_pay1 Ffn.uval Ffn.act
  rw [truncf_apply, minimumf_apply, maximumf_apply, divf_apply, mulf_apply, maximumf_apply, mulf_apply, hb, hs, hd]
  exact congrArg (fun z => Ffn.act z (s (ix1 0)) (ws (ix1 n)) (su (ix1 0))) hm

/-- The reference's result at an index. -/
theorem result_apply (s su : Vec Ideal S1 .f32) (f : Vec Ideal S8232x4096 .fp8e4m3) (w : Vec Ideal S4096x5376 .fp8e4m3)
    (ws : Vec Ideal S5376 .f32) (wd : Vec Ideal S5376x4096 .fp8e4m3) (wds : Vec Ideal S4096 .f32) (h : Vec Ideal S8232x4096 .f32)
    (r : Fin 8232) (n : Fin 4096) :
    k0_pay2 (F := Ideal) s su f w ws wd wds h (ix2 r n)
      = Ffn.oval (su (ix1 0)) (h (ix2 r n)) (fun k => k0_pay1 (F := Ideal) s su f w ws (ix2 r k)) (fun k n => wd (ix2 k n))
          (fun n => wds (ix1 n)) n := by
  have hd : dot_S8232x5376_S5376x4096_S8232x4096_1_0_0_1_n_n = DotDims.plain 8232 5376 4096 := rfl
  have hm := Ideal.matmul_plain_apply (φ₁ := .fp8e4m3) (φ₂ := .fp8e4m3) (none : Option ContractPrecision) (k0_pay1 (F := Ideal) s su f w ws) wd
    (constant (F := Ideal) S8232x4096 .f32 0x00000000#32) r n
  have hb : broadcastTo S8232x4096 (shapeCast S1x4096 (mulf (F := Ideal) (φ := .f32) (broadcastTo S4096 su broadcasts_S1_S4096) wds) shapeCasts_S4096_S1x4096)
      broadcasts_S1x4096_S8232x4096 (ix2 r n) = su (ix1 0) * wds (ix1 n) := by
    refine (broadcastTo_1b_ab_apply _ _ r n).trans ((shapeCast_a_1a_apply _ _ 0 n).trans ?_)
    rw [mulf_apply]
    exact congrArg (fun z => z * wds (ix1 n)) (spread1 su broadcasts_S1_S4096 n)
  unfold k0_pay2 Ffn.oval
  rw [truncf_apply, addf_apply, mulf_apply, hb, hd]
  exact congrArg (fun z => h (ix2 r n) + z * (su (ix1 0) * wds (ix1 n))) hm

end Cert.ReferenceIdeal.Hand

end
-- ==== Proof.OutBits.lean ====
/- The FRAME of the output projection as written (any float semantics, so the word-exact one): the body's run over whole staging
   buffers, the proof data of the pipeline and the launch. The last of the 26 row blocks overhangs the arrays' 8232 rows, so the two
   row-blocked inputs are stated on the rows inside the arrays only (`Window.fill`, any word past the end), and what the kernel
   leaves in the two outputs is not named (`Dat.toRForget`): the claim reads the arguments and the counters. -/
module

public import proofs.«01_k».proof.Proof.Gen.OutKernel.Frame
public import proofs.«01_k».proof.Proof.Gen.OutKernel.Skeleton

@[expose] public section

set_option maxRecDepth 16384

noncomputable section

namespace Cert.OutKernel.Hand

open Cert.OutKernel Cert.OutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_OutKernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S320x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S320x4096 .fp8e4m3 := win0_8.stage (cfg0.slots t 8)
abbrev hs0_8 (t : Fin cfg0.N) : (ms0_8 t).IsWhole := hstage0_8 ((cfg0.slots t 8).cast nbuf0_8)

-- (the run's proof term is large: checking it walks past the default budget)
set_option maxHeartbeats 3408000 in
/-- The body's triple: on whole staging memrefs — the inputs' at their contents,
    the FORGOTTEN outputs' (7, 8) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S320x2048 .fp8e4m3) (harg3 : arg3.IsWhole) (arg4 : Memref sig .tc .vmem S320x4096 .bf16) (harg4 : arg4.IsWhole) (arg5 : Memref sig .tc .vmem S2048x4096 .fp8e4m3) (harg5 : arg5.IsWhole) (arg6 : Memref sig .tc .vmem S1x4096 .f32) (harg6 : arg6.IsWhole) (arg7 : Memref sig .tc .vmem S1x4096 .f32) (harg7 : arg7.IsWhole) (arg8 : Memref sig .tc .vmem S320x4096 .f32) (harg8 : arg8.IsWhole) (arg9 : Memref sig .tc .vmem S320x4096 .fp8e4m3) (harg9 : arg9.IsWhole)
    (x0 : Vec F S1 .f32) (x1 : Vec F S1 .f32) (x2 : Vec F S320x2048 .fp8e4m3) (x3 : Vec F S320x4096 .bf16) (x4 : Vec F S2048x4096 .fp8e4m3) (x5 : Vec F S1x4096 .f32) (x6 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9) K := by
    intro E K
    simp only [cc0_out_proj_eq_skeleton]; unfold cc0_out_proj_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    iexists _, _; isplitr; swap; · iexact H8
    ipureintro; rfl

/-- Input window 2's staging buffer at point `t`: the array's block on the rows inside the array, the zero word on the rows past
    its end (a filler the obligation never reads: the window is loose). -/
def rblk2 (c : Dev nD) (t : Fin cfg0.N) : Vec F S320x2048 .fp8e4m3 :=
  win0_2.fill (grid0.coords t) (fun _ => Scalar.ofBits .fp8e4m3 0) (iblk m c 2 t)
theorem cut_rblk2 (c : Dev nD) (t : Fin cfg0.N) : win0_2.cut (grid0.coords t) (rblk2 m c t) = iblk m c 2 t :=
  win0_2.cut_fill _ _ _

/-- Input window 3's staging buffer at point `t`: the array's block on the rows inside the array, the zero word on the rows past
    its end (a filler the obligation never reads: the window is loose). -/
def rblk3 (c : Dev nD) (t : Fin cfg0.N) : Vec F S320x4096 .bf16 :=
  win0_3.fill (grid0.coords t) (fun _ => Scalar.ofBits .bf16 0) (iblk m c 3 t)
theorem cut_rblk3 (c : Dev nD) (t : Fin cfg0.N) : win0_3.cut (grid0.coords t) (rblk3 m c t) = iblk m c 3 t :=
  win0_3.cut_fill _ _ _

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.OutKernel.Hand

end
-- ==== Proof.OutRun.lean ====
/- The body's RUN of the output projection over any whole staging buffers: the inputs' contents kept, each output ending at a list
   of stored pieces (8 column chunks of the residual, 80 of the codes), found by running the body's skeleton. Any float semantics. -/
module

public import proofs.«01_k».proof.Proof.Gen.OutKernelIdeal.Frame
public import proofs.«01_k».proof.Proof.Gen.OutKernelIdeal.Skeleton

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 7, through which its contents are stated (`View.read_writes_of_cover`: the
    choice does not matter). -/
abbrev VO0_7 : View sig .tc .vmem S320x4096 .f32 := (Memref.whole cc0_stg7_0 : Memref sig .tc .vmem S320x4096 .f32).view
/-- One staging buffer of output window 8, through which its contents are stated (`View.read_writes_of_cover`: the
    choice does not matter). -/
abbrev VO0_8 : View sig .tc .vmem S320x4096 .fp8e4m3 := (Memref.whole cc0_stg8_0 : Memref sig .tc .vmem S320x4096 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S320x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S320x4096 .fp8e4m3 := win0_8.stage (cfg0.slots t 8)
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 3408000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S320x2048 .fp8e4m3) (harg3 : arg3.IsWhole) (arg4 : Memref sig .tc .vmem S320x4096 .bf16) (harg4 : arg4.IsWhole) (arg5 : Memref sig .tc .vmem S2048x4096 .fp8e4m3) (harg5 : arg5.IsWhole) (arg6 : Memref sig .tc .vmem S1x4096 .f32) (harg6 : arg6.IsWhole) (arg7 : Memref sig .tc .vmem S1x4096 .f32) (harg7 : arg7.IsWhole) (arg8 : Memref sig .tc .vmem S320x4096 .f32) (harg8 : arg8.IsWhole) (arg9 : Memref sig .tc .vmem S320x4096 .fp8e4m3) (harg9 : arg9.IsWhole)
    (x0 : Vec F S1 .f32) (x1 : Vec F S1 .f32) (x2 : Vec F S320x2048 .fp8e4m3) (x3 : Vec F S320x4096 .bf16) (x4 : Vec F S2048x4096 .fp8e4m3) (x5 : Vec F S1x4096 .f32) (x6 : Vec F S1x4096 .f32) :
    Σ' (L7 : List (View.Piece (Elt F) S320x4096 .f32)), { L8 : List (View.Piece (Elt F) S320x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9) K } := by
  refine ⟨?_, ?_, fun E K => ?run⟩
  case run =>
    simp only [cc0_out_proj_eq_skeleton]; unfold cc0_out_proj_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.OutKernelIdeal.Hand

end
-- ==== Proof.OutFrame.lean ====
/- The FRAME of the idealized output projection at any float semantics: as for the kernel as written, the outputs are not named
   and the two row-blocked inputs are stated on the rows inside the arrays. -/
module

public import proofs.«01_k».proof.Proof.OutRun

@[expose] public section

set_option maxRecDepth 16384

noncomputable section

namespace Cert.OutKernelIdeal.Hand.Forget

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
open Cert.OutKernelIdeal.Hand

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_OutKernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- Input window 2's staging buffer at point `t`: the array's block on the rows inside the array, the zero word on the rows past
    its end (a filler the obligation never reads: the window is loose). -/
def rblk2 (c : Dev nD) (t : Fin cfg0.N) : Vec F S320x2048 .fp8e4m3 :=
  win0_2.fill (grid0.coords t) (fun _ => Scalar.ofBits .fp8e4m3 0) (iblk m c 2 t)
theorem cut_rblk2 (c : Dev nD) (t : Fin cfg0.N) : win0_2.cut (grid0.coords t) (rblk2 m c t) = iblk m c 2 t :=
  win0_2.cut_fill _ _ _

/-- Input window 3's staging buffer at point `t`: the array's block on the rows inside the array, the zero word on the rows past
    its end (a filler the obligation never reads: the window is loose). -/
def rblk3 (c : Dev nD) (t : Fin cfg0.N) : Vec F S320x4096 .bf16 :=
  win0_3.fill (grid0.coords t) (fun _ => Scalar.ofBits .bf16 0) (iblk m c 3 t)
theorem cut_rblk3 (c : Dev nD) (t : Fin cfg0.N) : win0_3.cut (grid0.coords t) (rblk3 m c t) = iblk m c 3 t :=
  win0_3.cut_fill _ _ _

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]
  · unfold owns; iexists _, _; isplitr; swap; · iexact H7
    ipureintro; rfl
  unfold owns; iexists _, _; isplitr; swap; · iexact H8
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.OutKernelIdeal.Hand.Forget

end
-- ==== Proof.OutMath.lean ====
/- One row of the output projection over the extended reals: an entry of the residual, and the code of one column after the root
   mean square norm. Both programs are proved to compute these two functions at every index. Also here: what a row sum, a spread
   column and a sum taken in blocks of 128 are at an index, and that dividing by 4096 is multiplying by 1/4096. -/
module

public import Idealize.ShloMosaic.Lib.ValueIdx
public import Idealize.ShloMosaic.Lib.ValueLayout
public import Idealize.ShloMosaic.Lib.MatmulPlain
public import Idealize.ShloMosaic.Lib.Pointwise.Reduce

@[expose] public section

noncomputable section

namespace Out

open Idealize.ShloMosaic hiding ix0 ix1 ix2 ix3 ix4 ix5 eq_ix2
open Idealize.ShloMosaic.ValueIdx
open scoped BigOperators

/-- The residual's entry in column `n`: the layer's input plus the scaled product of the row of codes `g`. -/
def hval (s : Ideal .f32) (x : Ideal .f32) (g : Fin 2048 → Ideal .f32) (w : Fin 2048 → Fin 4096 → Ideal .f32) (ws : Fin 4096 → Ideal .f32)
    (n : Fin 4096) : Ideal .f32 :=
  x + (Ideal.ofBits .f32 0x00000000#32 + ∑ k : Fin 2048, g k * w k n) * (s * ws n)

/-- The code of one entry `h` of a row: normed by the row's mean square `q`, weighted by `nw`, divided by the scale, clamped to ±448. -/
def code (sf h q nw : Ideal .f32) : Ideal .f32 :=
  min (Ideal.ofBits .f32 0x43E00000#32) (max (Ideal.ofBits .f32 0xC3E00000#32)
    (Ideal.div (h * Ideal.rsqrt (q + Ideal.ofBits .f32 0x3727C5AC#32) * nw) sf))

/-- The code of column `n` for the row `h` of the residual. -/
def fval (sf : Ideal .f32) (h : Fin 4096 → Ideal .f32) (nw : Fin 4096 → Ideal .f32) (n : Fin 4096) : Ideal .f32 :=
  code sf (h n) (Ideal.div (∑ k : Fin 4096, h k * h k) (Ideal.ofBits .f32 0x45800000#32)) (nw n)

theorem hval_congr {s s' x x' : Ideal .f32} {g g' : Fin 2048 → Ideal .f32} {w w' : Fin 2048 → Fin 4096 → Ideal .f32}
    {ws ws' : Fin 4096 → Ideal .f32} {n n' : Fin 4096} (h₁ : s = s') (h₂ : x = x') (h₃ : g = g') (h₄ : w = w') (h₅ : ws = ws')
    (h₆ : n = n') : hval s x g w ws n = hval s' x' g' w' ws' n' := by subst h₁ h₂ h₃ h₄ h₅ h₆; rfl

theorem fval_congr {sf sf' : Ideal .f32} {h h' nw nw' : Fin 4096 → Ideal .f32} {n n' : Fin 4096} (h₁ : sf = sf') (h₂ : h = h')
    (h₃ : nw = nw') (h₄ : n = n') : fval sf h nw n = fval sf' h' nw' n' := by subst h₁ h₂ h₃ h₄; rfl

/-- The word `0x45800000` is 4096, -/
theorem ofBits_4096 : Ideal.ofBits .f32 0x45800000#32 = ((4096 : ℝ) : EReal) := by
  simp [Ideal.ofBits, Ideal.ieee, -EReal.coe_mul]; norm_num
/-- and `0x39800000` is its reciprocal, -/
theorem ofBits_inv4096 : Ideal.ofBits .f32 0x39800000#32 = ((1 / 4096 : ℝ) : EReal) := by
  simp [Ideal.ofBits, Ideal.ieee, -EReal.coe_mul]; norm_num
/-- so multiplying by the one is dividing by the other. -/
theorem mul_inv4096 (x : Ideal .f32) : x * Ideal.ofBits .f32 0x39800000#32 = Ideal.div x (Ideal.ofBits .f32 0x45800000#32) := by
  rw [ofBits_4096, ofBits_inv4096, Ideal.div_coe (by norm_num)]

/-- A row sum at a row. -/
theorem rowSum_apply {a b : ℕ} (v : FVec Ideal ⟨2, ![a, b]⟩ .f32) (acc : BitVec 32) (h : (⟨2, ![a, b]⟩ : Shape).Reduces [1] ⟨1, ![a]⟩)
    (h₁ h₂) (i : Fin a) : multiReduction (F := Ideal) (φ := .f32) .add [1] ⟨1, ![a]⟩ v acc h h₁ h₂ (ix1 i) = ∑ k : Fin b, v (ix2 i k) :=
  Ideal.reduceAdd_r2_a1 h v (ix1 i)

/-- A vector stood up as a column. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    simp only [Fin.isValue, Matrix.cons_val_zero, Matrix.cons_val_one, mul_one]
    show (i : ℕ) = (i : ℕ) + (u : ℕ)
    omega)

/-- A column spread over a matrix. -/
theorem broadcastTo_a1_ab_apply {a b : ℕ} {α : Type} (v : (⟨2, ![a, 1]⟩ : Shape).Idx → α) (h : (⟨2, ![a, 1]⟩ : Shape).Broadcasts ⟨2, ![a, b]⟩)
    (i : Fin a) (n : Fin b) : broadcastTo ⟨2, ![a, b]⟩ v h (ix2 i n) = v (ix2 i (0 : Fin 1)) := by
  refine broadcastTo_apply v h (ix2 i n) (ix2 i (0 : Fin 1)) fun ax => ?_
  match ax with
  | ⟨0, _⟩ => show (i : ℕ) = if a = 1 then 0 else (i : ℕ); split <;> omega
  | ⟨1, _⟩ => rfl

/-- A sum of 4096 terms taken lane by lane, 32 blocks of 128. -/
theorem sum_blocks (f : Fin 4096 → Ideal .f32) :
    ∑ l : Fin 128, ∑ c : Fin 32, f ⟨128 * (c : ℕ) + l, by omega⟩ = ∑ k : Fin 4096, f k := by
  rw [Finset.sum_comm, ← Finset.sum_product', Finset.univ_product_univ]
  refine Fintype.sum_equiv (finProdFinEquiv (m := 32) (n := 128)) _ _ fun p => ?_
  refine congrArg f (Fin.ext ?_)
  show 128 * (p.1 : ℕ) + p.2 = p.2 + 128 * p.1
  omega

end Out

end
-- ==== Proof.OutPieces.lean ====
/- What the output projection's body stores, over the extended reals: every stored column chunk of the residual is the matching
   slice of `Out.hval`, and every stored 32 by 512 chunk of codes, which reads the residual back, the matching slice of `Out.fval`;
   so the two output buffers end holding those functions of the input blocks, row by row. -/
module

public import proofs.«01_k».proof.Proof.OutRun
public import proofs.«01_k».proof.Proof.OutMath
public import Idealize.ShloMosaic.Lib.Pipeline.ValueKit
public import Idealize.ShloMosaic.Lib.ValueLayout

@[expose] public section

set_option maxRecDepth 16384

noncomputable section

namespace Cert.OutKernelIdeal.Hand

open Cert.OutKernelIdeal Cert.OutKernelIdeal.Gen
open Idealize.ShloMosaic hiding ix0 ix1 ix2 ix3 ix4 ix5 eq_ix2
open Idealize.ShloMosaic.TcCoe Idealize.ShloMosaic.ValueIdx Idealize.ShloMosaic.Tactic
open Idealize.SL Idealize.SL.Sem
open scoped BigOperators

/-- The residual of a block, at every index. -/
def HB (x0 : Vec Ideal S1 .f32) (x2 : Vec Ideal S320x2048 .fp8e4m3) (x3 : Vec Ideal S320x4096 .bf16) (x4 : Vec Ideal S2048x4096 .fp8e4m3)
    (x5 : Vec Ideal S1x4096 .f32) : Vec Ideal S320x4096 .f32 := fun y =>
  Out.hval (x0 (ix1 0)) (x3 (ix2 (y 0) (y 1))) (fun k => x2 (ix2 (y 0) k)) (fun k n => x4 (ix2 k n)) (fun n => x5 (ix2 0 n)) (y 1)

/-- The codes of a block, at every index. -/
def FB (x0 x1 : Vec Ideal S1 .f32) (x2 : Vec Ideal S320x2048 .fp8e4m3) (x3 : Vec Ideal S320x4096 .bf16) (x4 : Vec Ideal S2048x4096 .fp8e4m3)
    (x5 x6 : Vec Ideal S1x4096 .f32) : Vec Ideal S320x4096 .fp8e4m3 := fun y =>
  Out.fval (x1 (ix1 0)) (fun k => HB x0 x2 x3 x4 x5 (ix2 (y 0) k)) (fun n => x6 (ix2 0 n)) (y 1)

/-- One chunk of the residual at an index, from the chunks it reads. -/
theorem pay3_apply (s : Elt Ideal .f32) (g : Vec Ideal S320x2048 .fp8e4m3) (w : Vec Ideal S2048x512 .fp8e4m3) (ws : Vec Ideal S1x512 .f32)
    (x : Vec Ideal S320x512 .bf16) (r : Fin 320) (n : Fin 512) :
    k0_pay3 (F := Ideal) s g w ws x (ix2 r n)
      = x (ix2 r n) + (Ideal.ofBits .f32 0x00000000#32 + ∑ k : Fin 2048, g (ix2 r k) * w (ix2 k n)) * (s * ws (ix2 0 n)) := by
  have hd : dot_S320x2048_S2048x512_S320x512_1_0_0_1_n_n = DotDims.plain 320 2048 512 := rfl
  have hm := Ideal.matmul_plain_apply (φ₁ := .fp8e4m3) (φ₂ := .fp8e4m3) (none : Option ContractPrecision) g w
    (constant (F := Ideal) S320x512 .f32 0x00000000#32) r n
  have hc : shapeCast S1x512 ws shapeCasts_S1x512_S1x512 = ws := shapeCast_self ws shapeCasts_S1x512_S1x512
  have hb : broadcastTo S320x512 (mulf (F := Ideal) (φ := .f32) (broadcast S1x512 s) ws) broadcasts_S1x512_S320x512 (ix2 r n) = s * ws (ix2 0 n) :=
    broadcastTo_1b_ab_apply _ _ r n
  unfold k0_pay3
  rw [addf_apply, mulf_apply, extf_apply, hc, hb, hd]
  exact congrArg (fun z => x (ix2 r n) + z * (s * ws (ix2 0 n))) hm

/-- A unit-stride rectangle at row `a`, column `b`, places `(r, n)` at `(a + r, b + n)`. -/
theorem emb_at {R N R' n' : ℕ} (a b : ℕ) (h : ∀ d, (![a, b] : Fin 2 → ℕ) d + (⟨2, ![R', n']⟩ : Shape).size d ≤ (⟨2, ![R, N]⟩ : Shape).size d)
    (r : Fin R') (n : Fin n') (r' : Fin R) (q : Fin N) (hr : (r' : ℕ) = a + r) (hq : (q : ℕ) = b + n) :
    (Rect.unit (s := ⟨2, ![R, N]⟩) ![a, b] ![R', n'] h).emb (ix2 r n) = ix2 r' q := by
  funext d
  refine Fin.ext ?_
  match d with
  | ⟨0, _⟩ => rw [Rect.emb_apply]; show a + 1 * (r : ℕ) = r'; omega
  | ⟨1, _⟩ => rw [Rect.emb_apply]; show b + 1 * (n : ℕ) = q; omega

/-- A load through such a rectangle at `(r, n)`. -/
theorem ld_at {R N R' n' : ℕ} {e : EltTy} (X : (⟨2, ![R, N]⟩ : Shape).Idx → Elt Ideal e) (a b : ℕ)
    (h : ∀ d, (![a, b] : Fin 2 → ℕ) d + (⟨2, ![R', n']⟩ : Shape).size d ≤ (⟨2, ![R, N]⟩ : Shape).size d)
    (r : Fin R') (n : Fin n') (r' : Fin R) (q : Fin N) (hr : (r' : ℕ) = a + r) (hq : (q : ℕ) = b + n) :
    View.ld (Val := Elt Ideal) (e' := e) X (Rect.unit (s := ⟨2, ![R, N]⟩) ![a, b] ![R', n'] h) (ix2 r n) = X (ix2 r' q) :=
  congrArg X (emb_at a b h r n r' q hr hq)

/-- A chunk of the residual cut out of the whole blocks at column `b` is the slice of `HB` there. -/
theorem chunkH (x0 : Vec Ideal S1 .f32) (x2 : Vec Ideal S320x2048 .fp8e4m3) (x3 : Vec Ideal S320x4096 .bf16) (x4 : Vec Ideal S2048x4096 .fp8e4m3)
    (x5 : Vec Ideal S1x4096 .f32) (b : ℕ) (h2 : ∀ a, (![0, 0] : Fin 2 → ℕ) a + S320x2048.size a ≤ S320x2048.size a)
    (h3 : ∀ a, (![0, b] : Fin 2 → ℕ) a + S320x512.size a ≤ S320x4096.size a)
    (h4 : ∀ a, (![0, b] : Fin 2 → ℕ) a + S2048x512.size a ≤ S2048x4096.size a)
    (h5 : ∀ a, (![0, b] : Fin 2 → ℕ) a + S1x512.size a ≤ S1x4096.size a) (x : S320x512.Idx) (s : Elt Ideal .f32)
    (hs : s = x0 (ix1 0)) :
    k0_pay3 (F := Ideal) s (View.ld x2 (Rect.unit (s := S320x2048) ![0, 0] S320x2048.size h2))
        (View.ld x4 (Rect.unit (s := S2048x4096) ![0, b] S2048x512.size h4)) (View.ld x5 (Rect.unit (s := S1x4096) ![0, b] S1x512.size h5))
        (View.ld x3 (Rect.unit (s := S320x4096) ![0, b] S320x512.size h3)) x
      = HB x0 x2 x3 x4 x5 ((Rect.unit (s := S320x4096) ![0, b] S320x512.size h3).emb x) := by
  subst hs
  obtain ⟨r, n, rfl⟩ : ∃ (r : Fin 320) (n : Fin 512), x = ix2 r n := ⟨x 0, x 1, eq_ix2 x⟩
  have hb : b + (n : ℕ) < 4096 := by have h : b + 512 ≤ 4096 := h3 1; have := n.isLt; omega
  rw [pay3_apply, emb_at 0 b h3 r n r ⟨b + n, hb⟩ (Nat.zero_add _).symm rfl]
  show _ = Out.hval _ _ _ _ _ _
  rw [ld_at x5 0 b h5 (0 : Fin 1) n (0 : Fin 1) ⟨b + n, hb⟩ rfl rfl, ld_at x3 0 b h3 r n r ⟨b + n, hb⟩ (Nat.zero_add _).symm rfl]
  unfold Out.hval
  congr 3
  refine Finset.sum_congr rfl fun k _ => ?_
  rw [ld_at x2 0 0 h2 r k r k (Nat.zero_add _).symm (Nat.zero_add _).symm, ld_at x4 0 b h4 k n k ⟨b + n, hb⟩ (Nat.zero_add _).symm rfl]

/-! Every other chunk of the residual is stored through its own expression of the same function. -/

theorem pay4_eq (s : Elt Ideal .f32) (g : Vec Ideal S320x2048 .fp8e4m3) (w : Vec Ideal S2048x512 .fp8e4m3) (ws : Vec Ideal S1x512 .f32) (x : Vec Ideal S320x512 .bf16) :
    k0_pay4 (F := Ideal) s g w ws x = k0_pay3 s g w ws x := rfl
theorem pay5_eq (s : Elt Ideal .f32) (g : Vec Ideal S320x2048 .fp8e4m3) (w : Vec Ideal S2048x512 .fp8e4m3) (ws : Vec Ideal S1x512 .f32) (x : Vec Ideal S320x512 .bf16) :
    k0_pay5 s g w (constant (F := Ideal) S320x512 .f32 0x00000000#32) ws x = k0_pay3 s g w ws x := rfl
theorem pay6_eq (s : Elt Ideal .f32) (g : Vec Ideal S320x2048 .fp8e4m3) (w : Vec Ideal S2048x512 .fp8e4m3) (ws : Vec Ideal S1x512 .f32) (x : Vec Ideal S320x512 .bf16) :
    k0_pay6 (F := Ideal) s g w ws x = k0_pay3 s g w ws x := rfl
theorem pay8_eq (s : Elt Ideal .f32) (g : Vec Ideal S320x2048 .fp8e4m3) (w : Vec Ideal S2048x512 .fp8e4m3) (ws : Vec Ideal S1x512 .f32) (x : Vec Ideal S320x512 .bf16) :
    k0_pay8 (k0_pay7 (F := Ideal) s g w ws) x = k0_pay3 s g w ws x := rfl
theorem pay9_eq (s : Elt Ideal .f32) (g : Vec Ideal S320x2048 .fp8e4m3) (w : Vec Ideal S2048x512 .fp8e4m3) (ws : Vec Ideal S1x512 .f32) (x : Vec Ideal S320x512 .bf16) :
    k0_pay9 (F := Ideal) s g w ws x = k0_pay3 s g w ws x := rfl
theorem pay10_eq (s : Elt Ideal .f32) (g : Vec Ideal S320x2048 .fp8e4m3) (w : Vec Ideal S2048x512 .fp8e4m3) (ws : Vec Ideal S1x512 .f32) (x : Vec Ideal S320x512 .bf16) :
    k0_pay10 (F := Ideal) s g w ws x = k0_pay3 s g w ws x := rfl
theorem pay11_eq (s : Elt Ideal .f32) (g : Vec Ideal S320x2048 .fp8e4m3) (w : Vec Ideal S2048x512 .fp8e4m3) (ws : Vec Ideal S1x512 .f32) (x : Vec Ideal S320x512 .bf16) :
    k0_pay11 (F := Ideal) s g w ws x = k0_pay3 s g w ws x := rfl

/-! The codes: the kernel adds the squares of a row in 32 blocks of 128 lanes, sums the lanes, and norms. -/

/-- The squares of one block. -/
def sqF (v : Vec Ideal S32x128 .f32) : FVec Ideal S32x128 .f32 :=
  mulf (shapeCast S32x128 v shapeCasts_S32x128_S32x128) (shapeCast S32x128 v shapeCasts_S32x128_S32x128)

/-- The squares of the 32 blocks, lane by lane. -/
def accF (V : Fin 32 → Vec Ideal S32x128 .f32) : FVec Ideal S32x128 .f32 :=

     (addf (addf (addf (addf (addf (addf (addf (addf (addf (addf (addf (addf (addf (addf (addf (addf (addf (addf (addf (addf (addf (addf (addf (addf (addf (addf (addf (addf (addf (addf (addf (addf (broadcast S32x128 (Scalar.ofBits (F := Ideal) .f32 0x00000000#32) : FVec Ideal S32x128 .f32)
      (sqF (V 0))) (sqF (V 1))) (sqF (V 2))) (sqF (V 3))) (sqF (V 4))) (sqF (V 5))) (sqF (V 6))) (sqF (V 7))) (sqF (V 8))) (sqF (V 9)))
      (sqF (V 10))) (sqF (V 11))) (sqF (V 12))) (sqF (V 13))) (sqF (V 14))) (sqF (V 15))) (sqF (V 16))) (sqF (V 17))) (sqF (V 18)))
      (sqF (V 19))) (sqF (V 20))) (sqF (V 21))) (sqF (V 22))) (sqF (V 23))) (sqF (V 24))) (sqF (V 25))) (sqF (V 26))) (sqF (V 27)))
      (sqF (V 28))) (sqF (V 29))) (sqF (V 30))) (sqF (V 31)))

/-- The reciprocal root of the mean square of each row. -/
def rsF (V : Fin 32 → Vec Ideal S32x128 .f32) : FVec Ideal S32x1 .f32 :=
  rsqrt (addf (mulf (shapeCast S32x1 (multiReduction .add [1] S32 (accF V) 0x00000000#32 reduces_S32x128_S32 (.inl rfl) rfl) shapeCasts_S32_S32x1)
    (broadcast S32x1 (Scalar.ofBits (F := Ideal) .f32 0x39800000#32))) (broadcast S32x1 (Scalar.ofBits (F := Ideal) .f32 0x3727C5AC#32)))

/-- One chunk of codes, from the blocks of the residual it squares, the chunk it norms and its weights. -/
def pieceF (sf : Elt Ideal .f32) (V : Fin 32 → Vec Ideal S32x128 .f32) (v : Vec Ideal S32x512 .f32) (w : Vec Ideal S1x512 .f32) :
    FVec Ideal S32x512 .fp8e4m3 :=
  truncf .fp8e4m3 (minimumf (broadcast S32x512 (Scalar.ofBits (F := Ideal) .f32 0x43E00000#32))
    (maximumf (broadcast S32x512 (Scalar.ofBits (F := Ideal) .f32 0xC3E00000#32))
      (divf (mulf (mulf (shapeCast S32x512 v shapeCasts_S32x512_S32x512) (broadcastTo S32x512 (rsF V) broadcasts_S32x1_S32x512))
        (broadcastTo S32x512 (shapeCast S1x512 w shapeCasts_S1x512_S1x512) broadcasts_S1x512_S32x512)) (broadcast S32x512 sf))))
    bitsLt_fp8e4m3_f32

theorem accF_apply (V : Fin 32 → Vec Ideal S32x128 .f32) (y : S32x128.Idx) : accF V y = ∑ c : Fin 32, V c y * V c y := by
  have hsum : ∀ f : Fin 32 → Ideal .f32, ∑ c : Fin 32, f c = (0 : Ideal .f32) + f 0 + f 1 + f 2 + f 3 + f 4 + f 5 + f 6 + f 7 + f 8 + f 9 + f 10 + f 11 + f 12 + f 13 + f 14 + f 15 + f 16 + f 17 + f 18 + f 19
      + f 20 + f 21 + f 22 + f 23 + f 24 + f 25 + f 26 + f 27 + f 28 + f 29 + f 30 + f 31 := by
    intro f
    simp only [Fin.sum_univ_castSucc, Fin.sum_univ_zero]
    rfl
  have hsq : ∀ v : Vec Ideal S32x128 .f32, sqF v y = v y * v y := fun v => by
    unfold sqF
    rw [shapeCast_self v shapeCasts_S32x128_S32x128, mulf_apply]
  have h0 : (broadcast S32x128 (Scalar.ofBits (F := Ideal) .f32 0x00000000#32) : FVec Ideal S32x128 .f32) y = (0 : Ideal .f32) := by
    show Ideal.ofBits .f32 0x00000000#32 = (0 : EReal)
    simp [Ideal.ofBits, Ideal.ieee]
  rw [hsum]
  unfold accF
  simp only [addf_apply, hsq, h0]

theorem rsF_apply (V : Fin 32 → Vec Ideal S32x128 .f32) (i : Fin 32) (f : Fin 4096 → Ideal .f32)
    (hV : ∀ (c : Fin 32) (l : Fin 128), V c (ix2 i l) = f ⟨128 * (c : ℕ) + l, by omega⟩) :
    rsF V (ix2 i (0 : Fin 1)) = Ideal.rsqrt (Ideal.div (∑ k : Fin 4096, f k * f k) (Ideal.ofBits .f32 0x45800000#32) + Ideal.ofBits .f32 0x3727C5AC#32) := by
  have hr := Out.rowSum_apply (accF V) 0x00000000#32 reduces_S32x128_S32 (.inl rfl) rfl i
  have hc := Out.shapeCast_a_a1_apply (multiReduction (F := Ideal) (φ := .f32) .add [1] S32 (accF V) 0x00000000#32 reduces_S32x128_S32 (.inl rfl) rfl)
    shapeCasts_S32_S32x1 i (0 : Fin 1)
  have hs : ∑ l : Fin 128, accF V (ix2 i l) = ∑ k : Fin 4096, f k * f k := by
    rw [← Out.sum_blocks fun k => f k * f k]
    refine Finset.sum_congr rfl fun l _ => ?_
    rw [accF_apply]
    exact Finset.sum_congr rfl fun c _ => by rw [hV]
  unfold rsF
  rw [← Out.mul_inv4096, ← hs, ← hr, ← hc]
  rfl

/-- A chunk of codes at row `a`, column `b`, is the slice of `FB` there, when what it reads back are the slices of the residual. -/
theorem chunkF (x0 x1 : Vec Ideal S1 .f32) (x2 : Vec Ideal S320x2048 .fp8e4m3) (x3 : Vec Ideal S320x4096 .bf16) (x4 : Vec Ideal S2048x4096 .fp8e4m3)
    (x5 x6 : Vec Ideal S1x4096 .f32) (a b : ℕ) (h8 : ∀ d, (![a, b] : Fin 2 → ℕ) d + S32x512.size d ≤ S320x4096.size d)
    (sf : Elt Ideal .f32) (V : Fin 32 → Vec Ideal S32x128 .f32) (v : Vec Ideal S32x512 .f32) (w : Vec Ideal S1x512 .f32)
    (hsf : sf = x1 (ix1 0))
    (hV : ∀ (c : Fin 32) (i : Fin 32) (l : Fin 128) (r : Fin 320) (q : Fin 4096), (r : ℕ) = a + i → (q : ℕ) = 128 * (c : ℕ) + l →
      V c (ix2 i l) = HB x0 x2 x3 x4 x5 (ix2 r q))
    (hv : ∀ (i : Fin 32) (n : Fin 512) (r : Fin 320) (q : Fin 4096), (r : ℕ) = a + i → (q : ℕ) = b + n →
      v (ix2 i n) = HB x0 x2 x3 x4 x5 (ix2 r q))
    (hw : ∀ (n : Fin 512) (q : Fin 4096), (q : ℕ) = b + n → w (ix2 0 n) = x6 (ix2 0 q)) (x : S32x512.Idx) :
    pieceF sf V v w x = FB x0 x1 x2 x3 x4 x5 x6 ((Rect.unit (s := S320x4096) ![a, b] S32x512.size h8).emb x) := by
  subst hsf
  obtain ⟨i, n, rfl⟩ : ∃ (i : Fin 32) (n : Fin 512), x = ix2 i n := ⟨x 0, x 1, eq_ix2 x⟩
  have ha : a + (i : ℕ) < 320 := by have h : a + 32 ≤ 320 := h8 0; have := i.isLt; omega
  have hb : b + (n : ℕ) < 4096 := by have h : b + 512 ≤ 4096 := h8 1; have := n.isLt; omega
  rw [emb_at a b h8 i n ⟨a + i, ha⟩ ⟨b + n, hb⟩ rfl rfl]
  have hrs := rsF_apply V i (fun k => HB x0 x2 x3 x4 x5 (ix2 ⟨a + i, ha⟩ k)) fun c l => hV c i l _ _ rfl rfl
  have hbr : broadcastTo S32x512 (rsF V) broadcasts_S32x1_S32x512 (ix2 i n) = rsF V (ix2 i (0 : Fin 1)) :=
    Out.broadcastTo_a1_ab_apply (rsF V) broadcasts_S32x1_S32x512 i n
  have hcv : shapeCast S32x512 v shapeCasts_S32x512_S32x512 = v := shapeCast_self v shapeCasts_S32x512_S32x512
  have hcw : shapeCast S1x512 w shapeCasts_S1x512_S1x512 = w := shapeCast_self w shapeCasts_S1x512_S1x512
  have hbw : broadcastTo S32x512 w broadcasts_S1x512_S32x512 (ix2 i n) = w (ix2 0 n) := broadcastTo_1b_ab_apply w broadcasts_S1x512_S32x512 i n
  have h1 := hv i n ⟨a + i, ha⟩ ⟨b + n, hb⟩ rfl rfl
  have h2 := hw n ⟨b + n, hb⟩ rfl
  unfold pieceF
  rw [hcv, hcw, truncf_apply, minimumf_apply, maximumf_apply, divf_apply, mulf_apply, mulf_apply, hbr, hbw, hrs, h1, h2]
  rfl

/-- The one entry of a scalar block. -/
theorem ld_one (x : Vec Ideal S1 .f32) (h : ∀ a, (![0] : Fin 1 → ℕ) a + (![1] : Fin 1 → ℕ) a ≤ S1.size a) (j : (⟨1, ![1]⟩ : Shape).Idx) :
    View.ld (Val := Elt Ideal) (e' := .f32) x (Rect.unit (s := S1) ![0] ![1] h) j = x (ix1 0) :=
  congrArg x (funext fun a => match a with | ⟨0, _⟩ => Subsingleton.elim (α := Fin 1) _ _)

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S320x2048 .fp8e4m3) (harg3 : arg3.IsWhole)
  (arg4 : Memref sig .tc .vmem S320x4096 .bf16) (harg4 : arg4.IsWhole)
  (arg5 : Memref sig .tc .vmem S2048x4096 .fp8e4m3) (harg5 : arg5.IsWhole)
  (arg6 : Memref sig .tc .vmem S1x4096 .f32) (harg6 : arg6.IsWhole)
  (arg7 : Memref sig .tc .vmem S1x4096 .f32) (harg7 : arg7.IsWhole)
  (arg8 : Memref sig .tc .vmem S320x4096 .f32) (harg8 : arg8.IsWhole)
  (arg9 : Memref sig .tc .vmem S320x4096 .fp8e4m3) (harg9 : arg9.IsWhole)
  (x0 : Vec Ideal S1 .f32) (x1 : Vec Ideal S1 .f32) (x2 : Vec Ideal S320x2048 .fp8e4m3) (x3 : Vec Ideal S320x4096 .bf16) (x4 : Vec Ideal S2048x4096 .fp8e4m3) (x5 : Vec Ideal S1x4096 .f32) (x6 : Vec Ideal S1x4096 .f32)

/-- Every stored chunk of the residual is the slice of `HB` under it. -/
theorem piecesH : ∀ p ∈ kernelRun0_A.sl.H7_8 (F := Ideal) c arg1 harg1 arg3 harg3 arg4 harg4 arg5 harg5 arg6 harg6 x0 x2 x3 x4 x5, ∀ x : p.1.shape.Idx, p.2 x = HB x0 x2 x3 x4 x5 (p.1.emb x) := by
  sl_unfold_run_names
  simp only [View.readAt_eq_ld, Memref.IsWhole.read_unread]
  simp only [pay4_eq, pay5_eq, pay6_eq, pay8_eq, pay9_eq, pay10_eq, pay11_eq]
  refine List.forall_mem_cons.mpr ⟨?_, ?_⟩
  · exact fun x => chunkH x0 x2 x3 x4 x5 3584 _ inb_S320x4096_S320x512_0_3584 _ _ x _ (ld_one x0 _ _)
  refine List.forall_mem_cons.mpr ⟨?_, ?_⟩
  · exact fun x => chunkH x0 x2 x3 x4 x5 3072 _ inb_S320x4096_S320x512_0_3072 _ _ x _ (ld_one x0 _ _)
  refine List.forall_mem_cons.mpr ⟨?_, ?_⟩
  · exact fun x => chunkH x0 x2 x3 x4 x5 2560 _ inb_S320x4096_S320x512_0_2560 _ _ x _ (ld_one x0 _ _)
  refine List.forall_mem_cons.mpr ⟨?_, ?_⟩
  · exact fun x => chunkH x0 x2 x3 x4 x5 2048 _ inb_S320x4096_S320x512_0_2048 _ _ x _ (ld_one x0 _ _)
  refine List.forall_mem_cons.mpr ⟨?_, ?_⟩
  · exact fun x => chunkH x0 x2 x3 x4 x5 1536 _ inb_S320x4096_S320x512_0_1536 _ _ x _ (ld_one x0 _ _)
  refine List.forall_mem_cons.mpr ⟨?_, ?_⟩
  · exact fun x => chunkH x0 x2 x3 x4 x5 1024 _ inb_S320x4096_S320x512_0_1024 _ _ x _ (ld_one x0 _ _)
  refine List.forall_mem_cons.mpr ⟨?_, ?_⟩
  · exact fun x => chunkH x0 x2 x3 x4 x5 512 _ inb_S320x4096_S320x512_0_512 _ _ x _ (ld_one x0 _ _)
  refine List.forall_mem_cons.mpr ⟨?_, ?_⟩
  · exact fun x => chunkH x0 x2 x3 x4 x5 0 _ inb_S320x4096_S320x512_0_0 _ _ x _ (ld_one x0 _ _)
  exact List.forall_mem_nil _

/-- The chunks of the residual cover the buffer. -/
theorem coverH (y : S320x4096.Idx) : ∃ p ∈ kernelRun0_A.sl.H7_8 (F := Ideal) c arg1 harg1 arg3 harg3 arg4 harg4 arg5 harg5 arg6 harg6 x0 x2 x3 x4 x5, y ∈ p.1.set :=
  View.cover_of_tiledL (kernelRun0_A.sl.H7_8 (F := Ideal) c arg1 harg1 arg3 harg3 arg4 harg4 arg5 harg5 arg6 harg6 x0 x2 x3 x4 x5) S320x512.size (by sl_kernel_rfl) y

/-- The residual's buffer after the run, whatever it held. -/
theorem outH (v : View sig .tc .vmem S320x4096 .f32) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 x0 x1 x2 x3 x4 x5 x6).1) = HB x0 x2 x3 x4 x5 := by
  funext y
  unfold kernelRun0_A
  exact View.read_writes_apply_of_pieces _ _ (HB x0 x2 x3 x4 x5) _ (piecesH c arg1 harg1 arg3 harg3 arg4 harg4 arg5 harg5 arg6 harg6 x0 x2 x3 x4 x5) y (coverH c arg1 harg1 arg3 harg3 arg4 harg4 arg5 harg5 arg6 harg6 x0 x2 x3 x4 x5 y)

/-- Any rectangle of the residual's buffer read back after its stores is the slice of `HB` there. -/
theorem back {R' n' : ℕ} (a b : ℕ) (h : ∀ d, (![a, b] : Fin 2 → ℕ) d + (![R', n'] : Fin 2 → ℕ) d ≤ S320x4096.size d) (i : Fin R') (n : Fin n')
    (r : Fin 320) (q : Fin 4096) (hr : (r : ℕ) = a + i) (hq : (q : ℕ) = b + n) :
    arg8.view.readCov (kernelRun0_A.sl.H7_8 (F := Ideal) c arg1 harg1 arg3 harg3 arg4 harg4 arg5 harg5 arg6 harg6 x0 x2 x3 x4 x5) (Rect.unit (s := S320x4096) ![a, b] ![R', n'] h).toLoadRect (ix2 i n)
      = HB x0 x2 x3 x4 x5 (ix2 r q) := by
  have hp := View.read_writes_apply_of_pieces arg8.view arg8.view.junk (HB x0 x2 x3 x4 x5) _ (piecesH c arg1 harg1 arg3 harg3 arg4 harg4 arg5 harg5 arg6 harg6 x0 x2 x3 x4 x5) (ix2 r q) (coverH c arg1 harg1 arg3 harg3 arg4 harg4 arg5 harg5 arg6 harg6 x0 x2 x3 x4 x5 (ix2 r q))
  rw [View.readCov, View.readAt_eq_ld]
  exact (ld_at _ a b h i n r q hr hq).trans hp

/-- The same with the codes' chunk read: the whole buffers in, the 32 blocks and the chunk read back out. -/
def PF (a b : ℕ) (hV : ∀ k : Fin 32, ∀ d, (![a, 128 * (k : ℕ)] : Fin 2 → ℕ) d + S32x128.size d ≤ S320x4096.size d)
    (hv : ∀ d, (![a, b] : Fin 2 → ℕ) d + S32x512.size d ≤ S320x4096.size d) (hw : ∀ d, (![0, b] : Fin 2 → ℕ) d + S1x512.size d ≤ S1x4096.size d) :
    FVec Ideal S32x512 .fp8e4m3 :=
  pieceF (kernelRun0_A.sl.r_4 (F := Ideal) c arg2 harg2 x1)
    (fun k => arg8.view.readCov (kernelRun0_A.sl.H7_8 (F := Ideal) c arg1 harg1 arg3 harg3 arg4 harg4 arg5 harg5 arg6 harg6 x0 x2 x3 x4 x5) (Rect.unit (s := S320x4096) ![a, 128 * (k : ℕ)] S32x128.size (hV k)).toLoadRect)
    (arg8.view.readCov (kernelRun0_A.sl.H7_8 (F := Ideal) c arg1 harg1 arg3 harg3 arg4 harg4 arg5 harg5 arg6 harg6 x0 x2 x3 x4 x5) (Rect.unit (s := S320x4096) ![a, b] S32x512.size hv).toLoadRect)
    (View.readAt (Elt Ideal) arg7.view (Rect.unit (s := S1x4096) ![0, b] S1x512.size hw).toLoadRect (harg7.unread x6))

theorem inbV (a : ℕ) (ha : a + 32 ≤ 320) (k : Fin 32) (d) : (![a, 128 * (k : ℕ)] : Fin 2 → ℕ) d + S32x128.size d ≤ S320x4096.size d := by
  match d with
  | ⟨0, _⟩ => exact ha
  | ⟨1, _⟩ => show 128 * (k : ℕ) + 128 ≤ 4096; omega

theorem PF_eq (a b : ℕ) (hV hv hw) (x : S32x512.Idx) :
    PF c arg1 harg1 arg2 harg2 arg3 harg3 arg4 harg4 arg5 harg5 arg6 harg6 arg7 harg7 arg8 x0 x1 x2 x3 x4 x5 x6 a b hV hv hw x
      = FB x0 x1 x2 x3 x4 x5 x6 ((Rect.unit (s := S320x4096) ![a, b] S32x512.size hv).emb x) := by
  unfold PF
  refine chunkF x0 x1 x2 x3 x4 x5 x6 a b hv _ _ _ _ ?_ ?_ ?_ ?_ x
  · unfold kernelRun0_A.sl.r_4
    rw [View.readAt_eq_ld, Memref.IsWhole.read_unread]
    exact ld_one x1 _ _
  · exact fun k i l r q hr hq => back c arg1 harg1 arg3 harg3 arg4 harg4 arg5 harg5 arg6 harg6 arg8 x0 x2 x3 x4 x5 a (128 * (k : ℕ)) (hV k) i l r q hr hq
  · exact fun i n r q hr hq => back c arg1 harg1 arg3 harg3 arg4 harg4 arg5 harg5 arg6 harg6 arg8 x0 x2 x3 x4 x5 a b hv i n r q hr hq
  · intro n q hq
    rw [View.readAt_eq_ld, Memref.IsWhole.read_unread]
    exact ld_at x6 0 b hw (0 : Fin 1) n (0 : Fin 1) q rfl hq

end Cert.OutKernelIdeal.Hand

end
-- ==== Proof.OutCodes.lean ====
/- The codes the output projection's body stores: each of the 80 chunks is the slice of the row function `FB` under it, and the
   chunks cover the buffer, so that is what the buffer ends holding. -/
module

public import proofs.«01_k».proof.Proof.OutPieces
public import Idealize.ShloMosaic.Lib.Pipeline.ValueKit
public import Idealize.ShloMosaic.Lib.ValueLayout

@[expose] public section

set_option maxRecDepth 16384

noncomputable section

namespace Cert.OutKernelIdeal.Hand

open Cert.OutKernelIdeal Cert.OutKernelIdeal.Gen
open Idealize.ShloMosaic hiding ix0 ix1 ix2 ix3 ix4 ix5 eq_ix2
open Idealize.ShloMosaic.TcCoe Idealize.ShloMosaic.ValueIdx Idealize.ShloMosaic.Tactic
open Idealize.SL Idealize.SL.Sem
open scoped BigOperators

variable (c : Dev nD) (i : grid0.Coords)
  (arg1 : Memref sig .tc .smem S1 .f32) (harg1 : arg1.IsWhole)
  (arg2 : Memref sig .tc .smem S1 .f32) (harg2 : arg2.IsWhole)
  (arg3 : Memref sig .tc .vmem S320x2048 .fp8e4m3) (harg3 : arg3.IsWhole)
  (arg4 : Memref sig .tc .vmem S320x4096 .bf16) (harg4 : arg4.IsWhole)
  (arg5 : Memref sig .tc .vmem S2048x4096 .fp8e4m3) (harg5 : arg5.IsWhole)
  (arg6 : Memref sig .tc .vmem S1x4096 .f32) (harg6 : arg6.IsWhole)
  (arg7 : Memref sig .tc .vmem S1x4096 .f32) (harg7 : arg7.IsWhole)
  (arg8 : Memref sig .tc .vmem S320x4096 .f32) (harg8 : arg8.IsWhole)
  (arg9 : Memref sig .tc .vmem S320x4096 .fp8e4m3) (harg9 : arg9.IsWhole)
  (x0 : Vec Ideal S1 .f32) (x1 : Vec Ideal S1 .f32) (x2 : Vec Ideal S320x2048 .fp8e4m3) (x3 : Vec Ideal S320x4096 .bf16) (x4 : Vec Ideal S2048x4096 .fp8e4m3) (x5 : Vec Ideal S1x4096 .f32) (x6 : Vec Ideal S1x4096 .f32)

/-- Every stored chunk of codes is the slice of `FB` under it. -/
theorem piecesF : ∀ p ∈ (kernelRun0_A (F := Ideal) c i arg1 harg1 arg2 harg2 arg3 harg3 arg4 harg4 arg5 harg5 arg6 harg6 arg7 harg7 arg8 harg8 arg9 harg9 x0 x1 x2 x3 x4 x5 x6).2.1, ∀ x : p.1.shape.Idx, p.2 x = FB x0 x1 x2 x3 x4 x5 x6 (p.1.emb x) := by
  unfold kernelRun0_A
  dsimp only
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 3584 (inbV 288 (by decide)) inb_S320x4096_S32x512_288_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 3072 (inbV 288 (by decide)) inb_S320x4096_S32x512_288_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 2560 (inbV 288 (by decide)) inb_S320x4096_S32x512_288_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 2048 (inbV 288 (by decide)) inb_S320x4096_S32x512_288_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 1536 (inbV 288 (by decide)) inb_S320x4096_S32x512_288_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 1024 (inbV 288 (by decide)) inb_S320x4096_S32x512_288_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 512 (inbV 288 (by decide)) inb_S320x4096_S32x512_288_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 288 0 (inbV 288 (by decide)) inb_S320x4096_S32x512_288_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 3584 (inbV 256 (by decide)) inb_S320x4096_S32x512_256_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 3072 (inbV 256 (by decide)) inb_S320x4096_S32x512_256_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 2560 (inbV 256 (by decide)) inb_S320x4096_S32x512_256_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 2048 (inbV 256 (by decide)) inb_S320x4096_S32x512_256_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 1536 (inbV 256 (by decide)) inb_S320x4096_S32x512_256_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 1024 (inbV 256 (by decide)) inb_S320x4096_S32x512_256_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 512 (inbV 256 (by decide)) inb_S320x4096_S32x512_256_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 256 0 (inbV 256 (by decide)) inb_S320x4096_S32x512_256_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 3584 (inbV 224 (by decide)) inb_S320x4096_S32x512_224_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 3072 (inbV 224 (by decide)) inb_S320x4096_S32x512_224_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 2560 (inbV 224 (by decide)) inb_S320x4096_S32x512_224_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 2048 (inbV 224 (by decide)) inb_S320x4096_S32x512_224_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 1536 (inbV 224 (by decide)) inb_S320x4096_S32x512_224_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 1024 (inbV 224 (by decide)) inb_S320x4096_S32x512_224_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 512 (inbV 224 (by decide)) inb_S320x4096_S32x512_224_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 224 0 (inbV 224 (by decide)) inb_S320x4096_S32x512_224_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 3584 (inbV 192 (by decide)) inb_S320x4096_S32x512_192_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 3072 (inbV 192 (by decide)) inb_S320x4096_S32x512_192_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 2560 (inbV 192 (by decide)) inb_S320x4096_S32x512_192_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 2048 (inbV 192 (by decide)) inb_S320x4096_S32x512_192_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 1536 (inbV 192 (by decide)) inb_S320x4096_S32x512_192_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 1024 (inbV 192 (by decide)) inb_S320x4096_S32x512_192_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 512 (inbV 192 (by decide)) inb_S320x4096_S32x512_192_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 192 0 (inbV 192 (by decide)) inb_S320x4096_S32x512_192_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 3584 (inbV 160 (by decide)) inb_S320x4096_S32x512_160_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 3072 (inbV 160 (by decide)) inb_S320x4096_S32x512_160_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 2560 (inbV 160 (by decide)) inb_S320x4096_S32x512_160_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 2048 (inbV 160 (by decide)) inb_S320x4096_S32x512_160_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 1536 (inbV 160 (by decide)) inb_S320x4096_S32x512_160_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 1024 (inbV 160 (by decide)) inb_S320x4096_S32x512_160_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 512 (inbV 160 (by decide)) inb_S320x4096_S32x512_160_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 160 0 (inbV 160 (by decide)) inb_S320x4096_S32x512_160_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 3584 (inbV 128 (by decide)) inb_S320x4096_S32x512_128_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 3072 (inbV 128 (by decide)) inb_S320x4096_S32x512_128_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 2560 (inbV 128 (by decide)) inb_S320x4096_S32x512_128_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 2048 (inbV 128 (by decide)) inb_S320x4096_S32x512_128_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 1536 (inbV 128 (by decide)) inb_S320x4096_S32x512_128_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 1024 (inbV 128 (by decide)) inb_S320x4096_S32x512_128_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 512 (inbV 128 (by decide)) inb_S320x4096_S32x512_128_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 128 0 (inbV 128 (by decide)) inb_S320x4096_S32x512_128_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 3584 (inbV 96 (by decide)) inb_S320x4096_S32x512_96_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 3072 (inbV 96 (by decide)) inb_S320x4096_S32x512_96_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 2560 (inbV 96 (by decide)) inb_S320x4096_S32x512_96_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 2048 (inbV 96 (by decide)) inb_S320x4096_S32x512_96_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 1536 (inbV 96 (by decide)) inb_S320x4096_S32x512_96_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 1024 (inbV 96 (by decide)) inb_S320x4096_S32x512_96_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 512 (inbV 96 (by decide)) inb_S320x4096_S32x512_96_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 96 0 (inbV 96 (by decide)) inb_S320x4096_S32x512_96_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 3584 (inbV 64 (by decide)) inb_S320x4096_S32x512_64_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 3072 (inbV 64 (by decide)) inb_S320x4096_S32x512_64_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 2560 (inbV 64 (by decide)) inb_S320x4096_S32x512_64_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 2048 (inbV 64 (by decide)) inb_S320x4096_S32x512_64_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 1536 (inbV 64 (by decide)) inb_S320x4096_S32x512_64_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 1024 (inbV 64 (by decide)) inb_S320x4096_S32x512_64_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 512 (inbV 64 (by decide)) inb_S320x4096_S32x512_64_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 64 0 (inbV 64 (by decide)) inb_S320x4096_S32x512_64_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 3584 (inbV 32 (by decide)) inb_S320x4096_S32x512_32_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 3072 (inbV 32 (by decide)) inb_S320x4096_S32x512_32_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 2560 (inbV 32 (by decide)) inb_S320x4096_S32x512_32_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 2048 (inbV 32 (by decide)) inb_S320x4096_S32x512_32_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 1536 (inbV 32 (by decide)) inb_S320x4096_S32x512_32_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 1024 (inbV 32 (by decide)) inb_S320x4096_S32x512_32_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 512 (inbV 32 (by decide)) inb_S320x4096_S32x512_32_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 32 0 (inbV 32 (by decide)) inb_S320x4096_S32x512_32_0 inb_S1x4096_S1x512_0_0 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 3584 (inbV 0 (by decide)) inb_S320x4096_S32x512_0_3584 inb_S1x4096_S1x512_0_3584 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 3072 (inbV 0 (by decide)) inb_S320x4096_S32x512_0_3072 inb_S1x4096_S1x512_0_3072 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 2560 (inbV 0 (by decide)) inb_S320x4096_S32x512_0_2560 inb_S1x4096_S1x512_0_2560 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 2048 (inbV 0 (by decide)) inb_S320x4096_S32x512_0_2048 inb_S1x4096_S1x512_0_2048 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 1536 (inbV 0 (by decide)) inb_S320x4096_S32x512_0_1536 inb_S1x4096_S1x512_0_1536 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 1024 (inbV 0 (by decide)) inb_S320x4096_S32x512_0_1024 inb_S1x4096_S1x512_0_1024 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 512 (inbV 0 (by decide)) inb_S320x4096_S32x512_0_512 inb_S1x4096_S1x512_0_512 x
  refine List.forall_mem_cons.mpr ⟨?_, ?_⟩
  · exact fun x => PF_eq c arg1 harg1 arg2 harg2 arg3 harg3 arg4 harg4 arg5 harg5 arg6 harg6 arg7 harg7 arg8 x0 x1 x2 x3 x4 x5 x6 0 0 (inbV 0 (by decide)) inb_S320x4096_S32x512_0_0 inb_S1x4096_S1x512_0_0 x
  exact List.forall_mem_nil _

/-- The codes' buffer after the run, whatever it held. -/
theorem outF (v : View sig .tc .vmem S320x4096 .fp8e4m3) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 x0 x1 x2 x3 x4 x5 x6).2.1) = FB x0 x1 x2 x3 x4 x5 x6 := by
  funext y
  exact View.read_writes_apply_of_pieces _ _ (FB x0 x1 x2 x3 x4 x5 x6) _ (piecesF c i arg1 harg1 arg2 harg2 arg3 harg3 arg4 harg4 arg5 harg5 arg6 harg6 arg7 harg7 arg8 harg8 arg9 harg9 x0 x1 x2 x3 x4 x5 x6) y
    (View.cover_of_tiledL (kernelRun0_A (F := Ideal) c i arg1 harg1 arg2 harg2 arg3 harg3 arg4 harg4 arg5 harg5 arg6 harg6 arg7 harg7 arg8 harg8 arg9 harg9 x0 x1 x2 x3 x4 x5 x6).2.1 S32x512.size (by sl_kernel_rfl) y)

end Cert.OutKernelIdeal.Hand

end
-- ==== Proof.OutExact.lean ====
/- THE RUN of the idealized output projection with its two outputs NAMED: at every grid point the body leaves in the residual's and
   the codes' buffers `HB` and `FB` of the blocks it was given, on the rows inside the arrays. -/
module

public import proofs.«01_k».proof.Proof.OutFrame
public import proofs.«01_k».proof.Proof.OutCodes

@[expose] public section

set_option maxRecDepth 16384

noncomputable section

namespace Cert.OutKernelIdeal.Hand.Exact

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.OutKernelIdeal.Hand
open Cert.OutKernelIdeal.Hand.Forget (rblk2 rblk3 cut_rblk2 cut_rblk3)

local notation "𝕄" => MT nD τ sig Unit (Elt Ideal) ℕ (UR sig nD τ) ℕ

variable (m : (ℓ : Loc nD τ sig) → Buf (Elt Ideal) ℓ) (ρ : Dev nD → PrngReg)

/-! ## The rows inside the array -/

theorem xsize2 (t : Fin cfg0.N) : win0_2.xsize (grid0.coords t) 0 = win0_7.xsize (grid0.coords t) 0 := rfl
theorem xsize3 (t : Fin cfg0.N) : win0_3.xsize (grid0.coords t) 0 = win0_7.xsize (grid0.coords t) 0 := rfl
theorem xsize8 (t : Fin cfg0.N) : win0_8.xsize (grid0.coords t) 0 = win0_7.xsize (grid0.coords t) 0 := rfl
theorem xsize2' (t : Fin cfg0.N) : win0_2.xsize (grid0.coords t) 1 = 2048 := rfl
theorem xsize3' (t : Fin cfg0.N) : win0_3.xsize (grid0.coords t) 1 = 4096 := rfl

/-- A row of a row-blocked input that lies inside the array is the fetched one, whatever filled the rest. -/
theorem fill2_row (t : Fin cfg0.N) (d d' : Vec Ideal S320x2048 .fp8e4m3) (g) (r : Fin 320)
    (hr : (r : Nat) < win0_7.xsize (grid0.coords t) 0) (k : Fin 2048) :
    win0_2.fill (grid0.coords t) d g (ix2 r k) = win0_2.fill (grid0.coords t) d' g (ix2 r k) := by
  have hm : win0_2.moved (grid0.coords t) (ix2 r k) = true := (win0_2.moved_iff _ _).mpr fun a => match a with
    | ⟨0, _⟩ => hr
    | ⟨1, _⟩ => k.isLt.trans_eq (xsize2' t).symm
  unfold Window.fill; rw [dif_pos hm, dif_pos hm]
theorem fill3_row (t : Fin cfg0.N) (d d' : Vec Ideal S320x4096 .bf16) (g) (r : Fin 320)
    (hr : (r : Nat) < win0_7.xsize (grid0.coords t) 0) (k : Fin 4096) :
    win0_3.fill (grid0.coords t) d g (ix2 r k) = win0_3.fill (grid0.coords t) d' g (ix2 r k) := by
  have hm : win0_3.moved (grid0.coords t) (ix2 r k) = true := (win0_3.moved_iff _ _).mpr fun a => match a with
    | ⟨0, _⟩ => hr
    | ⟨1, _⟩ => k.isLt.trans_eq (xsize3' t).symm
  unfold Window.fill; rw [dif_pos hm, dif_pos hm]

/-- A row of the residual depends on that row of the two row-blocked inputs only, -/
theorem HB_row (x0 : Vec Ideal S1 .f32) (x2 x2' : Vec Ideal S320x2048 .fp8e4m3) (x3 x3' : Vec Ideal S320x4096 .bf16) (x4 : Vec Ideal S2048x4096 .fp8e4m3)
    (x5 : Vec Ideal S1x4096 .f32) (y : S320x4096.Idx) (h : ∀ k, x2 (ix2 (y 0) k) = x2' (ix2 (y 0) k)) (h3 : ∀ k, x3 (ix2 (y 0) k) = x3' (ix2 (y 0) k)) :
    HB x0 x2 x3 x4 x5 y = HB x0 x2' x3' x4 x5 y := by
  exact Out.hval_congr rfl (h3 (y 1)) (funext h) rfl rfl rfl

/-- and so does a row of the codes. -/
theorem FB_row (x0 x1 : Vec Ideal S1 .f32) (x2 x2' : Vec Ideal S320x2048 .fp8e4m3) (x3 x3' : Vec Ideal S320x4096 .bf16) (x4 : Vec Ideal S2048x4096 .fp8e4m3)
    (x5 x6 : Vec Ideal S1x4096 .f32) (y : S320x4096.Idx) (h : ∀ k, x2 (ix2 (y 0) k) = x2' (ix2 (y 0) k)) (h3 : ∀ k, x3 (ix2 (y 0) k) = x3' (ix2 (y 0) k)) :
    FB x0 x1 x2 x3 x4 x5 x6 y = FB x0 x1 x2' x3' x4 x5 x6 y := by
  exact Out.fval_congr rfl (funext fun k : Fin 4096 => HB_row x0 x2 x2' x3 x3' x4 x5 (ix2 (y 0) k : S320x4096.Idx) h h3) rfl rfl

/-! ## The pipeline's proof data -/

/-- The proof data of the one pipeline on core `c`: the arrays as the region finds them (`V`); after the body at
    point `t` each input's buffer at its block and the outputs at what the body computes from the blocks; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rblk2 m c t
    | ⟨3, _⟩ => rblk3 m c t
    | ⟨4, _⟩ => iblk m c 4 t
    | ⟨5, _⟩ => iblk m c 5 t
    | ⟨6, _⟩ => iblk m c 6 t
    | ⟨7, _⟩ => HB (iblk m c 0 t) (rblk2 m c t) (rblk3 m c t) (iblk m c 4 t) (iblk m c 5 t)
    | ⟨8, _⟩ => FB (iblk m c 0 t) (iblk m c 1 t) (rblk2 m c t) (rblk3 m c t) (iblk m c 4 t) (iblk m c 5 t) (iblk m c 6 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rblk2 m c t := by dsimp only [dats]
theorem after0_3 (c : Dev nD) (t : Fin cfg0.N) : (dats m 0 c).after 3 t = rblk3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t = HB (iblk m c 0 t) (rblk2 m c t) (rblk3 m c t) (iblk m c 4 t) (iblk m c 5 t) := by dsimp only [dats]
theorem after0_8 (c : Dev nD) (t : Fin cfg0.N) : (dats m 0 c).after 8 t = FB (iblk m c 0 t) (iblk m c 1 t) (rblk2 m c t) (rblk3 m c t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem cut_after2 (c : Dev nD) (t : Fin cfg0.N) : win0_2.cut (grid0.coords t) ((dats m 0 c).after 2 t) = iblk m c 2 t := by
  rw [after0_2]; exact cut_rblk2 m c t
theorem cut_after3 (c : Dev nD) (t : Fin cfg0.N) : win0_3.cut (grid0.coords t) ((dats m 0 c).after 3 t) = iblk m c 3 t := by
  rw [after0_3]; exact cut_rblk3 m c t

/-- Only rows inside the array are flushed, and on those the body's residual does not depend on what lies past the array's end, -/
theorem fill_after7 (c : Dev nD) (t : Fin cfg0.N) (d2 d3) :
    win0_7.fill (grid0.coords t) (HB (iblk m c 0 t) (win0_2.fill (grid0.coords t) d2 (iblk m c 2 t)) (win0_3.fill (grid0.coords t) d3 (iblk m c 3 t)) (iblk m c 4 t) (iblk m c 5 t))
      (win0_7.cut (grid0.coords t) ((dats m 0 c).after 7 t))
    = HB (iblk m c 0 t) (win0_2.fill (grid0.coords t) d2 (iblk m c 2 t)) (win0_3.fill (grid0.coords t) d3 (iblk m c 3 t)) (iblk m c 4 t) (iblk m c 5 t) := by
  apply win0_7.fill_congr_cut
  rw [after0_7]
  funext j
  exact HB_row _ _ _ _ _ _ _ _ (fun k => fill2_row t _ _ _ _ (j 0).isLt k) fun k => fill3_row t _ _ _ _ (j 0).isLt k

/-- nor do the codes. -/
theorem fill_after8 (c : Dev nD) (t : Fin cfg0.N) (d2 d3) :
    win0_8.fill (grid0.coords t) (FB (iblk m c 0 t) (iblk m c 1 t) (win0_2.fill (grid0.coords t) d2 (iblk m c 2 t)) (win0_3.fill (grid0.coords t) d3 (iblk m c 3 t)) (iblk m c 4 t) (iblk m c 5 t) (iblk m c 6 t))
      (win0_8.cut (grid0.coords t) ((dats m 0 c).after 8 t))
    = FB (iblk m c 0 t) (iblk m c 1 t) (win0_2.fill (grid0.coords t) d2 (iblk m c 2 t)) (win0_3.fill (grid0.coords t) d3 (iblk m c 3 t)) (iblk m c 4 t) (iblk m c 5 t) (iblk m c 6 t) := by
  apply win0_8.fill_congr_cut
  rw [after0_8]
  funext j
  exact FB_row _ _ _ _ _ _ _ _ _ _ (fun k => fill2_row t _ _ _ _ ((j 0).isLt.trans_eq (xsize8 t)) k) fun k => fill3_row t _ _ _ _ ((j 0).isLt.trans_eq (xsize8 t)) k

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare (win0_7.fill (grid0.coords t) d (win0_7.cut (grid0.coords t) ((dats m 0 c).after 7 t))))
    ∗ (∃ d, owns (c : Thread nD τ) (ms0_8 t) fullShare (win0_8.fill (grid0.coords t) d (win0_8.cut (grid0.coords t) ((dats m 0 c).after 8 t)))))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexists d2; rw [cut_after2]; iexact H2
  isplitl [H3]; · iexists d3; rw [cut_after3]; iexact H3
  isplitl [H4]; · iexact H4
  isplitl [H5]; · iexact H5
  isplitl [H6]; · iexact H6
  isplitl [H7]
  · iexists (HB (iblk m c 0 t) (win0_2.fill (grid0.coords t) d2 (iblk m c 2 t)) (win0_3.fill (grid0.coords t) d3 (iblk m c 3 t)) (iblk m c 4 t) (iblk m c 5 t))
    rw [fill_after7]
    unfold owns; iexists _; isplitr; swap; · iexact H7
    ipureintro; exact outH c (grid0.coords t) _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) _ e7
  iexists (FB (iblk m c 0 t) (iblk m c 1 t) (win0_2.fill (grid0.coords t) d2 (iblk m c 2 t)) (win0_3.fill (grid0.coords t) d3 (iblk m c 3 t)) (iblk m c 4 t) (iblk m c 5 t) (iblk m c 6 t))
  rw [fill_after8]
  unfold owns; iexists _; isplitr; swap; · iexact H8
  ipureintro; exact outF c (grid0.coords t) _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) _ e8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: every final state has the arrays at what the library computes from the proof data, every other unscoped
    buffer as the region found it, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.OutKernelIdeal.Hand.Exact

end
-- ==== Proof.OutValue.lean ====
/- The two result arrays of the idealized output projection after its run, each one function of the arguments, index by index. -/
module

public import proofs.«01_k».proof.Proof.OutExact
public import Idealize.ShloMosaic.Lib.Pipeline.ValueKit
public import Idealize.ShloMosaic.Lib.ValueLayout

@[expose] public section

set_option maxRecDepth 16384

noncomputable section

namespace Cert.OutKernelIdeal.Hand.Exact

open Cert.OutKernelIdeal Cert.OutKernelIdeal.Gen
open Idealize.ShloMosaic hiding ix0 ix1 ix2 ix3 ix4 ix5 eq_ix2
open Idealize.ShloMosaic.TcCoe Idealize.SL.Sem
open Idealize.ShloMosaic.Pipeline (Dat Cfg Window)
open Idealize.ShloMosaic.ValueIdx (ix1 ix2)
open Cert.OutKernelIdeal.Hand
open Cert.OutKernelIdeal.Hand.Forget (rblk2 rblk3)

/-- The residual, from the whole arguments; -/
def GH (a0 : Vec Ideal S1 .f32) (a2 : Vec Ideal S8232x2048 .fp8e4m3) (a3 : Vec Ideal S8232x4096 .bf16) (a4 : Vec Ideal S2048x4096 .fp8e4m3)
    (a5 : Vec Ideal S4096 .f32) : Vec Ideal S8232x4096 .f32 := fun i =>
  Out.hval (a0 (ix1 0)) (a3 (ix2 (i 0) (i 1))) (fun k => a2 (ix2 (i 0) k)) (fun k n => a4 (ix2 k n)) (fun n => a5 (ix1 n)) (i 1)

/-- and the codes. -/
def GF (a0 a1 : Vec Ideal S1 .f32) (a2 : Vec Ideal S8232x2048 .fp8e4m3) (a3 : Vec Ideal S8232x4096 .bf16) (a4 : Vec Ideal S2048x4096 .fp8e4m3)
    (a5 a6 : Vec Ideal S4096 .f32) : Vec Ideal S8232x4096 .fp8e4m3 := fun i =>
  Out.fval (a1 (ix1 0)) (fun k => GH a0 a2 a3 a4 a5 (ix2 (i 0) k)) (fun n => a6 (ix1 n)) (i 1)

variable (m : (ℓ : Loc nD τ sig) → Buf (Elt Ideal) ℓ) (ρ : Dev nD → PrngReg)

/-! ## The region's entry: two reshapes of arguments -/

theorem V_main_v0 (c : Dev nD) :
    V m c main_v0 = shapeCast S1x4096 (m ((c : Thread nD τ).loc main_arg5) : Vec Ideal S4096 .f32) shapeCasts_S4096_S1x4096 := by
  show StableHlo.after hostOps0 _ (Proc.devRef .tc main_v0) = _
  after_results
  rfl

theorem V_main_v1 (c : Dev nD) :
    V m c main_v1 = shapeCast S1x4096 (m ((c : Thread nD τ).loc main_arg6) : Vec Ideal S4096 .f32) shapeCasts_S4096_S1x4096 := by
  show StableHlo.after hostOps0 _ (Proc.devRef .tc main_v1) = _
  after_results
  rfl

/-! ## Where each block lies -/

theorem idx0 : ∀ t : Fin cfg0.N, win0_0.index t = ![0] := by decide +kernel
theorem idx1 : ∀ t : Fin cfg0.N, win0_1.index t = ![0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel

theorem covers7 : (cfg0.win 7).Covers := by decide +kernel
theorem covers8 : (cfg0.win 8).Covers := by decide +kernel

/-! ## Each block, at coordinates -/

theorem blk0 (c : Dev nD) (t : Fin cfg0.N) : iblk m c 0 t (ix1 0) = m ((c : Thread nD τ).loc main_arg0) (ix1 0 : S1.Idx) := by
  refine Eq.trans ?_ (congrFun (V_main_arg0 m c) (ix1 0 : S1.Idx))
  blk_simp [iblk, idx0]
  refine congrArg _ ?_
  blk_ext [idx0]

theorem blk1 (c : Dev nD) (t : Fin cfg0.N) : iblk m c 1 t (ix1 0) = m ((c : Thread nD τ).loc main_arg1) (ix1 0 : S1.Idx) := by
  refine Eq.trans ?_ (congrFun (V_main_arg1 m c) (ix1 0 : S1.Idx))
  blk_simp [iblk, idx1]
  refine congrArg _ ?_
  blk_ext [idx1]

theorem blk4 (c : Dev nD) (t : Fin cfg0.N) (k : Fin 2048) (n : Fin 4096) :
    iblk m c 4 t (ix2 k n) = m ((c : Thread nD τ).loc main_arg4) (ix2 k n : S2048x4096.Idx) := by
  refine Eq.trans ?_ (congrFun (V_main_arg4 m c) (ix2 k n : S2048x4096.Idx))
  blk_simp [iblk, idx4]
  refine congrArg _ ?_
  blk_ext [idx4]

theorem blk5 (c : Dev nD) (t : Fin cfg0.N) (n : Fin 4096) :
    iblk m c 5 t (ix2 0 n) = m ((c : Thread nD τ).loc main_arg5) (ix1 n : S4096.Idx) := by
  refine Eq.trans ?_ ((congrFun (V_main_v0 m c) (ix2 0 n : S1x4096.Idx)).trans (ValueIdx.shapeCast_a_1a_apply _ _ 0 n))
  blk_simp [iblk, idx5]
  refine congrArg _ ?_
  blk_ext [idx5]

theorem blk6 (c : Dev nD) (t : Fin cfg0.N) (n : Fin 4096) :
    iblk m c 6 t (ix2 0 n) = m ((c : Thread nD τ).loc main_arg6) (ix1 n : S4096.Idx) := by
  refine Eq.trans ?_ ((congrFun (V_main_v1 m c) (ix2 0 n : S1x4096.Idx)).trans (ValueIdx.shapeCast_a_1a_apply _ _ 0 n))
  blk_simp [iblk, idx6]
  refine congrArg _ ?_
  blk_ext [idx6]

/-- Row `r` of point `t`'s block, if it lies inside the array, is the array's row `320 t + r`. -/
theorem rblk2_row (c : Dev nD) (t : Fin cfg0.N) (r : Fin 320) (hr : (r : Nat) < win0_7.xsize (grid0.coords t) 0) (k : Fin 2048)
    (R : Fin 8232) (hR : (R : Nat) = t.val * 320 + r) :
    rblk2 m c t (ix2 r k) = m ((c : Thread nD τ).loc main_arg2) (ix2 R k : S8232x2048.Idx) := by
  refine Eq.trans ?_ (congrFun (V_main_arg2 m c) (ix2 R k : S8232x2048.Idx))
  have hl : ∀ a, (((ix2 r k : S320x2048.Idx) a : Fin _) : Nat) < win0_2.xsize (grid0.coords t) a := fun a => match a with
    | ⟨0, _⟩ => hr
    | ⟨1, _⟩ => k.isLt.trans_eq (xsize2' t).symm
  unfold rblk2 Window.fill
  rw [dif_pos ((win0_2.moved_iff _ _).mpr hl)]
  generalize hy : (fun a => (⟨((ix2 r k : S320x2048.Idx) a : Nat), hl a⟩ : Fin _) : (win0_2.xblock (grid0.coords t)).Idx) = y
  have y0 : (y 0 : Nat) = r := by rw [← hy]; rfl
  have y1 : (y 1 : Nat) = k := by rw [← hy]; rfl
  have e0 := win0_2.rect_emb_val t y 0 rfl
  have e1 := win0_2.rect_emb_val t y 1 rfl
  rw [idx2] at e0 e1
  have he : ∀ z : S8232x2048.Idx, z = ix2 (z 0) (z 1) := ValueIdx.eq_ix2
  have h0 : ((win0_2.blk t).view.emb y : S8232x2048.Idx) 0 = R :=
    Fin.ext (e0.trans ((congrArg (t.val * 320 + ·) y0).trans hR.symm))
  have h1 : ((win0_2.blk t).view.emb y : S8232x2048.Idx) 1 = k := Fin.ext (e1.trans ((Nat.zero_add _).trans y1))
  show V m c main_arg2 ((win0_2.blk t).view.emb y) = V m c main_arg2 _
  rw [he ((win0_2.blk t).view.emb y), h0, h1]
  rfl

theorem rblk3_row (c : Dev nD) (t : Fin cfg0.N) (r : Fin 320) (hr : (r : Nat) < win0_7.xsize (grid0.coords t) 0) (k : Fin 4096)
    (R : Fin 8232) (hR : (R : Nat) = t.val * 320 + r) :
    rblk3 m c t (ix2 r k) = m ((c : Thread nD τ).loc main_arg3) (ix2 R k : S8232x4096.Idx) := by
  refine Eq.trans ?_ (congrFun (V_main_arg3 m c) (ix2 R k : S8232x4096.Idx))
  have hl : ∀ a, (((ix2 r k : S320x4096.Idx) a : Fin _) : Nat) < win0_3.xsize (grid0.coords t) a := fun a => match a with
    | ⟨0, _⟩ => hr
    | ⟨1, _⟩ => k.isLt.trans_eq (xsize3' t).symm
  unfold rblk3 Window.fill
  rw [dif_pos ((win0_3.moved_iff _ _).mpr hl)]
  generalize hy : (fun a => (⟨((ix2 r k : S320x4096.Idx) a : Nat), hl a⟩ : Fin _) : (win0_3.xblock (grid0.coords t)).Idx) = y
  have y0 : (y 0 : Nat) = r := by rw [← hy]; rfl
  have y1 : (y 1 : Nat) = k := by rw [← hy]; rfl
  have e0 := win0_3.rect_emb_val t y 0 rfl
  have e1 := win0_3.rect_emb_val t y 1 rfl
  rw [idx3] at e0 e1
  have he : ∀ z : S8232x4096.Idx, z = ix2 (z 0) (z 1) := ValueIdx.eq_ix2
  have h0 : ((win0_3.blk t).view.emb y : S8232x4096.Idx) 0 = R :=
    Fin.ext (e0.trans ((congrArg (t.val * 320 + ·) y0).trans hR.symm))
  have h1 : ((win0_3.blk t).view.emb y : S8232x4096.Idx) 1 = k := Fin.ext (e1.trans ((Nat.zero_add _).trans y1))
  show V m c main_arg3 ((win0_3.blk t).view.emb y) = V m c main_arg3 _
  rw [he ((win0_3.blk t).view.emb y), h0, h1]
  rfl

/-- A row of the body's residual is a row of `GH`. -/
theorem HB_eq_GH (c : Dev nD) (t : Fin cfg0.N) (r : Fin 320) (hr : (r : Nat) < win0_7.xsize (grid0.coords t) 0) (n : Fin 4096)
    (R : Fin 8232) (hR : (R : Nat) = t.val * 320 + r) :
    HB (iblk m c 0 t) (rblk2 m c t) (rblk3 m c t) (iblk m c 4 t) (iblk m c 5 t) (ix2 r n : S320x4096.Idx)
    = GH (m ((c : Thread nD τ).loc main_arg0)) (m ((c : Thread nD τ).loc main_arg2)) (m ((c : Thread nD τ).loc main_arg3)) (m ((c : Thread nD τ).loc main_arg4)) (m ((c : Thread nD τ).loc main_arg5))
        (ix2 R n : S8232x4096.Idx) :=
  Out.hval_congr (blk0 m c t) (rblk3_row m c t r hr n R hR) (funext fun k => rblk2_row m c t r hr k R hR)
    (funext fun k => funext fun n => blk4 m c t k n) (funext fun n => blk5 m c t n) rfl

/-- A row of the body's codes is a row of `GF`. -/
theorem FB_eq_GF (c : Dev nD) (t : Fin cfg0.N) (r : Fin 320) (hr : (r : Nat) < win0_7.xsize (grid0.coords t) 0) (n : Fin 4096)
    (R : Fin 8232) (hR : (R : Nat) = t.val * 320 + r) :
    FB (iblk m c 0 t) (iblk m c 1 t) (rblk2 m c t) (rblk3 m c t) (iblk m c 4 t) (iblk m c 5 t) (iblk m c 6 t) (ix2 r n : S320x4096.Idx)
    = GF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (ix2 R n : S8232x4096.Idx) :=
  Out.fval_congr (blk1 m c t) (funext fun k => HB_eq_GH m c t r hr k R hR) (funext fun n => blk6 m c t n) rfl

/-! ## The final arrays -/

theorem final7 (c : Dev nD) : (dats m 0 c).arrAt 7 cfg0.N
    = GH (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ covers7 fun t _ y => ?_
  show (dats m 0 c).after 7 t (win0_7.xinj (grid0.coords t) y) = GH _ _ _ _ _ ((win0_7.blk t).view.emb y)
  rw [after0_7]
  have hr : (y 0 : Nat) < win0_7.xsize (grid0.coords t) 0 := (y 0).isLt
  have e0 := win0_7.rect_emb_val t y 0 rfl
  have e1 := win0_7.rect_emb_val t y 1 rfl
  rw [idx7] at e0 e1
  have hx : ∀ z : S320x4096.Idx, z = ix2 (z 0) (z 1) := ValueIdx.eq_ix2
  have he : ∀ z : S8232x4096.Idx, z = ix2 (z 0) (z 1) := ValueIdx.eq_ix2
  have e1' : (((win0_7.blk t).view.emb y : S8232x4096.Idx) 1 : Fin 4096) = (win0_7.xinj (grid0.coords t) y : S320x4096.Idx) 1 :=
    Fin.ext (e1.trans (Nat.zero_add _))
  rw [hx (win0_7.xinj (grid0.coords t) y), he ((win0_7.blk t).view.emb y), e1']
  exact HB_eq_GH m c t _ hr _ _ e0

theorem final8 (c : Dev nD) : (dats m 0 c).arrAt 8 cfg0.N
    = GF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ covers8 fun t _ y => ?_
  show (dats m 0 c).after 8 t (win0_8.xinj (grid0.coords t) y) = GF _ _ _ _ _ _ _ ((win0_8.blk t).view.emb y)
  rw [after0_8]
  have hr : (y 0 : Nat) < win0_7.xsize (grid0.coords t) 0 := (y 0).isLt.trans_eq (xsize8 t)
  have e0 := win0_8.rect_emb_val t y 0 rfl
  have e1 := win0_8.rect_emb_val t y 1 rfl
  rw [idx8] at e0 e1
  have hx : ∀ z : S320x4096.Idx, z = ix2 (z 0) (z 1) := ValueIdx.eq_ix2
  have he : ∀ z : S8232x4096.Idx, z = ix2 (z 0) (z 1) := ValueIdx.eq_ix2
  have e1' : (((win0_8.blk t).view.emb y : S8232x4096.Idx) 1 : Fin 4096) = (win0_8.xinj (grid0.coords t) y : S320x4096.Idx) 1 :=
    Fin.ext (e1.trans (Nat.zero_add _))
  rw [hx (win0_8.xinj (grid0.coords t) y), he ((win0_8.blk t).view.emb y), e1']
  exact FB_eq_GF m c t _ hr _ _ e0

/-- The run with both results named, the arguments unchanged. -/
theorem run : θ_run defs (onTc (τ := τ) (main (F := Ideal))) ⟨m, fun _ => 0, ρ⟩ fun r => ∀ c : Dev nD,
      r.2.mem ((c : Thread nD τ).loc main_v2_0) = GH (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c : Thread nD τ).loc main_v2_1) = GF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.OutKernelIdeal.Hand.Exact

end
-- ==== Proof.OutRef.lean ====
/- What the reference of the output projection computes, over the extended reals: its residual is `Out.hval` and its codes
   `Out.fval` at every index. -/
module

public import proofs.«01_k».proof.Proof.Gen.OutReferenceIdeal.Value
public import proofs.«01_k».proof.Proof.OutMath
public import Idealize.ShloMosaic.Lib.Pipeline.ValueKit
public import Idealize.ShloMosaic.Lib.ValueLayout

@[expose] public section

set_option maxRecDepth 16384

noncomputable section

namespace Cert.OutReferenceIdeal.Hand

open Cert.OutReferenceIdeal Cert.OutReferenceIdeal.Gen
open Idealize.ShloMosaic hiding ix0 ix1 ix2 ix3 ix4 ix5 eq_ix2
open Idealize.ShloMosaic.TcCoe Idealize.ShloMosaic.ValueIdx
open scoped BigOperators

/-- A one-element array spread over a row, -/
theorem spread1 {b : ℕ} (x : Vec Ideal S1 .f32) (h : S1.Broadcasts ⟨1, ![b]⟩) (n : Fin b) :
    broadcastTo (⟨1, ![b]⟩ : Shape) x h (ix1 n) = x (ix1 0) := by
  exact broadcastTo_apply x h (ix1 n) (ix1 0) fun a => match a with | ⟨0, _⟩ => rfl

/-- and over a matrix. -/
theorem spread2 {a b : ℕ} (x : Vec Ideal S1 .f32) (h : S1x1.Broadcasts ⟨2, ![a, b]⟩) (r : Fin a) (n : Fin b) :
    broadcastTo (⟨2, ![a, b]⟩ : Shape) (shapeCast S1x1 x shapeCasts_S1_S1x1) h (ix2 r n) = x (ix1 0) := by
  exact (broadcastTo_apply _ h (ix2 r n) (ix2 (0 : Fin 1) (0 : Fin 1)) fun a => match a with | ⟨0, _⟩ => rfl | ⟨1, _⟩ => rfl).trans
    (shapeCast_a_1a_apply x shapeCasts_S1_S1x1 0 0)

/-- The reference's residual at an index. -/
theorem h_apply (s : Vec Ideal S1 .f32) (g : Vec Ideal S8232x2048 .fp8e4m3) (w : Vec Ideal S2048x4096 .fp8e4m3)
    (ws : Vec Ideal S4096 .f32) (x : Vec Ideal S8232x4096 .bf16) (r : Fin 8232) (n : Fin 4096) :
    k0_pay1 (F := Ideal) s g w ws x (ix2 r n)
      = Out.hval (s (ix1 0)) (x (ix2 r n)) (fun k => g (ix2 r k)) (fun k n => w (ix2 k n)) (fun n => ws (ix1 n)) n := by
  have hd : dot_S8232x2048_S2048x4096_S8232x4096_1_0_0_1_n_n = DotDims.plain 8232 2048 4096 := rfl
  have hm := Ideal.matmul_plain_apply (φ₁ := .fp8e4m3) (φ₂ := .fp8e4m3) (none : Option ContractPrecision) g w
    (constant (F := Ideal) S8232x4096 .f32 0x00000000#32) r n
  have hb : broadcastTo S8232x4096 (shapeCast S1x4096 (mulf (F := Ideal) (φ := .f32) (broadcastTo S4096 s broadcasts_S1_S4096) ws) shapeCasts_S4096_S1x4096)
      broadcasts_S1x4096_S8232x4096 (ix2 r n) = s (ix1 0) * ws (ix1 n) := by
    refine (broadcastTo_1b_ab_apply _ _ r n).trans ((shapeCast_a_1a_apply _ _ 0 n).trans ?_)
    rw [mulf_apply]
    exact congrArg (fun z => z * ws (ix1 n)) (spread1 s broadcasts_S1_S4096 n)
  unfold k0_pay1 Out.hval
  rw [addf_apply, mulf_apply, extf_apply, hb, hd]
  exact congrArg (fun z => x (ix2 r n) + z * (s (ix1 0) * ws (ix1 n))) hm

/-- The reference's reciprocal root of the mean square of a row. -/
theorem rs_apply (h : Vec Ideal S8232x4096 .f32) (r : Fin 8232) :
    rsqrt (F := Ideal) (φ := .f32) (addf (divf (shapeCast S8232x1 (multiReduction (F := Ideal) (φ := .f32) .add [1] S8232 (mulf (F := Ideal) (φ := .f32) h h) 0x00000000#32 reduces_S8232x4096_S8232 (.inl rfl) rfl)
        shapeCasts_S8232_S8232x1) (broadcast S8232x1 (Scalar.ofBits (F := Ideal) .f32 0x45800000#32)))
        (broadcast S8232x1 (Scalar.ofBits (F := Ideal) .f32 0x3727C5AC#32))) (ix2 r (0 : Fin 1))
      = Ideal.rsqrt (Ideal.div (∑ k : Fin 4096, h (ix2 r k) * h (ix2 r k)) (Ideal.ofBits .f32 0x45800000#32) + Ideal.ofBits .f32 0x3727C5AC#32) := by
  have hr := Out.rowSum_apply (mulf (F := Ideal) (φ := .f32) h h) 0x00000000#32 reduces_S8232x4096_S8232 (.inl rfl) rfl r
  have hc := Out.shapeCast_a_a1_apply (multiReduction (F := Ideal) (φ := .f32) .add [1] S8232 (mulf (F := Ideal) (φ := .f32) h h) 0x00000000#32 reduces_S8232x4096_S8232 (.inl rfl) rfl)
    shapeCasts_S8232_S8232x1 r (0 : Fin 1)
  have hs : ∑ k : Fin 4096, mulf (F := Ideal) (φ := .f32) h h (ix2 r k) = ∑ k : Fin 4096, h (ix2 r k) * h (ix2 r k) :=
    Finset.sum_congr rfl fun k _ => rfl
  rw [← hs, ← hr, ← hc]
  rfl

/-- The reference's codes at an index. -/
theorem codes_apply (s sf : Vec Ideal S1 .f32) (g : Vec Ideal S8232x2048 .fp8e4m3) (w : Vec Ideal S2048x4096 .fp8e4m3)
    (ws : Vec Ideal S4096 .f32) (x : Vec Ideal S8232x4096 .bf16) (nw : Vec Ideal S4096 .f32) (r : Fin 8232) (n : Fin 4096) :
    k0_pay2 (F := Ideal) s sf g w ws x nw (ix2 r n)
      = Out.fval (sf (ix1 0)) (fun k => k0_pay1 (F := Ideal) s g w ws x (ix2 r k)) (fun n => nw (ix1 n)) n := by
  have hb : broadcastTo S8232x4096 (shapeCast S1x4096 nw shapeCasts_S4096_S1x4096) broadcasts_S1x4096_S8232x4096 (ix2 r n) = nw (ix1 n) :=
    (broadcastTo_1b_ab_apply _ _ r n).trans (shapeCast_a_1a_apply nw shapeCasts_S4096_S1x4096 0 n)
  have hs : broadcastTo S8232x4096 (shapeCast S1x1 sf shapeCasts_S1_S1x1) broadcasts_S1x1_S8232x4096 (ix2 r n) = sf (ix1 0) :=
    spread2 sf broadcasts_S1x1_S8232x4096 r n
  have hrs := rs_apply (k0_pay1 (F := Ideal) s g w ws x) r
  unfold k0_pay2
  generalize k0_pay1 (F := Ideal) s g w ws x = h at hrs ⊢
  dsimp only
  rw [truncf_apply, minimumf_apply, maximumf_apply, divf_apply, mulf_apply, mulf_apply, hb, hs,
    Out.broadcastTo_a1_ab_apply _ broadcasts_S8232x1_S8232x4096 r n, hrs]
  rfl

end Cert.OutReferenceIdeal.Hand

end
-- ==== Proof.DecFrameBits.lean ====
/- The frame of the decode step as run, what each grid point leaves in the outputs and in the scratch named; for every
   contents of the prefetched slots under the side condition `Ok` (each slot's block lies inside the array). -/
module

public import proofs.«01_k».proof.Proof.Gen.DecKernel.Frame.RunB
public import Idealize.ShloMosaic.Lib.Claim

@[expose] public section

-- the rectangles' long axes need a deep recursion
set_option maxRecDepth 16384

noncomputable section

namespace Cert.DecKernel.Hand

open Cert.DecKernel Cert.DecKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S1x16x64`), so they cover it. -/
theorem cover0_A_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).1 S1x16x64.size (by sl_kernel_rfl) y

/-- What case A leaves in output 6's staging buffer: its pieces read back over junk. -/
def out0_A_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3 x4 x5 xt0).1)

/-- Case A's pieces for output 7 tile its block (2 stores of `S1x16x64x128`), so they cover it. -/
theorem cover0_A_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.1 S1x16x64x128.size (by sl_kernel_rfl) y

/-- What case A leaves in output 7's staging buffer: its pieces read back over junk. -/
def out0_A_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64x128 .i8 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 xt0).2.1)

/-- Case A's pieces for output 8 tile its block (2 stores of `S1x16x64`), so they cover it. -/
theorem cover0_A_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.2.1 S1x16x64.size (by sl_kernel_rfl) y

/-- What case A leaves in output 8's staging buffer: its pieces read back over junk. -/
def out0_A_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 xt0).2.2.1)

/-- Case A's pieces for scratch `arg11`, which the kernel carries between points, cover it: 1 piece of `S128x2048` tiling it. -/
theorem scover0_A_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S128x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.2.2.1 S128x2048.size (by sl_kernel_rfl) y

/-- What case A leaves in scratch `arg11`: its pieces read back over junk. -/
def sout0_A_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S128x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 xt0).2.2.2.1)

/-- Case B's pieces for output 6 tile its block (2 stores of `S1x16x64`), so they cover it. -/
theorem cover0_B_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).1 S1x16x64.size (by sl_kernel_rfl) y

/-- What case B leaves in output 6's staging buffer: its pieces read back over junk. -/
def out0_B_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 x4 x5 xt0 xs0).1)

/-- Case B's pieces for output 7 tile its block (2 stores of `S1x16x64x128`), so they cover it. -/
theorem cover0_B_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.1 S1x16x64x128.size (by sl_kernel_rfl) y

/-- What case B leaves in output 7's staging buffer: its pieces read back over junk. -/
def out0_B_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64x128 .i8 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.1)

/-- Case B's pieces for output 8 tile its block (2 stores of `S1x16x64`), so they cover it. -/
theorem cover0_B_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1 S1x16x64.size (by sl_kernel_rfl) y

/-- What case B leaves in output 8's staging buffer: its pieces read back over junk. -/
def out0_B_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1)

/-- Case B stores nothing into scratch `arg11`: it holds what the point before left. -/
def sout0_B_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S128x2048 .f32 := xs0

/-! ## What the outputs hold after each point -/

/-- What the body leaves at a point of case A: the three outputs' buffers and the scratch. -/
def ptA (hO : Ok m) (c : Dev nD) (t : Fin (cfgM m hO).N) (h0 : t.val % 40 = 0) : Vec F S1x32x64 .f32 × Vec F S1x32x64x128 .i8 × Vec F S1x32x64 .f32 × Vec F S128x2048 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0))

/-- What it leaves at a point of case B, the scratch at `xs` before it. -/
def ptB (hO : Ok m) (c : Dev nD) (t : Fin (cfgM m hO).N) (h0 : ¬t.val % 40 = 0) (xs : Vec F S128x2048 .f32) : Vec F S1x32x64 .f32 × Vec F S1x32x64x128 .i8 × Vec F S1x32x64 .f32 × Vec F S128x2048 .f32 :=
  (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs)

/-- What the outputs' buffers and the scratch hold after the body at position `n`. -/
def outsAt0 (hO : Ok m) (c : Dev nD) : (n : ℕ) → n < (cfgM m hO).N → Vec F S1x32x64 .f32 × Vec F S1x32x64x128 .i8 × Vec F S1x32x64 .f32 × Vec F S128x2048 .f32
  | 0, hn => ptA m hO c ⟨0, hn⟩ (Nat.zero_mod _)
  | n + 1, hn =>
    if h0 : (n + 1) % 40 = 0 then ptA m hO c ⟨n + 1, hn⟩ h0
    else ptB m hO c ⟨n + 1, hn⟩ h0 (outsAt0 hO c n (Nat.lt_of_succ_lt hn)).2.2.2

/-- `outsAt0` at a point of case A. -/
theorem outsAt0_A (hO : Ok m) (c : Dev nD) (t : Fin (cfgM m hO).N) (h0 : t.val % 40 = 0) :
    outsAt0 m hO c t.val t.isLt = ptA m hO c t h0 := by
  obtain ⟨n, hn⟩ := t
  cases n with
  | zero => rw [outsAt0]
  | succ n => rw [outsAt0]; exact dif_pos h0

/-- `outsAt0` at a point of case B, over what the point before left. -/
theorem outsAt0_B (hO : Ok m) (c : Dev nD) (t : Fin (cfgM m hO).N) (h0 : ¬t.val % 40 = 0) :
    outsAt0 m hO c t.val t.isLt = ptB m hO c t h0 (outsAt0 m hO c (t.val - 1) (Nat.lt_of_le_of_lt (Nat.sub_le _ _) t.isLt)).2.2.2 := by
  obtain ⟨n, hn⟩ := t
  cases n with
  | zero => exact absurd (Nat.zero_mod _) h0
  | succ n => rw [outsAt0]; exact dif_neg h0

/-- The region invariant before position `n` with a scratch the kernel CARRIES between points: before the first point
    every scratch at anything; afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant is
    the scoped rest, the generator register and the tables' halves; nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
    | ⟨7, _⟩ => (outsAt0 m hO c t.val t.isLt).2.1
    | ⟨8, _⟩ => (outsAt0 m hO c t.val t.isLt).2.2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl
theorem after0_7 (hO : Ok m) (c : Dev nD) (t : Fin (cfgM m hO).N) : (dats m hO 0 c).after 7 t = (outsAt0 m hO c t.val t.isLt).2.1 := by dsimp only [dats]; try rfl
theorem after0_8 (hO : Ok m) (c : Dev nD) (t : Fin (cfgM m hO).N) : (dats m hO 0 c).after 8 t = (outsAt0 m hO c t.val t.isLt).2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6, after0_7, after0_8]
  rw [show (dats m hO 0 c).Φ t.succ = PhiS m hO c (t.val + 1) t.isLt from rfl, PhiS_succ, PhiT0_eq]
  have hN : t.val < 40 := lt_of_lt_of_eq t.isLt (show (cfgM m hO).N = 40 from N_0)
  by_cases h0 : t.val % 40 = 0
  · by_cases hz : t.val = 0
    · rw [PhiS_castSucc m hO c t, PhiS_zero m hO c _ _ hz, PhiT0_eq, PhiA0_eq]
      rw [outsAt0_A m hO c t h0]
      unfold ptA out0_A_6 out0_A_7 out0_A_8 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HT0]; · iexact HT0
      iintro ⟨H0, H1, H2, H3, H4, H5, ⟨%e6, H6⟩, ⟨%e7, H7⟩, ⟨%e8, H8⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · exfalso; have hN : t.val < 40 := lt_of_lt_of_eq t.isLt (show (cfgM m hO).N = 40 from N_0); omega
  · by_cases hz : t.val = 0
    · exfalso; have hN : t.val < 40 := lt_of_lt_of_eq t.isLt (show (cfgM m hO).N = 40 from N_0); omega
    · rw [PhiS_castSucc m hO c t, PhiS_pos m hO c _ _ hz, PhiT0_eq]
      rw [outsAt0_B m hO c t h0]
      unfold ptB out0_B_6 out0_B_7 out0_B_8 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HT0]; · iexact HT0
      iintro ⟨H0, H1, H2, H3, H4, H5, ⟨%e6, H6⟩, ⟨%e7, H7⟩, ⟨%e8, H8⟩, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 40 := N_0; omega)

/-! ## The run and the frame -/

-- the implicit arguments are found only by unfolding plain definitions in a type
set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what its proof data
    say and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: the arguments end unchanged and every counter at zero, when every slot's block lies inside the array (`Ok m`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.DecKernel.Hand

end
-- ==== Proof.DecSlots.lean ====
/- What the condition on the slots says: each of the 40 decode rows' slots is one of the 76 stored ones. -/
module

public import proofs.«01_k».proof.Pre_slots_stored
public import proofs.«01_k».proof.Proof.Gen.Pre_slots_stored
public import Idealize.ShloMosaic.Lib.ReduceAll
public import Idealize.ShloMosaic.Lib.ValueLayout

@[expose] public section

namespace Dec

open Idealize.ShloMosaic
open Idealize.ShloMosaic.ValueIdx
open Cert.Pre_slots_stored

/-- A word that is not negative and below 76 as a signed integer is below 76 as a natural number. -/
theorem toNat_lt (x : BitVec 32) (h0 : (0#32).toInt ≤ x.toInt) (h1 : x.toInt < (76#32).toInt) : x.toNat < 76 := by
  have e0 : (0#32 : BitVec 32).toInt = 0 := by decide
  have e1 : (76#32 : BitVec 32).toInt = 76 := by decide
  rw [e0] at h0
  rw [e1] at h1
  rw [BitVec.toInt_eq_toNat_cond] at h0 h1
  have := x.isLt
  split at h0 <;> omega

theorem slot_lt {F : FTy → Type} [FloatOps F] [Facts] (a0 : IVec S59 32) (a1 : IVec S76x32x64x128 8) (a2 : FVec F S76x32x64 .f32)
    (a3 : FVec F S8320x2560 .f32) (a4 : FVec F S8320x128 .f32) (a5 a6 : FVec F S32 .f32)
    (h : fn (F := F) a0 a1 a2 a3 a4 a5 a6 = fun _ => 1#1) (b : Fin 40) :
    (a0 (ix1 ⟨b, by omega⟩)).toNat < 76 := by
  have : Subsingleton S_.Idx := ⟨fun x y => funext fun a => a.elim0⟩
  have e := congrFun h (fun a => a.elim0)
  have e1 := Host.reduce_andi_all _ _ _ _ _ e (ix1 b : S40.Idx)
  obtain ⟨g, l⟩ := IntOp.andi_eq_one.1 e1
  have hs : extractStridedSlice S40 ![0] a0 Facts.slices_S59_S40_0 (ix1 b : S40.Idx) = a0 (ix1 ⟨b, by omega⟩) :=
    extractStridedSlice_apply _ _ _ _ _ fun a => match a with | ⟨0, _⟩ => (Nat.zero_add _).symm
  have g' := IntOp.cmpi_sge.1 g
  have l' := IntOp.cmpi_slt.1 l
  dsimp only at g' l'
  rw [hs] at g' l'
  exact toNat_lt _ g' l'

/-- Such a word reads the same as a signed integer. -/
theorem toInt_of_lt (x : BitVec 32) (h : x.toNat < 76) : x.toInt = x.toNat := by
  rw [BitVec.toInt_eq_toNat_cond, if_pos (by omega)]

end Dec
-- ==== Proof.DecOkBits.lean ====
/- The decode step's side condition on the prefetched slots, from the condition that every slot is stored. -/
module

public import proofs.«01_k».proof.Proof.Gen.DecKernel.Frame.Runs
public import proofs.«01_k».proof.Proof.DecSlots
public import Idealize.ShloMosaic.Lib.Claim

@[expose] public section

set_option maxRecDepth 16384

noncomputable section

namespace Cert.DecKernel.Slots

open Cert.DecKernel Cert.DecKernel.Gen
open Idealize.ShloMosaic
open Idealize.ShloMosaic.TcCoe Idealize.ShloMosaic.ValueIdx

variable {F : FTy → Type} [FloatOps F]
variable (m : (ℓ : Loc nD τ sig) → Buf (Elt F) ℓ)

/-- The slot of decode row `b`. -/
def slot (b : Fin 40) : BitVec 32 := (m (((0 : Dev nD) : Thread nD τ).loc main_arg0) : IVec S59 32) (ix1 ⟨b, by omega⟩)

/-- The first coordinate of grid point `i`, as a row. -/
def row (i : grid0.Coords) : Fin 40 := ⟨(i 0).val, (i 0).isLt⟩

theorem at_slot (i : grid0.Coords) :
    (tbl m).at 0 (Rect.unit (s := S59) ![(Scalar.indexCast (BitVec.ofNat 32 (i 0).val)).toNat] S1.size (k0_off1_inb i)) numel1_S1 = slot m (row i) := by
  show V m (0 : Dev nD) main_arg0 _ = _
  rw [V_main_arg0]
  refine congrArg (m (((0 : Dev nD) : Thread nD τ).loc main_arg0) : IVec S59 32) (funext fun a => Fin.ext ?_)
  have hi : (i 0).val < 40 := (i 0).isLt
  match a with
  | ⟨0, _⟩ =>
    have e : (Scalar.indexCast (BitVec.ofNat 32 (i 0).val)).toNat = (i 0).val := by
      have : ∀ n : Fin 40, (Scalar.indexCast (BitVec.ofNat 32 n.val)).toNat = n.val := by decide +kernel
      exact this ⟨(i 0).val, hi⟩
    have z0 : ∀ z : Fin 1, (Scalar.indexCast (BitVec.ofNat 32 (i 0).val)).toNat + 1 * z.val = (i 0).val := fun z => by rw [e]; omega
    exact z0 _

theorem tr0 (i : grid0.Coords) : cc0_transform_0 k0_off1_inb numel1_S1 (tbl m) i = ![(slot m (row i)).toNat, 0, 0, 0] := by
  rw [← at_slot m i]; rfl

theorem tr1 (i : grid0.Coords) : cc0_transform_1 k0_off1_inb numel1_S1 (tbl m) i = ![(slot m (row i)).toNat, 0, 0] := by
  rw [← at_slot m i]; rfl

theorem ok (h : ∀ b, (slot m b).toNat < 76) : Ok m := by
  refine ⟨fun i => ⟨fun a => ?_, .inr (Affine.block_words_dvd (of_decide_eq_true rfl) (by decide))⟩, fun i => ⟨fun a => ?_, .inl rfl⟩⟩
  · rw [tr0]
    have := h (row i)
    match a with
    | ⟨0, _⟩ => show ((slot m (row i)).toNat + 1) * 1 ≤ 76; omega
    | ⟨1, _⟩ => show (0 + 1) * 32 ≤ 32; omega
    | ⟨2, _⟩ => show (0 + 1) * 64 ≤ 64; omega
    | ⟨3, _⟩ => show (0 + 1) * 128 ≤ 128; omega
  · rw [tr1]
    have := h (row i)
    match a with
    | ⟨0, _⟩ => show ((slot m (row i)).toNat + 1) * 1 ≤ 76; omega
    | ⟨1, _⟩ => show (0 + 1) * 1 ≤ 1; omega
    | ⟨2, _⟩ => show (0 + 1) * 2048 ≤ 2048; omega

end Cert.DecKernel.Slots

end
-- ==== Proof.DecFrame.lean ====
/- The frame of the idealized decode step, what each grid point leaves in the outputs and in the scratch named; for every
   contents of the prefetched slots under the side condition `Ok` (each slot's block lies inside the array). -/
module

public import proofs.«01_k».proof.Proof.Gen.DecKernelIdeal.Frame.RunB
public import Idealize.ShloMosaic.Lib.Claim

@[expose] public section

-- the rectangles' long axes need a deep recursion
set_option maxRecDepth 16384

noncomputable section

namespace Cert.DecKernelIdeal.Hand

open Cert.DecKernelIdeal Cert.DecKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S1x16x64`), so they cover it. -/
theorem cover0_A_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).1 S1x16x64.size (by sl_kernel_rfl) y

/-- What case A leaves in output 6's staging buffer: its pieces read back over junk. -/
def out0_A_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3 x4 x5 xt0).1)

/-- Case A's pieces for output 7 tile its block (2 stores of `S1x16x64x128`), so they cover it. -/
theorem cover0_A_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.1 S1x16x64x128.size (by sl_kernel_rfl) y

/-- What case A leaves in output 7's staging buffer: its pieces read back over junk. -/
def out0_A_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64x128 .i8 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 xt0).2.1)

/-- Case A's pieces for output 8 tile its block (2 stores of `S1x16x64`), so they cover it. -/
theorem cover0_A_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S1x32x64.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.2.1 S1x16x64.size (by sl_kernel_rfl) y

/-- What case A leaves in output 8's staging buffer: its pieces read back over junk. -/
def out0_A_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S1x32x64 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 xt0).2.2.1)

/-- Case A's pieces for scratch `arg11`, which the kernel carries between points, cover it: 1 piece of `S128x2048` tiling it. -/
theorem scover0_A_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (y : S128x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.2.2.1 S128x2048.size (by sl_kernel_rfl) y

/-- What case A leaves in scratch `arg11`: its pieces read back over junk. -/
def sout0_A_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) : Vec F S128x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 xt0).2.2.2.1)

/-- Case B's pieces for output 6 tile its block (2 stores of `S1x16x64`), so they cover it. -/
theorem cover0_B_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).1 S1x16x64.size (by sl_kernel_rfl) y

/-- What case B leaves in output 6's staging buffer: its pieces read back over junk. -/
def out0_B_6 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 x4 x5 xt0 xs0).1)

/-- Case B's pieces for output 7 tile its block (2 stores of `S1x16x64x128`), so they cover it. -/
theorem cover0_B_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.1 S1x16x64x128.size (by sl_kernel_rfl) y

/-- What case B leaves in output 7's staging buffer: its pieces read back over junk. -/
def out0_B_7 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64x128 .i8 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.1)

/-- Case B's pieces for output 8 tile its block (2 stores of `S1x16x64`), so they cover it. -/
theorem cover0_B_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) (y : S1x32x64.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1 S1x16x64.size (by sl_kernel_rfl) y

/-- What case B leaves in output 8's staging buffer: its pieces read back over junk. -/
def out0_B_8 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S1x32x64 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.2.1)

/-- Case B stores nothing into scratch `arg11`: it holds what the point before left. -/
def sout0_B_0 (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec F S1x32x64x128 .i8) (x1 : Vec F S1x1x2048 .f32) (x2 : Vec F S8x2560 .f32) (x3 : Vec F S8x128 .f32) (x4 : Vec F S1x128 .f32) (x5 : Vec F S1x128 .f32) (xt0 : TbBuf0 (F := F) c tbM0_0) (xs0 : Vec F S128x2048 .f32) : Vec F S128x2048 .f32 := xs0

/-! ## What the outputs hold after each point -/

/-- What the body leaves at a point of case A: the three outputs' buffers and the scratch. -/
def ptA (hO : Ok m) (c : Dev nD) (t : Fin (cfgM m hO).N) (h0 : t.val % 40 = 0) : Vec F S1x32x64 .f32 × Vec F S1x32x64x128 .i8 × Vec F S1x32x64 .f32 × Vec F S128x2048 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (iblk m hO c 0 t) (iblk m hO c 1 t) (iblk m hO c 2 t) (iblk m hO c 3 t) (iblk m hO c 4 t) (iblk m hO c 5 t) (tbl m 0))

/-- What it leaves at a point of case B, the scratch at `xs` before it. -/
def ptB (hO : Ok m) (c : Dev nD) (t : Fin (cfgM m hO).N) (h0 : ¬t.val % 40 = 0) (xs : Vec F S128x2048 .f32) : Vec F S1x32x64 .f32 × Vec F S1x32x64x128 .i8 × Vec F S1x32x64 .f32 × Vec F S128x2048 .f32 :=
  (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) xs)

/-- What the outputs' buffers and the scratch hold after the body at position `n`. -/
def outsAt0 (hO : Ok m) (c : Dev nD) : (n : ℕ) → n < (cfgM m hO).N → Vec F S1x32x64 .f32 × Vec F S1x32x64x128 .i8 × Vec F S1x32x64 .f32 × Vec F S128x2048 .f32
  | 0, hn => ptA m hO c ⟨0, hn⟩ (Nat.zero_mod _)
  | n + 1, hn =>
    if h0 : (n + 1) % 40 = 0 then ptA m hO c ⟨n + 1, hn⟩ h0
    else ptB m hO c ⟨n + 1, hn⟩ h0 (outsAt0 hO c n (Nat.lt_of_succ_lt hn)).2.2.2

/-- `outsAt0` at a point of case A. -/
theorem outsAt0_A (hO : Ok m) (c : Dev nD) (t : Fin (cfgM m hO).N) (h0 : t.val % 40 = 0) :
    outsAt0 m hO c t.val t.isLt = ptA m hO c t h0 := by
  obtain ⟨n, hn⟩ := t
  cases n with
  | zero => rw [outsAt0]
  | succ n => rw [outsAt0]; exact dif_pos h0

/-- `outsAt0` at a point of case B, over what the point before left. -/
theorem outsAt0_B (hO : Ok m) (c : Dev nD) (t : Fin (cfgM m hO).N) (h0 : ¬t.val % 40 = 0) :
    outsAt0 m hO c t.val t.isLt = ptB m hO c t h0 (outsAt0 m hO c (t.val - 1) (Nat.lt_of_le_of_lt (Nat.sub_le _ _) t.isLt)).2.2.2 := by
  obtain ⟨n, hn⟩ := t
  cases n with
  | zero => exact absurd (Nat.zero_mod _) h0
  | succ n => rw [outsAt0]; exact dif_neg h0

/-- The region invariant before position `n` with a scratch the kernel CARRIES between points: before the first point
    every scratch at anything; afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant is
    the scoped rest, the generator register and the tables' halves; nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
    | ⟨7, _⟩ => (outsAt0 m hO c t.val t.isLt).2.1
    | ⟨8, _⟩ => (outsAt0 m hO c t.val t.isLt).2.2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl
theorem after0_7 (hO : Ok m) (c : Dev nD) (t : Fin (cfgM m hO).N) : (dats m hO 0 c).after 7 t = (outsAt0 m hO c t.val t.isLt).2.1 := by dsimp only [dats]; try rfl
theorem after0_8 (hO : Ok m) (c : Dev nD) (t : Fin (cfgM m hO).N) : (dats m hO 0 c).after 8 t = (outsAt0 m hO c t.val t.isLt).2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6, after0_7, after0_8]
  rw [show (dats m hO 0 c).Φ t.succ = PhiS m hO c (t.val + 1) t.isLt from rfl, PhiS_succ, PhiT0_eq]
  have hN : t.val < 40 := lt_of_lt_of_eq t.isLt (show (cfgM m hO).N = 40 from N_0)
  by_cases h0 : t.val % 40 = 0
  · by_cases hz : t.val = 0
    · rw [PhiS_castSucc m hO c t, PhiS_zero m hO c _ _ hz, PhiT0_eq, PhiA0_eq]
      rw [outsAt0_A m hO c t h0]
      unfold ptA out0_A_6 out0_A_7 out0_A_8 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HT0]; · iexact HT0
      iintro ⟨H0, H1, H2, H3, H4, H5, ⟨%e6, H6⟩, ⟨%e7, H7⟩, ⟨%e8, H8⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · exfalso; have hN : t.val < 40 := lt_of_lt_of_eq t.isLt (show (cfgM m hO).N = 40 from N_0); omega
  · by_cases hz : t.val = 0
    · exfalso; have hN : t.val < 40 := lt_of_lt_of_eq t.isLt (show (cfgM m hO).N = 40 from N_0); omega
    · rw [PhiS_castSucc m hO c t, PhiS_pos m hO c _ _ hz, PhiT0_eq]
      rw [outsAt0_B m hO c t h0]
      unfold ptB out0_B_6 out0_B_7 out0_B_8 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HT0]; · iexact HT0
      iintro ⟨H0, H1, H2, H3, H4, H5, ⟨%e6, H6⟩, ⟨%e7, H7⟩, ⟨%e8, H8⟩, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 40 := N_0; omega)

/-! ## The run and the frame -/

-- the implicit arguments are found only by unfolding plain definitions in a type
set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what its proof data
    say and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: the arguments end unchanged and every counter at zero, when every slot's block lies inside the array (`Ok m`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.DecKernelIdeal.Hand

end
-- ==== Proof.DecMath.lean ====
/- One row of a sequence's state over the extended reals: the new value of an entry, the scale of a row of 128 entries and the 8-bit
   code of an entry. Both decode programs are proved to compute these functions at every index. Also here: what a row's maximum, a
   spread column and a product against a one-hot column are at an index. -/
module

public import Idealize.ShloMosaic.Lib.ValueIdx
public import Idealize.ShloMosaic.Lib.ValueLayout
public import Idealize.ShloMosaic.Lib.MatmulPlain
public import Idealize.ShloMosaic.Lib.Pointwise.Reduce
public import Idealize.ShloMosaic.Lib.Pipeline.Value

@[expose] public section

noncomputable section

namespace Dec

open Idealize.ShloMosaic hiding ix0 ix1 ix2 ix3 ix4 ix5 eq_ix2
open Idealize.ShloMosaic.ValueIdx
open scoped BigOperators

/-- The decay of a head over one step: `exp (dt · (0 − exp a))`. -/
def decay (d a : Ideal .f32) : Ideal .f32 :=
  FloatOps.exp (d * (Ideal.ofBits .f32 0x00000000#32 - FloatOps.exp a : Ideal .f32))

/-- The new value of an entry: the decayed old value, whose code is `q` at the scale `s`, plus the step's input `d · x · b`. -/
def hval (d a s : Ideal .f32) (q : BitVec 8) (x b : Ideal .f32) : Ideal .f32 :=
  decay d a * (FloatOps.sitofp .f32 q * s) + d * x * b

/-- The scale of a row of 128 entries: the largest magnitude over 127, or 1 of a row of zeros. -/
def sval (f : Fin 128 → Ideal .f32) : Ideal .f32 :=
  let t : Ideal .f32 := (Finset.univ : Finset (Fin 128)).fold FloatOps.maximumf (FloatOps.ofBits .f32 0xFF800000#32) fun k => FloatOps.absf (f k)
  Scalar.select (FloatOps.cmpf .ogt t (Ideal.ofBits .f32 0x00000000#32)) (Ideal.div t (Ideal.ofBits .f32 0x42FE0000#32)) (Ideal.ofBits .f32 0x3F800000#32)

/-- The code of an entry `h` at the scale `s`: the quotient rounded to an integer and clamped to ±127. -/
def cval (h s : Ideal .f32) : BitVec 8 :=
  FloatOps.fptosi 8 (min (Ideal.ofBits .f32 0x42FE0000#32) (max (Ideal.ofBits .f32 0xC2FE0000#32) (FloatOps.roundeven (Ideal.div h s) : Ideal .f32)) : Ideal .f32)

/-- The stored slot of decode row `b`, -/
def sl (a0 : (⟨1, ![59]⟩ : Shape).Idx → BitVec 32) (b : Fin 40) : Fin 76 := ⟨min (a0 (ix1 ⟨b, by omega⟩)).toNat 75, by omega⟩

/-- the new state, from the whole arguments, -/
def HG (a0 : (⟨1, ![59]⟩ : Shape).Idx → BitVec 32) (a1 : (⟨4, ![76, 32, 64, 128]⟩ : Shape).Idx → BitVec 8)
    (a2 : (⟨3, ![76, 32, 64]⟩ : Shape).Idx → Ideal .f32) (a3 : (⟨2, ![8320, 2560]⟩ : Shape).Idx → Ideal .f32)
    (a4 : (⟨2, ![8320, 128]⟩ : Shape).Idx → Ideal .f32) (a5 : (⟨1, ![32]⟩ : Shape).Idx → Ideal .f32)
    (b : Fin 40) (h : Fin 32) (p : Fin 64) (n : Fin 128) : Ideal .f32 :=
  hval (a4 (ix2 ⟨b, by omega⟩ ⟨h, by omega⟩)) (a5 (ix1 h)) (a2 (ix3 (sl a0 b) h p)) (a1 (ix4 (sl a0 b) h p n))
    (a3 (ix2 ⟨b, by omega⟩ ⟨h * 64 + p, by omega⟩)) (a3 (ix2 ⟨b, by omega⟩ ⟨2048 + (h / 16 * 128 + n), by omega⟩))

/-- its scales -/
def SG (a0 : (⟨1, ![59]⟩ : Shape).Idx → BitVec 32) (a1 : (⟨4, ![76, 32, 64, 128]⟩ : Shape).Idx → BitVec 8)
    (a2 : (⟨3, ![76, 32, 64]⟩ : Shape).Idx → Ideal .f32) (a3 : (⟨2, ![8320, 2560]⟩ : Shape).Idx → Ideal .f32)
    (a4 : (⟨2, ![8320, 128]⟩ : Shape).Idx → Ideal .f32) (a5 : (⟨1, ![32]⟩ : Shape).Idx → Ideal .f32)
    (b : Fin 40) (h : Fin 32) (p : Fin 64) : Ideal .f32 := sval fun n => HG a0 a1 a2 a3 a4 a5 b h p n

/-- and its codes. -/
def CG (a0 : (⟨1, ![59]⟩ : Shape).Idx → BitVec 32) (a1 : (⟨4, ![76, 32, 64, 128]⟩ : Shape).Idx → BitVec 8)
    (a2 : (⟨3, ![76, 32, 64]⟩ : Shape).Idx → Ideal .f32) (a3 : (⟨2, ![8320, 2560]⟩ : Shape).Idx → Ideal .f32)
    (a4 : (⟨2, ![8320, 128]⟩ : Shape).Idx → Ideal .f32) (a5 : (⟨1, ![32]⟩ : Shape).Idx → Ideal .f32)
    (b : Fin 40) (h : Fin 32) (p : Fin 64) (n : Fin 128) : BitVec 8 := cval (HG a0 a1 a2 a3 a4 a5 b h p n) (SG a0 a1 a2 a3 a4 a5 b h p)

theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee, -EReal.coe_mul]; norm_num

/-- A product against a one-hot column is one entry, -/
theorem sum_hot {n : ℕ} (f g : Fin n → EReal) (j : Fin n) (hg : ∀ k, g k = if k = j then (1 : EReal) else 0) : ∑ k, f k * g k = f j := by
  rw [Finset.sum_eq_single j (fun k _ hk => by rw [hg, if_neg hk, mul_zero]) (fun h => absurd (Finset.mem_univ j) h), hg, if_pos rfl, mul_one]
/-- and a product whose rows but one are zero is that row's. -/
theorem sum_row {n : ℕ} (f g : Fin n → EReal) (j : Fin n) (x : EReal) (hf : ∀ k, f k = if k = j then x else 0) : ∑ k, f k * g k = x * g j := by
  rw [Finset.sum_eq_single j (fun k _ hk => by rw [hf, if_neg hk, zero_mul]) (fun h => absurd (Finset.mem_univ j) h), hf, if_pos rfl]

/-- The maximum along the last of three axes, -/
theorem max3_apply {a b n : ℕ} (v : FVec Ideal ⟨3, ![a, b, n]⟩ .f32) (acc : BitVec 32) (h : (⟨3, ![a, b, n]⟩ : Shape).Reduces [2] ⟨2, ![a, b]⟩)
    (h₁ h₂) (i : Fin a) (j : Fin b) : multiReduction (F := Ideal) (φ := .f32) .maximumf [2] ⟨2, ![a, b]⟩ v acc h h₁ h₂ (ix2 i j)
      = (Finset.univ : Finset (Fin n)).fold FloatOps.maximumf (FloatOps.ofBits .f32 acc) fun k => v (ix3 i j k) := by
  rw [multiReduction_maximumf_eq_fold]
  exact Shape.Reduces.fold_fiber_r3_a2 h (ix2 i j) _ _ v
/-- and along the last of four. -/
theorem max4_apply {a b c n : ℕ} (v : FVec Ideal ⟨4, ![a, b, c, n]⟩ .f32) (acc : BitVec 32)
    (h : (⟨4, ![a, b, c, n]⟩ : Shape).Reduces [3] ⟨3, ![a, b, c]⟩) (h₁ h₂) (i : Fin a) (j : Fin b) (l : Fin c) :
    multiReduction (F := Ideal) (φ := .f32) .maximumf [3] ⟨3, ![a, b, c]⟩ v acc h h₁ h₂ (ix3 i j l)
      = (Finset.univ : Finset (Fin n)).fold FloatOps.maximumf (FloatOps.ofBits .f32 acc) fun k => v (ix4 i j l k) := by
  rw [multiReduction_maximumf_eq_fold]
  exact Shape.Reduces.fold_fiber_r4_a3 h (ix3 i j l) _ _ v

end Dec

end
-- ==== Proof.DecPieces.lean ====
module

public import proofs.«01_k».proof.Proof.DecFrame
public import proofs.«01_k».proof.Proof.DecMath
public import Idealize.ShloMosaic.Lib.Pointwise.Contract
public import Idealize.ShloMosaic.Lib.Pipeline.ValueKit
public import Idealize.ShloMosaic.Lib.ValueLayout

@[expose] public section

set_option maxRecDepth 16384

noncomputable section

namespace Cert.DecKernelIdeal.Hand

open Cert.DecKernelIdeal Cert.DecKernelIdeal.Gen
open Idealize.ShloMosaic hiding ix0 ix1 ix2 ix3 ix4 ix5 eq_ix2
open Idealize.ShloMosaic.TcCoe Idealize.ShloMosaic.ValueIdx Idealize.ShloMosaic.Tactic
open Idealize.SL Idealize.SL.Sem

/-- The quotient by 64 rounded down, as the body writes it on integers, -/
def fd (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32)))) (IntOp.cmpi .ne (IntOp.remsi .vector x 64#32) 0#32))
    (IntOp.subi (IntOp.divsi .vector x 64#32) 1#32) (IntOp.divsi .vector x 64#32)
/-- at every entry of a matrix. -/
def fdV (x : IVec S128x2048 32) : IVec S128x2048 32 := fun y => fd (x y)

open scoped BigOperators

/-! ## The body's values at an index -/

/-- The column of heads: entry `(k, c)` is 1 where column `c` belongs to head `k`. -/
theorem pay6_apply (k : Fin 128) (c : Fin 2048) (j : Fin 128) (hj : (j : ℕ) = c / 64) :
    (k0_pay6 (F := Ideal) (ix2 k c) : EReal) = if k = j then 1 else 0 := by
  have hd : ∀ c : Fin 2048, fd (BitVec.ofNat 32 c) = BitVec.ofNat 32 ((c : ℕ) / 64) := by decide +kernel
  have hc : shapeCast S128x2048 (select (cmpi .eq (fdV (iota .tc S128x2048 32 [1] iota_S128x2048_d1_w32)) (iota .tc S128x2048 32 [0] iota_S128x2048_d0_w32))
      (broadcast S128x2048 (Scalar.ofBits (F := Ideal) .f32 0x3F800000#32)) (broadcast S128x2048 (Scalar.ofBits (F := Ideal) .f32 0x00000000#32))) shapeCasts_S128x2048_S128x2048
      = _ := shapeCast_self _ shapeCasts_S128x2048_S128x2048
  show shapeCast S128x2048 (select (cmpi .eq (fdV (iota .tc S128x2048 32 [1] iota_S128x2048_d1_w32)) (iota .tc S128x2048 32 [0] iota_S128x2048_d0_w32))
      (broadcast S128x2048 (Scalar.ofBits (F := Ideal) .f32 0x3F800000#32)) (broadcast S128x2048 (Scalar.ofBits (F := Ideal) .f32 0x00000000#32))) shapeCasts_S128x2048_S128x2048 (ix2 k c) = _
  rw [hc]
  show Scalar.select (IntOp.cmpi .eq (fd (BitVec.ofNat 32 (0 * 2048 + (c : ℕ)))) (BitVec.ofNat 32 (0 * 128 + (k : ℕ)))) (Ideal.ofBits .f32 0x3F800000#32) (Ideal.ofBits .f32 0x00000000#32) = _
  rw [show 0 * 2048 + (c : ℕ) = c by omega, show 0 * 128 + (k : ℕ) = k by omega, hd, Dec.ofBits_one, Dec.ofBits_zero, ← hj]
  have hk' : ∀ j k : Fin 128, (IntOp.cmpi .eq (BitVec.ofNat 32 (j : ℕ)) (BitVec.ofNat 32 (k : ℕ)) = 1) ↔ k = j := by decide +kernel
  have hk := hk' j k
  unfold Scalar.select
  by_cases h : k = j
  · rw [if_pos h, if_pos (hk.mpr h)]
  · rw [if_neg h, if_neg (fun e => h (hk.mp e))]

/-- The step's row of a block of eight. -/
theorem pay7_apply : ∀ (t : Fin grid0.N) (r : Fin 8),
    k0_pay7 (grid0.coords t) (ix2 r 0) = if (r : ℕ) = t.val % 8 then 1#1 else 0#1 := by decide +kernel

section Row
variable (i : grid0.Coords) (ρ : Fin 8) (hi : ∀ r : Fin 8, k0_pay7 i (ix2 r 0) = if r = ρ then 1#1 else 0#1)
include hi

theorem mask_apply (a b : FVec Ideal S8x128 .f32) (r : Fin 8) (k : Fin 128) :
    select (broadcastTo S8x128 (shapeCast S8x1 (k0_pay7 i) shapeCasts_S8x1_S8x1) broadcasts_S8x1_S8x128) a b (ix2 r k)
      = if r = ρ then a (ix2 r k) else b (ix2 r k) := by
  have hs : shapeCast S8x1 (k0_pay7 i) shapeCasts_S8x1_S8x1 = k0_pay7 i := shapeCast_self _ shapeCasts_S8x1_S8x1
  have hb : broadcastTo S8x128 (k0_pay7 i) broadcasts_S8x1_S8x128 (ix2 r k) = k0_pay7 i (ix2 r 0) :=
    broadcastTo_apply _ broadcasts_S8x1_S8x128 (ix2 r k) (ix2 r 0) fun a => match a with | ⟨0, _⟩ => rfl | ⟨1, _⟩ => rfl
  rw [hs, select_apply, hb, hi]
  unfold Scalar.select
  by_cases h : r = ρ
  · rw [if_pos h, if_pos h]; exact if_pos rfl
  · rw [if_neg h, if_neg h]; exact if_neg (by decide)

/-- The decays of the step's row, a column's head's; the other rows are zero. -/
theorem pay9_apply (x3 : Vec Ideal S8x128 .f32) (x4 : Vec Ideal S1x128 .f32) (r : Fin 8) (c : Fin 2048) (j : Fin 128) (hj : (j : ℕ) = c / 64) :
    (k0_pay9 (F := Ideal) i x3 x4 (k0_pay6 (F := Ideal)) (ix2 r c) : EReal) = if r = ρ then Dec.decay (x3 (ix2 ρ j)) (x4 (ix2 0 j)) else 0 := by
  have hd : dot_S8x128_S128x2048_S8x2048_1_0_0_1_n_n = DotDims.plain 8 128 2048 := rfl
  have hm := Ideal.matmul_plain_apply (φ₁ := .f32) (φ₂ := .f32) (some .fp32 : Option ContractPrecision)
    (select (broadcastTo S8x128 (shapeCast S8x1 (k0_pay7 i) shapeCasts_S8x1_S8x1) broadcasts_S8x1_S8x128)
      (exp (mulf x3 (broadcastTo S8x128 (subf (broadcast S1x128 (Scalar.ofBits (F := Ideal) .f32 0x00000000#32)) (exp (shapeCast S1x128 x4 shapeCasts_S1x128_S1x128))) broadcasts_S1x128_S8x128)) : FVec Ideal S8x128 .f32)
      (broadcast S8x128 (Scalar.ofBits (F := Ideal) .f32 0x00000000#32)))
    (k0_pay6 (F := Ideal)) (constant (F := Ideal) S8x2048 .f32 0x00000000#32) r c
  unfold k0_pay9
  rw [hd]
  refine hm.trans ?_
  rw [Dec.sum_hot _ _ j (fun k => pay6_apply k c j hj), mask_apply i ρ hi]
  have h0 : (constant (F := Ideal) S8x2048 .f32 0x00000000#32 (ix2 r c) : EReal) = 0 := Dec.ofBits_zero
  rw [h0, zero_add]
  have hb : broadcastTo S8x128 (subf (broadcast S1x128 (Scalar.ofBits (F := Ideal) .f32 0x00000000#32)) (exp (shapeCast S1x128 x4 shapeCasts_S1x128_S1x128))) broadcasts_S1x128_S8x128 (ix2 r j)
      = (Ideal.ofBits .f32 0x00000000#32 - FloatOps.exp (x4 (ix2 0 j)) : Ideal .f32) := by
    have hc : shapeCast S1x128 x4 shapeCasts_S1x128_S1x128 = x4 := shapeCast_self x4 shapeCasts_S1x128_S1x128
    rw [hc]
    exact broadcastTo_1b_ab_apply _ _ r j
  by_cases h : r = ρ
  · rw [if_pos h, if_pos h]
    show FloatOps.exp (F := Ideal) (φ := .f32) (x3 (ix2 r j) * _) = _
    rw [hb, h]
    rfl
  · rw [if_neg h, if_neg h]
    exact Dec.ofBits_zero

/-- The step's inputs of the step's row, a column's; the other rows are zero. -/
theorem pay12_apply (x3 : Vec Ideal S8x128 .f32) (X : Vec Ideal S8x2048 .f32) (r : Fin 8) (c : Fin 2048) (j : Fin 128) (hj : (j : ℕ) = c / 64) :
    (k0_pay12 (F := Ideal) (k0_pay8 i x3) X (k0_pay6 (F := Ideal)) (ix2 r c) : EReal) = if r = ρ then (x3 (ix2 ρ j) * X (ix2 ρ c) : EReal) else 0 := by
  have hd : dot_S8x128_S128x2048_S8x2048_1_0_0_1_n_n = DotDims.plain 8 128 2048 := rfl
  have hm := Ideal.matmul_plain_apply (φ₁ := .f32) (φ₂ := .f32) (some .fp32 : Option ContractPrecision)
    (k0_pay8 (F := Ideal) i x3) (k0_pay6 (F := Ideal)) (constant (F := Ideal) S8x2048 .f32 0x00000000#32) r c
  unfold k0_pay12
  rw [hd, mulf_apply]
  refine (congrArg (fun z : EReal => z * X (ix2 r c)) hm).trans ?_
  rw [Dec.sum_hot _ _ j (fun k => pay6_apply k c j hj)]
  have h0 : (constant (F := Ideal) S8x2048 .f32 0x00000000#32 (ix2 r c) : EReal) = 0 := Dec.ofBits_zero
  rw [h0, zero_add]
  unfold k0_pay8
  rw [mask_apply i ρ hi]
  by_cases h : r = ρ
  · rw [if_pos h, if_pos h, h]
  · rw [if_neg h, if_neg h]
    exact (congrArg (fun z : EReal => z * X (ix2 r c)) Dec.ofBits_zero).trans (zero_mul _)

/-- The decays times the scales. -/
theorem pay11_apply (x1 : Vec Ideal S1x1x2048 .f32) (x3 : Vec Ideal S8x128 .f32) (x4 : Vec Ideal S1x128 .f32) (r : Fin 8) (c : Fin 2048) (j : Fin 128)
    (hj : (j : ℕ) = c / 64) :
    (k0_pay11 (F := Ideal) (k0_pay9 i x3 x4 (k0_pay6 (F := Ideal))) (k0_pay10 x1) (ix2 r c) : EReal)
      = if r = ρ then (Dec.decay (x3 (ix2 ρ j)) (x4 (ix2 0 j)) * x1 (ix3 0 0 c) : EReal) else 0 := by
  have hb : broadcastTo S8x2048 (k0_pay10 (F := Ideal) x1) broadcasts_S1x2048_S8x2048 (ix2 r c) = x1 (ix3 0 0 c) := by
    refine (broadcastTo_1b_ab_apply _ _ r c).trans ?_
    exact shapeCast_apply x1 shapeCasts_S1x1x2048_S1x2048 (ix2 0 c) (ix3 0 0 c) (by simp [Shape.rowMajor_val_two, Shape.rowMajor_val_three])
  unfold k0_pay11
  rw [mulf_apply, hb]
  refine (congrArg (fun z : EReal => z * x1 (ix3 0 0 c)) (pay9_apply i ρ hi x3 x4 r c j hj)).trans ?_
  by_cases h : r = ρ
  · rw [if_pos h, if_pos h]
  · rw [if_neg h, if_neg h, zero_mul]

end Row

/-- A product over the eight rows of both operands, at an index. -/
theorem rows_apply (A : FVec Ideal S8x1024 .f32) (B : FVec Ideal S8x128 .f32) (k : Fin 1024) (n : Fin 128) :
    (matmul (F := Ideal) dot_S8x1024_S8x128_S1024x128_0_0_1_1_n_n (some .fp32) A B (constant S1024x128 .f32 0x00000000#32) (ix2 k n) : EReal)
      = ∑ r : Fin 8, (A (ix2 r k) * B (ix2 r n) : EReal) := by
  have hm := Ideal.matmul_apply₁_of dot_S8x1024_S8x128_S1024x128_0_0_1_1_n_n (a := 0) rfl (K := 8) rfl A B (constant (F := Ideal) S1024x128 .f32 0x00000000#32) (ix2 k n)
    (fun r => ix2 r k) (fun r => ix2 r n)
    (fun r => funext fun a => match a with | ⟨0, _⟩ => rfl | ⟨1, _⟩ => rfl)
    (fun r => funext fun a => match a with | ⟨0, _⟩ => rfl | ⟨1, _⟩ => rfl)
  refine hm.trans ?_
  have h0 : (constant (F := Ideal) S1024x128 .f32 0x00000000#32 (ix2 k n) : EReal) = 0 := Dec.ofBits_zero
  rw [h0, zero_add]

/-- One half of the heads: 16 of them from column `o` on, the new state of each. -/
def hgrp (o : ℕ) (hs : S8x2048.Slices ![0, o] S8x1024) (A D : FVec Ideal S8x2048 .f32) (B : Vec Ideal S8x128 .f32) (C : Vec Ideal S1x16x64x128 .i8) :
    FVec Ideal S16x64x128 .f32 :=
  shapeCast S16x64x128 (addf
    (mulf (matmul dot_S8x1024_S8x128_S1024x128_0_0_1_1_n_n (some .fp32) (extractStridedSlice S8x1024 ![0, o] A hs) (k0_pay13 (F := Ideal)) (constant (F := Ideal) S1024x128 .f32 0x00000000#32))
      (shapeCast S1024x128 (sitofp .f32 (shapeCast S16x64x128 C shapeCasts_S1x16x64x128_S16x64x128)) shapeCasts_S16x64x128_S1024x128))
    (matmul (φ₁ := .f32) (φ₂ := .f32) dot_S8x1024_S8x128_S1024x128_0_0_1_1_n_n (some .fp32) (extractStridedSlice S8x1024 ![0, o] D hs) B (constant (F := Ideal) S1024x128 .f32 0x00000000#32)))
    shapeCasts_S1024x128_S16x64x128

theorem hgrp_apply (o : ℕ) (hs : S8x2048.Slices ![0, o] S8x1024) (A D : FVec Ideal S8x2048 .f32) (B : Vec Ideal S8x128 .f32) (C : Vec Ideal S1x16x64x128 .i8)
    (ρ : Fin 8) (h : Fin 16) (p : Fin 64) (n : Fin 128) (c : Fin 2048) (hc : (c : ℕ) = o + ((h : ℕ) * 64 + p)) (a d : EReal)
    (hA : ∀ r : Fin 8, (A (ix2 r c) : EReal) = if r = ρ then a else 0) (hD : ∀ r : Fin 8, (D (ix2 r c) : EReal) = if r = ρ then d else 0) :
    (hgrp o hs A D B C (ix3 h p n) : EReal) = (a * (FloatOps.sitofp .f32 (C (ix4 0 h p n)) : Ideal .f32) + d * B (ix2 ρ n) : EReal) := by
  have hk : (h : ℕ) * 64 + p < 1024 := by have := h.isLt; have := p.isLt; omega
  have e1 : shapeCast S1024x128 (sitofp (F := Ideal) .f32 (shapeCast S16x64x128 C shapeCasts_S1x16x64x128_S16x64x128)) shapeCasts_S16x64x128_S1024x128 (ix2 (⟨(h : ℕ) * 64 + p, hk⟩ : Fin 1024) n)
      = FloatOps.sitofp .f32 (C (ix4 0 h p n)) := by
    refine (shapeCast_apply _ _ _ (ix3 h p n) (by simp [Shape.rowMajor_val_two, Shape.rowMajor_val_three])).trans ?_
    rw [sitofp_apply]
    refine congrArg _ (shapeCast_apply _ _ _ (ix4 0 h p n) ?_)
    simp [Shape.rowMajor_val_three, Shape.rowMajor_val_four]
  have sA : ∀ r : Fin 8, extractStridedSlice S8x1024 ![0, o] A hs (ix2 r (⟨(h : ℕ) * 64 + p, hk⟩ : Fin 1024)) = A (ix2 r c) :=
    fun r => slice2_axis1_apply o A hs r _ c hc
  have sD : ∀ r : Fin 8, extractStridedSlice S8x1024 ![0, o] D hs (ix2 r (⟨(h : ℕ) * 64 + p, hk⟩ : Fin 1024)) = D (ix2 r c) :=
    fun r => slice2_axis1_apply o D hs r _ c hc
  have m1 := rows_apply (extractStridedSlice S8x1024 ![0, o] A hs) (k0_pay13 (F := Ideal)) (⟨(h : ℕ) * 64 + p, hk⟩ : Fin 1024) n
  have m2 := rows_apply (extractStridedSlice S8x1024 ![0, o] D hs) B (⟨(h : ℕ) * 64 + p, hk⟩ : Fin 1024) n
  rw [Dec.sum_row _ _ ρ a (fun r => (sA r).trans (hA r))] at m1
  rw [Dec.sum_row _ _ ρ d (fun r => (sD r).trans (hD r))] at m2
  have h13 : (k0_pay13 (F := Ideal) (ix2 ρ n) : EReal) = 1 := Dec.ofBits_one
  rw [h13, mul_one] at m1
  unfold hgrp
  refine (shapeCast_apply _ _ (ix3 h p n) (ix2 (⟨(h : ℕ) * 64 + p, hk⟩ : Fin 1024) n) (by simp [Shape.rowMajor_val_two, Shape.rowMajor_val_three])).trans ?_
  rw [addf_apply, mulf_apply, e1]
  exact congrArg₂ (fun y z : EReal => y * (FloatOps.sitofp .f32 (C (ix4 0 h p n)) : Ideal .f32) + z) m1 m2

/-- The scales of the rows of a half, -/
def sgrp (H : FVec Ideal S16x64x128 .f32) : FVec Ideal S16x64 .f32 :=
  select (cmpf .ogt (multiReduction .maximumf [2] S16x64 (absf H) 0xFF800000#32 reduces_S16x64x128_S16x64 (.inl rfl) rfl) (broadcast S16x64 (Scalar.ofBits (F := Ideal) .f32 0x00000000#32)))
    (divf (multiReduction .maximumf [2] S16x64 (absf H) 0xFF800000#32 reduces_S16x64x128_S16x64 (.inl rfl) rfl) (broadcast S16x64 (Scalar.ofBits (F := Ideal) .f32 0x42FE0000#32)))
    (broadcast S16x64 (Scalar.ofBits (F := Ideal) .f32 0x3F800000#32))

theorem sgrp_apply (H : FVec Ideal S16x64x128 .f32) (h : Fin 16) (p : Fin 64) : sgrp H (ix2 h p) = Dec.sval fun n => H (ix3 h p n) := by
  have hm := Dec.max3_apply (absf H) 0xFF800000#32 reduces_S16x64x128_S16x64 (.inl rfl) rfl h p
  unfold sgrp
  rw [select_apply, cmpf_apply, divf_apply, hm]
  rfl

/-- and the codes of its entries. -/
theorem pay18_apply (H : FVec Ideal S16x64x128 .f32) (s : FVec Ideal S16x64 .f32) (h : Fin 16) (p : Fin 64) (n : Fin 128) :
    k0_pay18 (F := Ideal) H s (ix4 0 h p n) = Dec.cval (H (ix3 h p n)) (s (ix2 h p)) := by
  have hb : broadcastTo S16x64x128 (shapeCast S16x64x1 s shapeCasts_S16x64_S16x64x1) broadcasts_S16x64x1_S16x64x128 (ix3 h p n) = s (ix2 h p) := by
    refine (broadcastTo_apply _ broadcasts_S16x64x1_S16x64x128 (ix3 h p n) (ix3 h p 0) fun a => match a with | ⟨0, _⟩ => rfl | ⟨1, _⟩ => rfl | ⟨2, _⟩ => rfl).trans ?_
    exact shapeCast_apply _ _ _ (ix2 h p) (by simp [Shape.rowMajor_val_two, Shape.rowMajor_val_three])
  unfold k0_pay18
  refine (shapeCast_apply _ _ (ix4 0 h p n) (ix3 h p n) (by simp [Shape.rowMajor_val_three, Shape.rowMajor_val_four])).trans ?_
  rw [fptosi_apply, minimumf_apply, maximumf_apply, roundeven_apply, divf_apply, hb]
  rfl

theorem pay17_apply (s : FVec Ideal S16x64 .f32) (h : Fin 16) (p : Fin 64) : k0_pay17 (F := Ideal) s (ix3 0 h p) = s (ix2 h p) :=
  shapeCast_apply _ _ _ (ix2 h p) (by simp [Shape.rowMajor_val_two, Shape.rowMajor_val_three])

/-! ## What a point stores, at an index -/

/-- The new state of head `h`, entry `(p, n)`, from a point's blocks. -/
def HB (ρ : Fin 8) (x0 : Vec Ideal S1x32x64x128 .i8) (x1 : Vec Ideal S1x1x2048 .f32) (x2 : Vec Ideal S8x2560 .f32) (x3 : Vec Ideal S8x128 .f32)
    (x4 : Vec Ideal S1x128 .f32) (h : Fin 32) (p : Fin 64) (n : Fin 128) : Ideal .f32 :=
  Dec.hval (x3 (ix2 ρ ⟨h, by omega⟩)) (x4 (ix2 0 ⟨h, by omega⟩)) (x1 (ix3 0 0 ⟨(h : ℕ) * 64 + p, by omega⟩)) (x0 (ix4 0 h p n))
    (x2 (ix2 ρ ⟨(h : ℕ) * 64 + p, by omega⟩)) (x2 (ix2 ρ ⟨2048 + ((h : ℕ) / 16 * 128 + n), by omega⟩))

/-- The scales it stores, -/
def SB (ρ : Fin 8) (x0 : Vec Ideal S1x32x64x128 .i8) (x1 : Vec Ideal S1x1x2048 .f32) (x2 : Vec Ideal S8x2560 .f32) (x3 : Vec Ideal S8x128 .f32)
    (x4 : Vec Ideal S1x128 .f32) : Vec Ideal S1x32x64 .f32 := fun y => Dec.sval fun n => HB ρ x0 x1 x2 x3 x4 (y 1) (y 2) n

/-- and the codes. -/
def CB (ρ : Fin 8) (x0 : Vec Ideal S1x32x64x128 .i8) (x1 : Vec Ideal S1x1x2048 .f32) (x2 : Vec Ideal S8x2560 .f32) (x3 : Vec Ideal S8x128 .f32)
    (x4 : Vec Ideal S1x128 .f32) : Vec Ideal S1x32x64x128 .i8 := fun y =>
  Dec.cval (HB ρ x0 x1 x2 x3 x4 (y 1) (y 2) (y 3)) (Dec.sval fun n => HB ρ x0 x1 x2 x3 x4 (y 1) (y 2) n)

section Outs
variable (i : grid0.Coords) (ρ : Fin 8) (hi : ∀ r : Fin 8, k0_pay7 i (ix2 r 0) = if r = ρ then 1#1 else 0#1)
  (x0 : Vec Ideal S1x32x64x128 .i8) (x1 : Vec Ideal S1x1x2048 .f32) (x2 : Vec Ideal S8x2560 .f32) (x3 : Vec Ideal S8x128 .f32) (x4 : Vec Ideal S1x128 .f32)
include hi

/-- A half's new state is `HB`'s. -/
theorem half_apply (g : ℕ) (hg : g < 2) (hs : S8x2048.Slices ![0, 1024 * g] S8x1024) (X : Vec Ideal S8x2048 .f32) (B : Vec Ideal S8x128 .f32) (C : Vec Ideal S1x16x64x128 .i8)
    (hX : ∀ (r : Fin 8) (c : Fin 2048), X (ix2 r c) = x2 (ix2 r ⟨c, by omega⟩))
    (hB : ∀ (r : Fin 8) (n : Fin 128), B (ix2 r n) = x2 (ix2 r ⟨2048 + (g * 128 + n), by omega⟩))
    (hC : ∀ (h : Fin 16) (p : Fin 64) (n : Fin 128), C (ix4 0 h p n) = x0 (ix4 0 ⟨16 * g + h, by omega⟩ p n))
    (h : Fin 16) (p : Fin 64) (n : Fin 128) :
    hgrp (1024 * g) hs (k0_pay11 (F := Ideal) (k0_pay9 i x3 x4 (k0_pay6 (F := Ideal))) (k0_pay10 x1)) (k0_pay12 (F := Ideal) (k0_pay8 i x3) X (k0_pay6 (F := Ideal))) B C (ix3 h p n)
      = HB ρ x0 x1 x2 x3 x4 ⟨16 * g + h, by omega⟩ p n := by
  have hj : ((⟨16 * g + h, by omega⟩ : Fin 128) : ℕ) = ((⟨(16 * g + (h : ℕ)) * 64 + p, by omega⟩ : Fin 2048) : ℕ) / 64 := by
    show 16 * g + (h : ℕ) = ((16 * g + (h : ℕ)) * 64 + p) / 64
    have := p.isLt; omega
  refine (hgrp_apply (1024 * g) hs _ _ B C ρ h p n ⟨(16 * g + (h : ℕ)) * 64 + p, by omega⟩ (by show (16 * g + (h : ℕ)) * 64 + p = 1024 * g + ((h : ℕ) * 64 + p); omega) _ _
    (fun r => pay11_apply i ρ hi x1 x3 x4 r _ ⟨16 * g + h, by omega⟩ hj) (fun r => pay12_apply i ρ hi x3 X r _ ⟨16 * g + h, by omega⟩ hj)).trans ?_
  rw [hX, hB, hC]
  have hq : (⟨2048 + (g * 128 + (n : ℕ)), by omega⟩ : Fin 2560) = ⟨2048 + ((16 * g + (h : ℕ)) / 16 * 128 + n), by omega⟩ := Fin.ext (by
    show 2048 + (g * 128 + (n : ℕ)) = 2048 + ((16 * g + (h : ℕ)) / 16 * 128 + n)
    have := h.isLt
    have : (16 * g + (h : ℕ)) / 16 = g := by omega
    rw [this])
  rw [hq]
  unfold HB Dec.hval
  refine congrArg (fun z : EReal => z + _) ?_
  rw [mul_assoc, mul_comm (x1 _)]

omit hi

/-- A block of heads at head `g` of a rank-3 buffer, -/
theorem emb3 (g : ℕ) (h : ∀ d, (![0, g, 0] : Fin 3 → ℕ) d + (![1, 16, 64] : Fin 3 → ℕ) d ≤ S1x32x64.size d) (a : Fin 16) (p : Fin 64) (q : Fin 32) (hq : (q : ℕ) = g + a) :
    (Rect.unit (s := S1x32x64) ![0, g, 0] ![1, 16, 64] h).emb (ix3 (0 : Fin 1) a p) = (ix3 (0 : Fin 1) q p : S1x32x64.Idx) := by
  funext d
  refine Fin.ext ?_
  match d with
  | ⟨0, _⟩ => rfl
  | ⟨1, _⟩ => rw [Rect.emb_apply]; show g + 1 * (a : ℕ) = q; omega
  | ⟨2, _⟩ => rw [Rect.emb_apply]; show 0 + 1 * (p : ℕ) = p; omega
/-- and of a rank-4 one. -/
theorem emb4 (g : ℕ) (h : ∀ d, (![0, g, 0, 0] : Fin 4 → ℕ) d + (![1, 16, 64, 128] : Fin 4 → ℕ) d ≤ S1x32x64x128.size d) (a : Fin 16) (p : Fin 64) (n : Fin 128) (q : Fin 32) (hq : (q : ℕ) = g + a) :
    (Rect.unit (s := S1x32x64x128) ![0, g, 0, 0] ![1, 16, 64, 128] h).emb (ix4 (0 : Fin 1) a p n) = (ix4 (0 : Fin 1) q p n : S1x32x64x128.Idx) := by
  funext d
  refine Fin.ext ?_
  match d with
  | ⟨0, _⟩ => rfl
  | ⟨1, _⟩ => rw [Rect.emb_apply]; show g + 1 * (a : ℕ) = q; omega
  | ⟨2, _⟩ => rw [Rect.emb_apply]; show 0 + 1 * (p : ℕ) = p; omega
  | ⟨3, _⟩ => rw [Rect.emb_apply]; show 0 + 1 * (n : ℕ) = n; omega

/-- A load of eight rows from column `b` on. -/
theorem ldX (b w : ℕ) (h : ∀ d, (![0, b] : Fin 2 → ℕ) d + (![8, w] : Fin 2 → ℕ) d ≤ S8x2560.size d) (r : Fin 8) (c : Fin w) (q : Fin 2560) (hq : (q : ℕ) = b + c) :
    View.ld (Val := Elt Ideal) (e' := .f32) x2 (Rect.unit (s := S8x2560) ![0, b] ![8, w] h) (ix2 r c) = x2 (ix2 r q) := by
  refine congrArg x2 (funext fun d => Fin.ext ?_)
  match d with
  | ⟨0, _⟩ => show 0 + 1 * (r : ℕ) = r; omega
  | ⟨1, _⟩ => show b + 1 * (c : ℕ) = q; omega

include hi

theorem half0 (a : Fin 16) (p : Fin 64) (n : Fin 128) :
    hgrp 0 slices_S8x2048_o0_0_S8x1024 (k0_pay11 (F := Ideal) (k0_pay9 i x3 x4 (k0_pay6 (F := Ideal))) (k0_pay10 x1))
      (k0_pay12 (F := Ideal) (k0_pay8 i x3) (View.ld x2 (Rect.unit (s := S8x2560) ![0, 0] ![8, 2048] inb_S8x2560_S8x2048_0_0)) (k0_pay6 (F := Ideal)))
      (View.ld x2 (Rect.unit (s := S8x2560) ![0, 2048] ![8, 128] inb_S8x2560_S8x128_0_2048))
      (View.ld x0 (Rect.unit (s := S1x32x64x128) ![0, 0, 0, 0] ![1, 16, 64, 128] inb_S1x32x64x128_S1x16x64x128_0_0_0_0)) (ix3 a p n)
      = HB ρ x0 x1 x2 x3 x4 ⟨a, by omega⟩ p n := by
  refine (half_apply i ρ hi x0 x1 x2 x3 x4 0 (by decide) slices_S8x2048_o0_0_S8x1024 _ _ _ ?_ ?_ ?_ a p n).trans ?_
  · exact fun r c => ldX x2 0 2048 _ r c _ (Nat.zero_add _).symm
  · exact fun r n => ldX x2 2048 128 _ r n _ (by show 2048 + (0 * 128 + (n : ℕ)) = 2048 + n; omega)
  · exact fun h p n => congrArg x0 (emb4 0 _ h p n _ (by show 16 * 0 + (h : ℕ) = 0 + h; omega))
  · exact congrArg (fun q : Fin 32 => HB ρ x0 x1 x2 x3 x4 q p n) (Fin.ext (by show 16 * 0 + (a : ℕ) = a; omega))

theorem half1 (a : Fin 16) (p : Fin 64) (n : Fin 128) :
    hgrp 1024 slices_S8x2048_o0_1024_S8x1024 (k0_pay11 (F := Ideal) (k0_pay9 i x3 x4 (k0_pay6 (F := Ideal))) (k0_pay10 x1))
      (k0_pay12 (F := Ideal) (k0_pay8 i x3) (View.ld x2 (Rect.unit (s := S8x2560) ![0, 0] ![8, 2048] inb_S8x2560_S8x2048_0_0)) (k0_pay6 (F := Ideal)))
      (View.ld x2 (Rect.unit (s := S8x2560) ![0, 2176] ![8, 128] inb_S8x2560_S8x128_0_2176))
      (View.ld x0 (Rect.unit (s := S1x32x64x128) ![0, 16, 0, 0] ![1, 16, 64, 128] inb_S1x32x64x128_S1x16x64x128_0_16_0_0)) (ix3 a p n)
      = HB ρ x0 x1 x2 x3 x4 ⟨16 + a, by omega⟩ p n := by
  refine (half_apply i ρ hi x0 x1 x2 x3 x4 1 (by decide) slices_S8x2048_o0_1024_S8x1024 _ _ _ ?_ ?_ ?_ a p n).trans ?_
  · exact fun r c => ldX x2 0 2048 _ r c _ (Nat.zero_add _).symm
  · exact fun r n => ldX x2 2176 128 _ r n _ (by show 2048 + (1 * 128 + (n : ℕ)) = 2176 + n; omega)
  · exact fun h p n => congrArg x0 (emb4 16 _ h p n _ (by show 16 * 1 + (h : ℕ) = 16 + h; omega))
  · exact congrArg (fun q : Fin 32 => HB ρ x0 x1 x2 x3 x4 q p n) (Fin.ext (by show 16 * 1 + (a : ℕ) = 16 + a; omega))

end Outs

end Cert.DecKernelIdeal.Hand

end
-- ==== Proof.DecCanon.lean ====
/- The blocks a grid point of the decode step leaves, as whole blocks of `SB` and `CB`. -/
module

public import proofs.«01_k».proof.Proof.DecPieces
public import Idealize.ShloMosaic.Lib.Pointwise.Contract
public import Idealize.ShloMosaic.Lib.Pipeline.ValueKit
public import Idealize.ShloMosaic.Lib.ValueLayout

@[expose] public section

set_option maxRecDepth 16384

noncomputable section

namespace Cert.DecKernelIdeal.Hand

open Cert.DecKernelIdeal Cert.DecKernelIdeal.Gen
open Idealize.ShloMosaic hiding ix0 ix1 ix2 ix3 ix4 ix5 eq_ix2
open Idealize.ShloMosaic.TcCoe Idealize.ShloMosaic.ValueIdx Idealize.ShloMosaic.Tactic
open Idealize.SL Idealize.SL.Sem

section Outs
variable (i : grid0.Coords) (ρ : Fin 8) (hi : ∀ r : Fin 8, k0_pay7 i (ix2 r 0) = if r = ρ then 1#1 else 0#1)
  (x0 : Vec Ideal S1x32x64x128 .i8) (x1 : Vec Ideal S1x1x2048 .f32) (x2 : Vec Ideal S8x2560 .f32) (x3 : Vec Ideal S8x128 .f32) (x4 : Vec Ideal S1x128 .f32)
include hi

theorem pieceS0 (a : Fin 16) (p : Fin 64) : k0_pay3 (F := Ideal) (k0_pay12 (k0_pay8 i x3) (View.ld x2 (Rect.unit (s := S8x2560) ![0, 0] ![8, 2048] inb_S8x2560_S8x2048_0_0)) (k0_pay6 (F := Ideal))) (View.ld x2 (Rect.unit (s := S8x2560) ![0, 2176] ![8, 128] inb_S8x2560_S8x128_0_2176)) (k0_pay21 (k0_pay11 (k0_pay9 i x3 x4 (k0_pay6 (F := Ideal))) (k0_pay10 x1)) (k0_pay13 (F := Ideal)) (View.ld x0 (Rect.unit (s := S1x32x64x128) ![0, 16, 0, 0] ![1, 16, 64, 128] inb_S1x32x64x128_S1x16x64x128_0_16_0_0))) (ix3 0 a p) = SB ρ x0 x1 x2 x3 x4 (ix3 0 ⟨16 + a, by omega⟩ p) := by
  refine (pay17_apply (sgrp (hgrp 1024 slices_S8x2048_o0_1024_S8x1024 _ _ _ _)) a p).trans ?_
  rw [sgrp_apply]
  exact congrArg Dec.sval (funext fun n => half1 i ρ hi x0 x1 x2 x3 x4 a p n)

theorem pieceC0 (a : Fin 16) (p : Fin 64) (n : Fin 128) : k0_pay4 (F := Ideal) (k0_pay12 (k0_pay8 i x3) (View.ld x2 (Rect.unit (s := S8x2560) ![0, 0] ![8, 2048] inb_S8x2560_S8x2048_0_0)) (k0_pay6 (F := Ideal))) (View.ld x2 (Rect.unit (s := S8x2560) ![0, 2176] ![8, 128] inb_S8x2560_S8x128_0_2176)) (k0_pay21 (k0_pay11 (k0_pay9 i x3 x4 (k0_pay6 (F := Ideal))) (k0_pay10 x1)) (k0_pay13 (F := Ideal)) (View.ld x0 (Rect.unit (s := S1x32x64x128) ![0, 16, 0, 0] ![1, 16, 64, 128] inb_S1x32x64x128_S1x16x64x128_0_16_0_0))) (ix4 0 a p n) = CB ρ x0 x1 x2 x3 x4 (ix4 0 ⟨16 + a, by omega⟩ p n) := by
  refine (pay18_apply (hgrp 1024 slices_S8x2048_o0_1024_S8x1024 _ _ _ _) (sgrp (hgrp 1024 slices_S8x2048_o0_1024_S8x1024 _ _ _ _)) a p n).trans ?_
  rw [sgrp_apply]
  exact congrArg₂ Dec.cval (half1 i ρ hi x0 x1 x2 x3 x4 a p n) (congrArg Dec.sval (funext fun n => half1 i ρ hi x0 x1 x2 x3 x4 a p n))

theorem pieceS1 (a : Fin 16) (p : Fin 64) : k0_pay17 (F := Ideal) (k0_pay16 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0))) (ix3 0 a p) = SB ρ x0 x1 x2 x3 x4 (ix3 0 ⟨a, by omega⟩ p) := by
  refine (pay17_apply (sgrp (hgrp 0 slices_S8x2048_o0_0_S8x1024 _ _ _ _)) a p).trans ?_
  rw [sgrp_apply]
  exact congrArg Dec.sval (funext fun n => half0 i ρ hi x0 x1 x2 x3 x4 a p n)

theorem pieceC1 (a : Fin 16) (p : Fin 64) (n : Fin 128) : k0_pay18 (F := Ideal) (k0_pay15 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0))) (k0_pay16 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0))) (ix4 0 a p n) = CB ρ x0 x1 x2 x3 x4 (ix4 0 ⟨a, by omega⟩ p n) := by
  refine (pay18_apply (hgrp 0 slices_S8x2048_o0_0_S8x1024 _ _ _ _) (sgrp (hgrp 0 slices_S8x2048_o0_0_S8x1024 _ _ _ _)) a p n).trans ?_
  rw [sgrp_apply]
  exact congrArg₂ Dec.cval (half0 i ρ hi x0 x1 x2 x3 x4 a p n) (congrArg Dec.sval (funext fun n => half0 i ρ hi x0 x1 x2 x3 x4 a p n))

/-- The two halves of the scales, as a point stores them, are `SB`. -/
theorem canonS : View.canon (Val := Elt Ideal) (e := .f32)
    [⟨Rect.unit (s := S1x32x64) ![0, 16, 0] ![1, 16, 64] inb_S1x32x64_S1x16x64_0_16_0, k0_pay3 (F := Ideal) (k0_pay12 (k0_pay8 i x3) (View.ld x2 (Rect.unit (s := S8x2560) ![0, 0] ![8, 2048] inb_S8x2560_S8x2048_0_0)) (k0_pay6 (F := Ideal))) (View.ld x2 (Rect.unit (s := S8x2560) ![0, 2176] ![8, 128] inb_S8x2560_S8x128_0_2176)) (k0_pay21 (k0_pay11 (k0_pay9 i x3 x4 (k0_pay6 (F := Ideal))) (k0_pay10 x1)) (k0_pay13 (F := Ideal)) (View.ld x0 (Rect.unit (s := S1x32x64x128) ![0, 16, 0, 0] ![1, 16, 64, 128] inb_S1x32x64x128_S1x16x64x128_0_16_0_0)))⟩,
    ⟨Rect.unit (s := S1x32x64) ![0, 0, 0] ![1, 16, 64] inb_S1x32x64_S1x16x64_0_0_0, k0_pay17 (F := Ideal) (k0_pay16 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0)))⟩] = SB ρ x0 x1 x2 x3 x4 := by
  funext y
  refine View.canon_apply_of_pieces (SB ρ x0 x1 x2 x3 x4) _ ?_ y ?_
  · refine List.forall_mem_cons.mpr ⟨?_, List.forall_mem_cons.mpr ⟨?_, List.forall_mem_nil _⟩⟩
    · intro x
      obtain ⟨z, a, p, rfl⟩ : ∃ (z : Fin 1) (a : Fin 16) (p : Fin 64), x = ix3 z a p := ⟨x 0, x 1, x 2, ValueIdx.eq_ix3 x⟩
      obtain rfl : z = 0 := Subsingleton.elim _ _
      have e := emb3 16 inb_S1x32x64_S1x16x64_0_16_0 a p ⟨16 + a, by omega⟩ rfl
      dsimp only
      rw [e]
      exact pieceS0 i ρ hi x0 x1 x2 x3 x4 a p
    · intro x
      obtain ⟨z, a, p, rfl⟩ : ∃ (z : Fin 1) (a : Fin 16) (p : Fin 64), x = ix3 z a p := ⟨x 0, x 1, x 2, ValueIdx.eq_ix3 x⟩
      obtain rfl : z = 0 := Subsingleton.elim _ _
      have e := emb3 0 inb_S1x32x64_S1x16x64_0_0_0 a p ⟨a, by omega⟩ (Nat.zero_add _).symm
      dsimp only
      rw [e]
      exact pieceS1 i ρ hi x0 x1 x2 x3 x4 a p
  · exact View.cover_of_tiledL (s := S1x32x64) _ S1x16x64.size (by sl_kernel_rfl) y

/-- The two halves of the codes, as a point stores them, are `CB`. -/
theorem canonC : View.canon (Val := Elt Ideal) (e := .i8)
    [⟨Rect.unit (s := S1x32x64x128) ![0, 16, 0, 0] ![1, 16, 64, 128] inb_S1x32x64x128_S1x16x64x128_0_16_0_0, k0_pay4 (F := Ideal) (k0_pay12 (k0_pay8 i x3) (View.ld x2 (Rect.unit (s := S8x2560) ![0, 0] ![8, 2048] inb_S8x2560_S8x2048_0_0)) (k0_pay6 (F := Ideal))) (View.ld x2 (Rect.unit (s := S8x2560) ![0, 2176] ![8, 128] inb_S8x2560_S8x128_0_2176)) (k0_pay21 (k0_pay11 (k0_pay9 i x3 x4 (k0_pay6 (F := Ideal))) (k0_pay10 x1)) (k0_pay13 (F := Ideal)) (View.ld x0 (Rect.unit (s := S1x32x64x128) ![0, 16, 0, 0] ![1, 16, 64, 128] inb_S1x32x64x128_S1x16x64x128_0_16_0_0)))⟩,
    ⟨Rect.unit (s := S1x32x64x128) ![0, 0, 0, 0] ![1, 16, 64, 128] inb_S1x32x64x128_S1x16x64x128_0_0_0_0, k0_pay18 (F := Ideal) (k0_pay15 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0))) (k0_pay16 (F := Ideal) (k0_pay8 i x3) (k0_pay9 i x3 x4 (k0_pay6 (F := Ideal))) (k0_pay10 x1) (View.ld x2 (Rect.unit (s := S8x2560) ![0, 0] ![8, 2048] inb_S8x2560_S8x2048_0_0)) (k0_pay6 (F := Ideal)) (View.ld x2 (Rect.unit (s := S8x2560) ![0, 2048] ![8, 128] inb_S8x2560_S8x128_0_2048)) (View.ld x0 (Rect.unit (s := S1x32x64x128) ![0, 0, 0, 0] ![1, 16, 64, 128] inb_S1x32x64x128_S1x16x64x128_0_0_0_0)))⟩] = CB ρ x0 x1 x2 x3 x4 := by
  funext y
  refine View.canon_apply_of_pieces (CB ρ x0 x1 x2 x3 x4) _ ?_ y ?_
  · refine List.forall_mem_cons.mpr ⟨?_, List.forall_mem_cons.mpr ⟨?_, List.forall_mem_nil _⟩⟩
    · intro x
      obtain ⟨z, a, p, n, rfl⟩ : ∃ (z : Fin 1) (a : Fin 16) (p : Fin 64) (n : Fin 128), x = ix4 z a p n := ⟨x 0, x 1, x 2, x 3, ValueIdx.eq_ix4 x⟩
      obtain rfl : z = 0 := Subsingleton.elim _ _
      have e := emb4 16 inb_S1x32x64x128_S1x16x64x128_0_16_0_0 a p n ⟨16 + a, by omega⟩ rfl
      dsimp only
      rw [e]
      exact pieceC0 i ρ hi x0 x1 x2 x3 x4 a p n
    · intro x
      obtain ⟨z, a, p, n, rfl⟩ : ∃ (z : Fin 1) (a : Fin 16) (p : Fin 64) (n : Fin 128), x = ix4 z a p n := ⟨x 0, x 1, x 2, x 3, ValueIdx.eq_ix4 x⟩
      obtain rfl : z = 0 := Subsingleton.elim _ _
      have e := emb4 0 inb_S1x32x64x128_S1x16x64x128_0_0_0_0 a p n ⟨a, by omega⟩ (Nat.zero_add _).symm
      dsimp only
      rw [e]
      exact pieceC1 i ρ hi x0 x1 x2 x3 x4 a p n
  · exact View.cover_of_tiledL (s := S1x32x64x128) _ S1x16x64x128.size (by sl_kernel_rfl) y

end Outs

theorem out0_A_7_eq (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec Ideal S1x32x64x128 .i8) (x1 : Vec Ideal S1x1x2048 .f32) (x2 : Vec Ideal S8x2560 .f32) (x3 : Vec Ideal S8x128 .f32) (x4 : Vec Ideal S1x128 .f32) (x5 : Vec Ideal S1x128 .f32) (xt0 : TbBuf0 (F := Ideal) c tbM0_0) (ρ : Fin 8)
    (hi : ∀ r : Fin 8, k0_pay7 i (ix2 r 0) = if r = ρ then 1#1 else 0#1) :
    out0_A_7 (F := Ideal) c i arg2 harg2 arg3 harg3 arg4 harg4 arg5 harg5 arg6 harg6 arg7 harg7 arg8 harg8 arg9 harg9 arg10 harg10 arg11 harg11 hc0 x0 x1 x2 x3 x4 x5 xt0 = CB ρ x0 x1 x2 x3 x4 := by
  frame_out
  exact canonC i ρ hi x0 x1 x2 x3 x4

theorem out0_B_7_eq (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec Ideal S1x32x64x128 .i8) (x1 : Vec Ideal S1x1x2048 .f32) (x2 : Vec Ideal S8x2560 .f32) (x3 : Vec Ideal S8x128 .f32) (x4 : Vec Ideal S1x128 .f32) (x5 : Vec Ideal S1x128 .f32) (xt0 : TbBuf0 (F := Ideal) c tbM0_0) (xs0 : Vec Ideal S128x2048 .f32) (hxs : xs0 = k0_pay6 (F := Ideal)) (ρ : Fin 8)
    (hi : ∀ r : Fin 8, k0_pay7 i (ix2 r 0) = if r = ρ then 1#1 else 0#1) :
    out0_B_7 (F := Ideal) c i arg2 harg2 arg3 harg3 arg4 harg4 arg5 harg5 arg6 harg6 arg7 harg7 arg8 harg8 arg9 harg9 arg10 harg10 arg11 harg11 hc0 x0 x1 x2 x3 x4 x5 xt0 xs0 = CB ρ x0 x1 x2 x3 x4 := by
  subst hxs
  frame_out
  exact canonC i ρ hi x0 x1 x2 x3 x4

theorem out0_A_8_eq (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec Ideal S1x32x64x128 .i8) (x1 : Vec Ideal S1x1x2048 .f32) (x2 : Vec Ideal S8x2560 .f32) (x3 : Vec Ideal S8x128 .f32) (x4 : Vec Ideal S1x128 .f32) (x5 : Vec Ideal S1x128 .f32) (xt0 : TbBuf0 (F := Ideal) c tbM0_0) (ρ : Fin 8)
    (hi : ∀ r : Fin 8, k0_pay7 i (ix2 r 0) = if r = ρ then 1#1 else 0#1) :
    out0_A_8 (F := Ideal) c i arg2 harg2 arg3 harg3 arg4 harg4 arg5 harg5 arg6 harg6 arg7 harg7 arg8 harg8 arg9 harg9 arg10 harg10 arg11 harg11 hc0 x0 x1 x2 x3 x4 x5 xt0 = SB ρ x0 x1 x2 x3 x4 := by
  frame_out
  exact canonS i ρ hi x0 x1 x2 x3 x4

theorem out0_B_8_eq (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : ¬cond0_0 i)
    (x0 : Vec Ideal S1x32x64x128 .i8) (x1 : Vec Ideal S1x1x2048 .f32) (x2 : Vec Ideal S8x2560 .f32) (x3 : Vec Ideal S8x128 .f32) (x4 : Vec Ideal S1x128 .f32) (x5 : Vec Ideal S1x128 .f32) (xt0 : TbBuf0 (F := Ideal) c tbM0_0) (xs0 : Vec Ideal S128x2048 .f32) (hxs : xs0 = k0_pay6 (F := Ideal)) (ρ : Fin 8)
    (hi : ∀ r : Fin 8, k0_pay7 i (ix2 r 0) = if r = ρ then 1#1 else 0#1) :
    out0_B_8 (F := Ideal) c i arg2 harg2 arg3 harg3 arg4 harg4 arg5 harg5 arg6 harg6 arg7 harg7 arg8 harg8 arg9 harg9 arg10 harg10 arg11 harg11 hc0 x0 x1 x2 x3 x4 x5 xt0 xs0 = SB ρ x0 x1 x2 x3 x4 := by
  subst hxs
  frame_out
  exact canonS i ρ hi x0 x1 x2 x3 x4

theorem sout0_A_0_eq (c : Dev nD) (i : grid0.Coords) (arg2 : Memref sig .tc .vmem S1x32x64x128 .i8) (harg2 : arg2.IsWhole) (arg3 : Memref sig .tc .vmem S1x1x2048 .f32) (harg3 : arg3.IsWhole) (arg4 : Memref sig .tc .vmem S8x2560 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x32x64 .f32) (harg8 : arg8.IsWhole) (arg9 : Memref sig .tc .vmem S1x32x64x128 .i8) (harg9 : arg9.IsWhole) (arg10 : Memref sig .tc .vmem S1x32x64 .f32) (harg10 : arg10.IsWhole) (arg11 : Memref sig .tc .vmem S128x2048 .f32) (harg11 : arg11.IsWhole) (hc0 : cond0_0 i)
    (x0 : Vec Ideal S1x32x64x128 .i8) (x1 : Vec Ideal S1x1x2048 .f32) (x2 : Vec Ideal S8x2560 .f32) (x3 : Vec Ideal S8x128 .f32) (x4 : Vec Ideal S1x128 .f32) (x5 : Vec Ideal S1x128 .f32) (xt0 : TbBuf0 (F := Ideal) c tbM0_0) : sout0_A_0 (F := Ideal) c i arg2 harg2 arg3 harg3 arg4 harg4 arg5 harg5 arg6 harg6 arg7 harg7 arg8 harg8 arg9 harg9 arg10 harg10 arg11 harg11 hc0 x0 x1 x2 x3 x4 x5 xt0 = k0_pay6 (F := Ideal) := by
  frame_out

end Cert.DecKernelIdeal.Hand

end
-- ==== Proof.DecOk.lean ====
/- The decode step's side condition on the prefetched slots, from the condition that every slot is stored. -/
module

public import proofs.«01_k».proof.Proof.Gen.DecKernelIdeal.Frame.Runs
public import proofs.«01_k».proof.Proof.DecSlots
public import Idealize.ShloMosaic.Lib.Claim

@[expose] public section

set_option maxRecDepth 16384

noncomputable section

namespace Cert.DecKernelIdeal.Slots

open Cert.DecKernelIdeal Cert.DecKernelIdeal.Gen
open Idealize.ShloMosaic
open Idealize.ShloMosaic.TcCoe Idealize.ShloMosaic.ValueIdx

variable {F : FTy → Type} [FloatOps F]
variable (m : (ℓ : Loc nD τ sig) → Buf (Elt F) ℓ)

/-- The slot of decode row `b`. -/
def slot (b : Fin 40) : BitVec 32 := (m (((0 : Dev nD) : Thread nD τ).loc main_arg0) : IVec S59 32) (ix1 ⟨b, by omega⟩)

/-- The first coordinate of grid point `i`, as a row. -/
def row (i : grid0.Coords) : Fin 40 := ⟨(i 0).val, (i 0).isLt⟩

theorem at_slot (i : grid0.Coords) :
    (tbl m).at 0 (Rect.unit (s := S59) ![(Scalar.indexCast (BitVec.ofNat 32 (i 0).val)).toNat] S1.size (k0_off1_inb i)) numel1_S1 = slot m (row i) := by
  show V m (0 : Dev nD) main_arg0 _ = _
  rw [V_main_arg0]
  refine congrArg (m (((0 : Dev nD) : Thread nD τ).loc main_arg0) : IVec S59 32) (funext fun a => Fin.ext ?_)
  have hi : (i 0).val < 40 := (i 0).isLt
  match a with
  | ⟨0, _⟩ =>
    have e : (Scalar.indexCast (BitVec.ofNat 32 (i 0).val)).toNat = (i 0).val := by
      have : ∀ n : Fin 40, (Scalar.indexCast (BitVec.ofNat 32 n.val)).toNat = n.val := by decide +kernel
      exact this ⟨(i 0).val, hi⟩
    have z0 : ∀ z : Fin 1, (Scalar.indexCast (BitVec.ofNat 32 (i 0).val)).toNat + 1 * z.val = (i 0).val := fun z => by rw [e]; omega
    exact z0 _

theorem tr0 (i : grid0.Coords) : cc0_transform_0 k0_off1_inb numel1_S1 (tbl m) i = ![(slot m (row i)).toNat, 0, 0, 0] := by
  rw [← at_slot m i]; rfl

theorem tr1 (i : grid0.Coords) : cc0_transform_1 k0_off1_inb numel1_S1 (tbl m) i = ![(slot m (row i)).toNat, 0, 0] := by
  rw [← at_slot m i]; rfl

theorem ok (h : ∀ b, (slot m b).toNat < 76) : Ok m := by
  refine ⟨fun i => ⟨fun a => ?_, .inr (Affine.block_words_dvd (of_decide_eq_true rfl) (by decide))⟩, fun i => ⟨fun a => ?_, .inl rfl⟩⟩
  · rw [tr0]
    have := h (row i)
    match a with
    | ⟨0, _⟩ => show ((slot m (row i)).toNat + 1) * 1 ≤ 76; omega
    | ⟨1, _⟩ => show (0 + 1) * 32 ≤ 32; omega
    | ⟨2, _⟩ => show (0 + 1) * 64 ≤ 64; omega
    | ⟨3, _⟩ => show (0 + 1) * 128 ≤ 128; omega
  · rw [tr1]
    have := h (row i)
    match a with
    | ⟨0, _⟩ => show ((slot m (row i)).toNat + 1) * 1 ≤ 76; omega
    | ⟨1, _⟩ => show (0 + 1) * 1 ≤ 1; omega
    | ⟨2, _⟩ => show (0 + 1) * 2048 ≤ 2048; omega

end Cert.DecKernelIdeal.Slots

end
-- ==== Proof.DecValue.lean ====
/- The codes and the scales the idealized decode step leaves, each one function of the arguments, index by index. -/
module

public import proofs.«01_k».proof.Proof.DecCanon
public import proofs.«01_k».proof.Proof.DecFrame
public import proofs.«01_k».proof.Proof.DecOk
public import Idealize.ShloMosaic.Lib.Pipeline.ValueKit
public import Idealize.ShloMosaic.Lib.ValueLayout
public import Idealize.ShloMosaic.Lib.KernelVsHost

@[expose] public section

set_option maxRecDepth 16384

noncomputable section

namespace Cert.DecKernelIdeal.Hand

open Cert.DecKernelIdeal Cert.DecKernelIdeal.Gen Cert.DecKernelIdeal.Slots
open Idealize.ShloMosaic hiding ix0 ix1 ix2 ix3 ix4 ix5 eq_ix2
open Idealize.ShloMosaic.TcCoe Idealize.SL.Sem
open Idealize.ShloMosaic.Pipeline (Dat Cfg Window)
open Idealize.ShloMosaic.ValueIdx (ix1 ix2 ix3 ix4)

variable (m : (ℓ : Loc nD τ sig) → Buf (Elt Ideal) ℓ) (ρ : Dev nD → PrngReg) (hO : Ok m)

/-! ## The scratch holds the selector the first point stores, at every point -/

theorem scratch (c : Dev nD) : ∀ (n : ℕ) (hn : n < (cfgM m hO).N), (outsAt0 m hO c n hn).2.2.2 = k0_pay6 (F := Ideal)
  | 0, hn => by
    rw [outsAt0_A m hO c ⟨0, hn⟩ (Nat.zero_mod _)]
    unfold ptA
    dsimp only
    exact sout0_A_0_eq ..
  | n + 1, hn => by
    have h0 : ¬(⟨n + 1, hn⟩ : Fin (cfgM m hO).N).val % 40 = 0 := by
      have : n + 1 < 40 := hn
      show ¬(n + 1) % 40 = 0
      omega
    rw [outsAt0_B m hO c ⟨n + 1, hn⟩ h0]
    unfold ptB sout0_B_0
    dsimp only
    exact scratch c n _

/-- The row of its block of 8 a point works on. -/
def rho (t : Fin (cfgM m hO).N) : Fin 8 := ⟨t.val % 8, Nat.mod_lt _ (by decide)⟩

theorem hrho (t : Fin (cfgM m hO).N) (r : Fin 8) :
    k0_pay7 ((cfgM m hO).grid.coords t) (ix2 r 0) = if r = rho m hO t then 1#1 else 0#1 :=
  (pay7_apply t r).trans (if_congr (Fin.ext_iff (a := r) (b := rho m hO t)).symm rfl rfl)

theorem after7 (c : Dev nD) (t : Fin (cfgM m hO).N) :
    (dats m hO 0 c).after 7 t = CB (rho m hO t) (iblk m hO c 0 t) (iblk m hO c 1 t) (iblk m hO c 2 t) (iblk m hO c 3 t) (iblk m hO c 4 t) := by
  rw [after0_7]
  by_cases h0 : t.val % 40 = 0
  · rw [outsAt0_A m hO c t h0]
    unfold ptA
    dsimp only
    exact out0_A_7_eq (ρ := rho m hO t) (hi := hrho m hO t) ..
  · rw [outsAt0_B m hO c t h0]
    unfold ptB
    dsimp only
    exact out0_B_7_eq (ρ := rho m hO t) (hi := hrho m hO t) (hxs := scratch m hO c _ _) ..

theorem after8 (c : Dev nD) (t : Fin (cfgM m hO).N) :
    (dats m hO 0 c).after 8 t = SB (rho m hO t) (iblk m hO c 0 t) (iblk m hO c 1 t) (iblk m hO c 2 t) (iblk m hO c 3 t) (iblk m hO c 4 t) := by
  rw [after0_8]
  by_cases h0 : t.val % 40 = 0
  · rw [outsAt0_A m hO c t h0]
    unfold ptA
    dsimp only
    exact out0_A_8_eq (ρ := rho m hO t) (hi := hrho m hO t) ..
  · rw [outsAt0_B m hO c t h0]
    unfold ptB
    dsimp only
    exact out0_B_8_eq (ρ := rho m hO t) (hi := hrho m hO t) (hxs := scratch m hO c _ _) ..

/-! ## The arrays the step's host part makes -/

theorem V_main_v1 (c : Dev nD) (h : Fin 32) :
    (V m c main_v1 : FVec Ideal S1x128 .f32) (ix2 0 ⟨h, by omega⟩) = (m ((c : Thread nD τ).loc main_arg5) : FVec Ideal S32 .f32) (ix1 h) := by
  have e : ∃ v : FVec Ideal S_ .f32, V m c main_v1
      = pad S1x128 ![0, 0] ![0, 96] ![0, 0] (shapeCast S1x32 (m ((c : Thread nD τ).loc main_arg5) : FVec Ideal S32 .f32) shapeCasts_S32_S1x32) v pads_S1x32_S1x128_000_0960 h_S_ := by
    refine ⟨sitofp .f32 (constantI S_ 32 0#32), ?_⟩
    show StableHlo.after (List.flatten [hostOps0, hostOps0_1, hostOps0_2, hostOps0_3, hostOps0_4]) _ (Proc.devRef .tc main_v1) = _
    simp only [List.flatten_cons, List.flatten_nil, List.append_nil, List.cons_append, List.nil_append]
    after_results
    rfl
  obtain ⟨v, e⟩ := e
  rw [e]
  refine (pad_apply_of_inside _ _ _ _ v _ _ (ix2 0 ⟨h, by omega⟩) (ix2 (0 : Fin 1) h) fun a => ?_).trans (ValueIdx.shapeCast_a_1a_apply _ _ 0 h)
  match a with
  | ⟨0, _⟩ => rfl
  | ⟨1, _⟩ => show (h : ℕ) = 0 + h * (0 + 1); omega

theorem V_main_v4 (c : Dev nD) (s : Fin 76) (h : Fin 32) (p : Fin 64) :
    (V m c main_v4 : FVec Ideal S76x1x2048 .f32) (ix3 s 0 ⟨h * 64 + p, by omega⟩) = (m ((c : Thread nD τ).loc main_arg2) : FVec Ideal S76x32x64 .f32) (ix3 s h p) := by
  have e : V m c main_v4 = shapeCast S76x1x2048 (m ((c : Thread nD τ).loc main_arg2) : FVec Ideal S76x32x64 .f32) shapeCasts_S76x32x64_S76x1x2048 := by
    show StableHlo.after (List.flatten [hostOps0, hostOps0_1, hostOps0_2, hostOps0_3, hostOps0_4]) _ (Proc.devRef .tc main_v4) = _
    simp only [List.flatten_cons, List.flatten_nil, List.append_nil, List.cons_append, List.nil_append]
    after_results
    rfl
  rw [e]
  exact shapeCast_apply _ _ (ix3 s 0 ⟨h * 64 + p, by omega⟩) (ix3 s h p) (by
    rw [Shape.rowMajor_val_three, Shape.rowMajor_val_three]
    show ((s : ℕ) * 32 + h) * 64 + p = ((s : ℕ) * 1 + 0) * 2048 + (h * 64 + p)
    omega)

/-! ## Where each block lies -/

theorem tr2 : ∀ t : Fin grid0.N, cc0_transform_2 (grid0.coords t) = ![t.val / 8, 0] := by decide +kernel
theorem tr3 : ∀ t : Fin grid0.N, cc0_transform_3 (grid0.coords t) = ![t.val / 8, 0] := by decide +kernel
theorem tr4 : ∀ t : Fin grid0.N, cc0_transform_4 (grid0.coords t) = ![0, 0] := by decide +kernel
theorem tr7 : ∀ t : Fin grid0.N, cc0_transform_7 (grid0.coords t) = ![t.val, 0, 0, 0] := by decide +kernel
theorem tr8 : ∀ t : Fin grid0.N, cc0_transform_8 (grid0.coords t) = ![t.val, 0, 0] := by decide +kernel
theorem row_val : ∀ t : Fin grid0.N, (row (grid0.coords t)).val = t.val := by decide +kernel

theorem idx0 (t : Fin (cfgM m hO).N) : ((cfgM m hO).win 0).index t = ![(slot m (row (grid0.coords t))).toNat, 0, 0, 0] := tr0 m _
theorem idx1 (t : Fin (cfgM m hO).N) : ((cfgM m hO).win 1).index t = ![(slot m (row (grid0.coords t))).toNat, 0, 0] := tr1 m _
theorem idx2 (t : Fin (cfgM m hO).N) : ((cfgM m hO).win 2).index t = ![t.val / 8, 0] := tr2 t
theorem idx3 (t : Fin (cfgM m hO).N) : ((cfgM m hO).win 3).index t = ![t.val / 8, 0] := tr3 t
theorem idx4 (t : Fin (cfgM m hO).N) : ((cfgM m hO).win 4).index t = ![0, 0] := tr4 t
theorem idx7 (t : Fin (cfgM m hO).N) : ((cfgM m hO).win 7).index t = ![t.val, 0, 0, 0] := tr7 t
theorem idx8 (t : Fin (cfgM m hO).N) : ((cfgM m hO).win 8).index t = ![t.val, 0, 0] := tr8 t

theorem covers7 : ((cfgM m hO).win 7).Covers := by
  refine ⟨fun a => match a with | ⟨0, _⟩ => (by decide : 0 < 1) | ⟨1, _⟩ => (by decide : 0 < 32) | ⟨2, _⟩ => (by decide : 0 < 64) | ⟨3, _⟩ => (by decide : 0 < 128), fun β => ?_⟩
  have b0 : (β (0 : Fin 4) : ℕ) < 40 := lt_of_lt_of_eq (β (0 : Fin 4)).isLt (by decide : (40 + 1 - 1) / 1 = 40)
  have b1 : (β (1 : Fin 4) : ℕ) < 1 := lt_of_lt_of_eq (β (1 : Fin 4)).isLt (by decide : (32 + 32 - 1) / 32 = 1)
  have b2 : (β (2 : Fin 4) : ℕ) < 1 := lt_of_lt_of_eq (β (2 : Fin 4)).isLt (by decide : (64 + 64 - 1) / 64 = 1)
  have b3 : (β (3 : Fin 4) : ℕ) < 1 := lt_of_lt_of_eq (β (3 : Fin 4)).isLt (by decide : (128 + 128 - 1) / 128 = 1)
  refine ⟨⟨β (0 : Fin 4), b0⟩, flush0_7 _ _, fun a => ⟨?_, .inl ?_⟩⟩
  · rw [idx7]
    match a with
    | ⟨0, _⟩ => rfl
    | ⟨1, _⟩ => show 0 = (β (1 : Fin 4) : ℕ); omega
    | ⟨2, _⟩ => show 0 = (β (2 : Fin 4) : ℕ); omega
    | ⟨3, _⟩ => show 0 = (β (3 : Fin 4) : ℕ); omega
  · rfl

theorem covers8 : ((cfgM m hO).win 8).Covers := by
  refine ⟨fun a => match a with | ⟨0, _⟩ => (by decide : 0 < 1) | ⟨1, _⟩ => (by decide : 0 < 32) | ⟨2, _⟩ => (by decide : 0 < 64), fun β => ?_⟩
  have b0 : (β (0 : Fin 3) : ℕ) < 40 := lt_of_lt_of_eq (β (0 : Fin 3)).isLt (by decide : (40 + 1 - 1) / 1 = 40)
  have b1 : (β (1 : Fin 3) : ℕ) < 1 := lt_of_lt_of_eq (β (1 : Fin 3)).isLt (by decide : (32 + 32 - 1) / 32 = 1)
  have b2 : (β (2 : Fin 3) : ℕ) < 1 := lt_of_lt_of_eq (β (2 : Fin 3)).isLt (by decide : (64 + 64 - 1) / 64 = 1)
  refine ⟨⟨β (0 : Fin 3), b0⟩, flush0_8 _ _, fun a => ⟨?_, .inl ?_⟩⟩
  · rw [idx8]
    match a with
    | ⟨0, _⟩ => rfl
    | ⟨1, _⟩ => show 0 = (β (1 : Fin 3) : ℕ); omega
    | ⟨2, _⟩ => show 0 = (β (2 : Fin 3) : ℕ); omega
  · rfl

/-! ## Each block, at coordinates -/

theorem slot_sl (hs : ∀ b, (slot m b).toNat < 76) (t : Fin (cfgM m hO).N) (b : Fin 40) (hb : b.val = t.val) :
    (slot m (row (grid0.coords t))).toNat = (Dec.sl (m (((0 : Dev nD) : Thread nD τ).loc main_arg0)) b : ℕ) := by
  have hr : row (grid0.coords t) = b := Fin.ext ((row_val t).trans hb.symm)
  rw [hr]
  exact (Nat.min_eq_left (Nat.le_of_lt_succ (hs b))).symm

theorem blk0 (hs : ∀ b, (slot m b).toNat < 76) (t : Fin (cfgM m hO).N) (b : Fin 40) (hb : b.val = t.val) (h : Fin 32) (p : Fin 64) (n : Fin 128) :
    iblk m hO 0 0 t (ix4 0 h p n) = (m (((0 : Dev nD) : Thread nD τ).loc main_arg1) : IVec S76x32x64x128 8) (ix4 (Dec.sl (m (((0 : Dev nD) : Thread nD τ).loc main_arg0)) b) h p n) := by
  refine Eq.trans ?_ (congrFun (V_main_arg1 m 0) _)
  have e0 := ((cfgM m hO).win 0).rect_emb_val t (ix4 (0 : Fin 1) h p n) (0 : Fin 4) rfl
  have e1 := ((cfgM m hO).win 0).rect_emb_val t (ix4 (0 : Fin 1) h p n) (1 : Fin 4) rfl
  have e2 := ((cfgM m hO).win 0).rect_emb_val t (ix4 (0 : Fin 1) h p n) (2 : Fin 4) rfl
  have e3 := ((cfgM m hO).win 0).rect_emb_val t (ix4 (0 : Fin 1) h p n) (3 : Fin 4) rfl
  rw [idx0, slot_sl m hO hs t b hb] at e0
  rw [idx0] at e1 e2 e3
  refine congrArg (V m 0 main_arg1 : IVec S76x32x64x128 8) (?_ : ((((cfgM m hO).win 0).blk t).view.emb (ix4 (0 : Fin 1) h p n) : S76x32x64x128.Idx) = ix4 (Dec.sl (m (((0 : Dev nD) : Thread nD τ).loc main_arg0)) b) h p n)
  refine funext fun a => Fin.ext ?_
  match a with
  | ⟨0, _⟩ => exact e0.trans (by show (Dec.sl _ b : ℕ) * 1 + 0 = _; simp)
  | ⟨1, _⟩ => exact e1.trans (Nat.zero_add _)
  | ⟨2, _⟩ => exact e2.trans (Nat.zero_add _)
  | ⟨3, _⟩ => exact e3.trans (Nat.zero_add _)

theorem blk1 (hs : ∀ b, (slot m b).toNat < 76) (t : Fin (cfgM m hO).N) (b : Fin 40) (hb : b.val = t.val) (h : Fin 32) (p : Fin 64) :
    iblk m hO 0 1 t (ix3 0 0 ⟨h * 64 + p, by omega⟩) = (m (((0 : Dev nD) : Thread nD τ).loc main_arg2) : FVec Ideal S76x32x64 .f32) (ix3 (Dec.sl (m (((0 : Dev nD) : Thread nD τ).loc main_arg0)) b) h p) := by
  refine Eq.trans ?_ (V_main_v4 m 0 _ h p)
  have e0 := ((cfgM m hO).win 1).rect_emb_val t (ix3 (0 : Fin 1) (0 : Fin 1) (⟨h * 64 + p, by omega⟩ : Fin 2048)) (0 : Fin 3) rfl
  have e1 := ((cfgM m hO).win 1).rect_emb_val t (ix3 (0 : Fin 1) (0 : Fin 1) (⟨h * 64 + p, by omega⟩ : Fin 2048)) (1 : Fin 3) rfl
  have e2 := ((cfgM m hO).win 1).rect_emb_val t (ix3 (0 : Fin 1) (0 : Fin 1) (⟨h * 64 + p, by omega⟩ : Fin 2048)) (2 : Fin 3) rfl
  rw [idx1, slot_sl m hO hs t b hb] at e0
  rw [idx1] at e1 e2
  refine congrArg (V m 0 main_v4 : FVec Ideal S76x1x2048 .f32) (?_ : ((((cfgM m hO).win 1).blk t).view.emb (ix3 (0 : Fin 1) (0 : Fin 1) (⟨h * 64 + p, by omega⟩ : Fin 2048)) : S76x1x2048.Idx) = ix3 (Dec.sl (m (((0 : Dev nD) : Thread nD τ).loc main_arg0)) b) 0 ⟨h * 64 + p, by omega⟩)
  refine funext fun a => Fin.ext ?_
  match a with
  | ⟨0, _⟩ => exact e0.trans (by show (Dec.sl _ b : ℕ) * 1 + 0 = _; simp)
  | ⟨1, _⟩ => exact e1.trans (Nat.zero_add _)
  | ⟨2, _⟩ => exact e2.trans (Nat.zero_add _)

theorem blk2 (t : Fin (cfgM m hO).N) (b : Fin 40) (hb : b.val = t.val) (k : Fin 2560) :
    iblk m hO 0 2 t (ix2 (rho m hO t) k) = (m (((0 : Dev nD) : Thread nD τ).loc main_arg3) : FVec Ideal S8320x2560 .f32) (ix2 ⟨b, by omega⟩ k) := by
  refine Eq.trans ?_ (congrFun (V_main_arg3 m 0) _)
  have e0 := ((cfgM m hO).win 2).rect_emb_val t (ix2 (rho m hO t) k) (0 : Fin 2) rfl
  have e1 := ((cfgM m hO).win 2).rect_emb_val t (ix2 (rho m hO t) k) (1 : Fin 2) rfl
  rw [idx2] at e0 e1
  refine congrArg (V m 0 main_arg3 : FVec Ideal S8320x2560 .f32) (?_ : ((((cfgM m hO).win 2).blk t).view.emb (ix2 (rho m hO t) k) : S8320x2560.Idx) = ix2 ⟨b, by omega⟩ k)
  refine funext fun a => Fin.ext ?_
  match a with
  | ⟨0, _⟩ => exact e0.trans (by show t.val / 8 * 8 + t.val % 8 = b.val; omega)
  | ⟨1, _⟩ => exact e1.trans (Nat.zero_add _)

theorem blk3 (t : Fin (cfgM m hO).N) (b : Fin 40) (hb : b.val = t.val) (k : Fin 128) :
    iblk m hO 0 3 t (ix2 (rho m hO t) k) = (m (((0 : Dev nD) : Thread nD τ).loc main_arg4) : FVec Ideal S8320x128 .f32) (ix2 ⟨b, by omega⟩ k) := by
  refine Eq.trans ?_ (congrFun (V_main_arg4 m 0) _)
  have e0 := ((cfgM m hO).win 3).rect_emb_val t (ix2 (rho m hO t) k) (0 : Fin 2) rfl
  have e1 := ((cfgM m hO).win 3).rect_emb_val t (ix2 (rho m hO t) k) (1 : Fin 2) rfl
  rw [idx3] at e0 e1
  refine congrArg (V m 0 main_arg4 : FVec Ideal S8320x128 .f32) (?_ : ((((cfgM m hO).win 3).blk t).view.emb (ix2 (rho m hO t) k) : S8320x128.Idx) = ix2 ⟨b, by omega⟩ k)
  refine funext fun a => Fin.ext ?_
  match a with
  | ⟨0, _⟩ => exact e0.trans (by show t.val / 8 * 8 + t.val % 8 = b.val; omega)
  | ⟨1, _⟩ => exact e1.trans (Nat.zero_add _)

theorem blk4 (t : Fin (cfgM m hO).N) (h : Fin 32) :
    iblk m hO 0 4 t (ix2 0 ⟨h, by omega⟩) = (m (((0 : Dev nD) : Thread nD τ).loc main_arg5) : FVec Ideal S32 .f32) (ix1 h) := by
  refine Eq.trans ?_ (V_main_v1 m 0 h)
  have e0 := ((cfgM m hO).win 4).rect_emb_val t (ix2 (0 : Fin 1) (⟨h, by omega⟩ : Fin 128)) (0 : Fin 2) rfl
  have e1 := ((cfgM m hO).win 4).rect_emb_val t (ix2 (0 : Fin 1) (⟨h, by omega⟩ : Fin 128)) (1 : Fin 2) rfl
  rw [idx4] at e0 e1
  refine congrArg (V m 0 main_v1 : FVec Ideal S1x128 .f32) (?_ : ((((cfgM m hO).win 4).blk t).view.emb (ix2 (0 : Fin 1) (⟨h, by omega⟩ : Fin 128)) : S1x128.Idx) = ix2 0 ⟨h, by omega⟩)
  refine funext fun a => Fin.ext ?_
  match a with
  | ⟨0, _⟩ => exact e0.trans (Nat.zero_add _)
  | ⟨1, _⟩ => exact e1.trans (Nat.zero_add _)

/-! ## The final arrays -/

/-- The new codes, from the whole arguments; -/
def GC (a0 : IVec S59 32) (a1 : IVec S76x32x64x128 8) (a2 : FVec Ideal S76x32x64 .f32) (a3 : FVec Ideal S8320x2560 .f32)
    (a4 : FVec Ideal S8320x128 .f32) (a5 : FVec Ideal S32 .f32) : IVec S40x32x64x128 8 := fun i => Dec.CG a0 a1 a2 a3 a4 a5 (i 0) (i 1) (i 2) (i 3)

/-- and the scales. -/
def GS (a0 : IVec S59 32) (a1 : IVec S76x32x64x128 8) (a2 : FVec Ideal S76x32x64 .f32) (a3 : FVec Ideal S8320x2560 .f32)
    (a4 : FVec Ideal S8320x128 .f32) (a5 : FVec Ideal S32 .f32) : FVec Ideal S40x32x64 .f32 := fun i => Dec.SG a0 a1 a2 a3 a4 a5 (i 0) (i 1) (i 2)

theorem HB_eq (hs : ∀ b, (slot m b).toNat < 76) (t : Fin (cfgM m hO).N) (b : Fin 40) (hb : b.val = t.val) (h : Fin 32) (p : Fin 64) (n : Fin 128) :
    HB (rho m hO t) (iblk m hO 0 0 t) (iblk m hO 0 1 t) (iblk m hO 0 2 t) (iblk m hO 0 3 t) (iblk m hO 0 4 t) h p n
    = Dec.HG (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) b h p n := by
  unfold HB Dec.HG
  rw [blk0 m hO hs t b hb h p n, blk1 m hO hs t b hb h p, blk2 m hO t b hb ⟨h * 64 + p, by omega⟩,
    blk2 m hO t b hb ⟨2048 + (h / 16 * 128 + n), by omega⟩, blk3 m hO t b hb ⟨h, by omega⟩, blk4 m hO t h]

theorem final7 (hs : ∀ b, (slot m b).toNat < 76) : (dats m hO 0 0).arrAt 7 (cfgM m hO).N
    = GC (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) := by
  refine (dats m hO 0 0).arrAt_eq_of_covers 7 _ (covers7 m hO) fun t _ y => ?_
  show (dats m hO 0 0).after 7 t (((cfgM m hO).win 7).xinj (grid0.coords t) y) = GC _ _ _ _ _ _ ((((cfgM m hO).win 7).blk t).view.emb y)
  rw [after7]
  have y0 : (y (0 : Fin 4) : ℕ) < 1 := (y (0 : Fin 4)).isLt
  have e0 := ((cfgM m hO).win 7).rect_emb_val t y (0 : Fin 4) rfl
  have e1 := ((cfgM m hO).win 7).rect_emb_val t y (1 : Fin 4) rfl
  have e2 := ((cfgM m hO).win 7).rect_emb_val t y (2 : Fin 4) rfl
  have e3 := ((cfgM m hO).win 7).rect_emb_val t y (3 : Fin 4) rfl
  rw [idx7] at e0 e1 e2 e3
  generalize hz : ((((cfgM m hO).win 7).blk t).view.emb y : S40x32x64x128.Idx) = z
  generalize hx : (((cfgM m hO).win 7).xinj (grid0.coords t) y : S1x32x64x128.Idx) = x
  have x1 : z (1 : Fin 4) = x (1 : Fin 4) := by rw [← hx, ← hz]; exact Fin.ext (e1.trans (Nat.zero_add _))
  have x2 : z (2 : Fin 4) = x (2 : Fin 4) := by rw [← hx, ← hz]; exact Fin.ext (e2.trans (Nat.zero_add _))
  have x3 : z (3 : Fin 4) = x (3 : Fin 4) := by rw [← hx, ← hz]; exact Fin.ext (e3.trans (Nat.zero_add _))
  have z0 : (z (0 : Fin 4) : ℕ) = t.val := by rw [← hz]; exact e0.trans (by show t.val * 1 + (y (0 : Fin 4) : ℕ) = t.val; omega)
  show Dec.cval (HB _ _ _ _ _ _ (x (1 : Fin 4)) (x (2 : Fin 4)) (x (3 : Fin 4))) (Dec.sval fun n => HB _ _ _ _ _ _ (x (1 : Fin 4)) (x (2 : Fin 4)) n)
    = Dec.cval (Dec.HG _ _ _ _ _ _ (z (0 : Fin 4)) (z (1 : Fin 4)) (z (2 : Fin 4)) (z (3 : Fin 4))) (Dec.sval fun n => Dec.HG _ _ _ _ _ _ (z (0 : Fin 4)) (z (1 : Fin 4)) (z (2 : Fin 4)) n)
  rw [← x1, ← x2, ← x3]
  exact congrArg₂ Dec.cval (HB_eq m hO hs t _ z0 _ _ _) (congrArg Dec.sval (funext fun n => HB_eq m hO hs t _ z0 _ _ n))

theorem final8 (hs : ∀ b, (slot m b).toNat < 76) : (dats m hO 0 0).arrAt 8 (cfgM m hO).N
    = GS (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) := by
  refine (dats m hO 0 0).arrAt_eq_of_covers 8 _ (covers8 m hO) fun t _ y => ?_
  show (dats m hO 0 0).after 8 t (((cfgM m hO).win 8).xinj (grid0.coords t) y) = GS _ _ _ _ _ _ ((((cfgM m hO).win 8).blk t).view.emb y)
  rw [after8]
  have y0 : (y (0 : Fin 3) : ℕ) < 1 := (y (0 : Fin 3)).isLt
  have e0 := ((cfgM m hO).win 8).rect_emb_val t y (0 : Fin 3) rfl
  have e1 := ((cfgM m hO).win 8).rect_emb_val t y (1 : Fin 3) rfl
  have e2 := ((cfgM m hO).win 8).rect_emb_val t y (2 : Fin 3) rfl
  rw [idx8] at e0 e1 e2
  generalize hz : ((((cfgM m hO).win 8).blk t).view.emb y : S40x32x64.Idx) = z
  generalize hx : (((cfgM m hO).win 8).xinj (grid0.coords t) y : S1x32x64.Idx) = x
  have x1 : z (1 : Fin 3) = x (1 : Fin 3) := by rw [← hx, ← hz]; exact Fin.ext (e1.trans (Nat.zero_add _))
  have x2 : z (2 : Fin 3) = x (2 : Fin 3) := by rw [← hx, ← hz]; exact Fin.ext (e2.trans (Nat.zero_add _))
  have z0 : (z (0 : Fin 3) : ℕ) = t.val := by rw [← hz]; exact e0.trans (by show t.val * 1 + (y (0 : Fin 3) : ℕ) = t.val; omega)
  show (Dec.sval fun n => HB _ _ _ _ _ _ (x (1 : Fin 3)) (x (2 : Fin 3)) n)
    = Dec.sval fun n => Dec.HG _ _ _ _ _ _ (z (0 : Fin 3)) (z (1 : Fin 3)) (z (2 : Fin 3)) n
  rw [← x1, ← x2]
  exact congrArg Dec.sval (funext fun n => HB_eq m hO hs t _ z0 _ _ n)

/-- The run with both results named, the arguments unchanged. -/
theorem run (hs : ∀ b, (slot m b).toNat < 76) : θ_run defs (onTc (τ := τ) (main (F := Ideal))) ⟨m, fun _ => 0, ρ⟩ fun r => ∀ c : Dev nD,
      r.2.mem ((c : Thread nD τ).loc main_v5_1) = GC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v5_2) = GS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  have hO : Ok m := ok m hs
  refine (θ_run defs _ _).mono (fun r h c => ?_) (θ_run_and (run_main m ρ hO) (unchanged m ρ hO))
  obtain rfl : c = 0 := Subsingleton.elim _ _
  exact ⟨((h.1 0).1 7).trans (final7 m hO hs), ((h.1 0).1 8).trans (final8 m hO hs), h.2 0⟩

end Cert.DecKernelIdeal.Hand

end
-- ==== Proof.DecBody.lean ====
/- What the reference of the decode step computes, over the extended reals: the new state, its scales and its codes at every index,
   from the arrays its body is handed. -/
module

public import proofs.«01_k».proof.Proof.Gen.DecReferenceIdeal.Frame
public import proofs.«01_k».proof.Proof.DecMath
public import proofs.«01_k».proof.Proof.DecSlots
public import Idealize.ShloMosaic.Lib.Claim
public import Idealize.ShloMosaic.Lib.Pipeline.ValueKit
public import Idealize.ShloMosaic.Lib.ValueLayout

@[expose] public section

set_option maxRecDepth 16384

noncomputable section

namespace Cert.DecReferenceIdeal.Hand

open Cert.DecReferenceIdeal Cert.DecReferenceIdeal.Gen
open Idealize.ShloMosaic hiding ix0 ix1 ix2 ix3 ix4 ix5 eq_ix2
open Idealize.ShloMosaic.TcCoe Idealize.ShloMosaic.ValueIdx Idealize.SL.Sem

/-! ## The body at an index -/

theorem spread4 (v : FVec Ideal S40x32x64 .f32) (b : Fin 40) (h : Fin 32) (p : Fin 64) (n : Fin 128) :
    broadcastTo S40x32x64x128 (shapeCast S40x32x64x1 v shapeCasts_S40x32x64_S40x32x64x1) broadcasts_S40x32x64x1_S40x32x64x128 (ix4 b h p n) = v (ix3 b h p) :=
  (broadcastTo_apply _ _ (ix4 b h p n) (ix4 b h p (0 : Fin 1)) fun a => match a with | ⟨0, _⟩ => rfl | ⟨1, _⟩ => rfl | ⟨2, _⟩ => rfl | ⟨3, _⟩ => rfl).trans
    (shapeCast_apply v _ (ix4 b h p (0 : Fin 1)) (ix3 b h p) (by simp [Shape.rowMajor_val_three, Shape.rowMajor_val_four]))

theorem spreadH (v : FVec Ideal S40x32 .f32) (b : Fin 40) (h : Fin 32) (p : Fin 64) (n : Fin 128) :
    broadcastTo S40x32x64x128 (shapeCast S40x32x1x1 v shapeCasts_S40x32_S40x32x1x1) broadcasts_S40x32x1x1_S40x32x64x128 (ix4 b h p n) = v (ix2 b h) :=
  (broadcastTo_apply _ _ (ix4 b h p n) (ix4 b h (0 : Fin 1) (0 : Fin 1)) fun a => match a with | ⟨0, _⟩ => rfl | ⟨1, _⟩ => rfl | ⟨2, _⟩ => rfl | ⟨3, _⟩ => rfl).trans
    (shapeCast_apply v _ (ix4 b h (0 : Fin 1) (0 : Fin 1)) (ix2 b h) (by simp [Shape.rowMajor_val_two, Shape.rowMajor_val_four]))

theorem spread3 (v : FVec Ideal S40x32 .f32) (b : Fin 40) (h : Fin 32) (p : Fin 64) :
    broadcastTo S40x32x64 (shapeCast S40x32x1 v shapeCasts_S40x32_S40x32x1) broadcasts_S40x32x1_S40x32x64 (ix3 b h p) = v (ix2 b h) :=
  (broadcastTo_apply _ _ (ix3 b h p) (ix3 b h (0 : Fin 1)) fun a => match a with | ⟨0, _⟩ => rfl | ⟨1, _⟩ => rfl | ⟨2, _⟩ => rfl).trans
    (shapeCast_apply v _ (ix3 b h (0 : Fin 1)) (ix2 b h) (by simp [Shape.rowMajor_val_two, Shape.rowMajor_val_three]))

theorem spreadB (v : FVec Ideal S40x32x128 .f32) (b : Fin 40) (h : Fin 32) (p : Fin 64) (n : Fin 128) :
    broadcastTo S40x32x64x128 (shapeCast S40x32x1x128 v shapeCasts_S40x32x128_S40x32x1x128) broadcasts_S40x32x1x128_S40x32x64x128 (ix4 b h p n) = v (ix3 b h n) :=
  (broadcastTo_apply _ _ (ix4 b h p n) (ix4 b h (0 : Fin 1) n) fun a => match a with | ⟨0, _⟩ => rfl | ⟨1, _⟩ => rfl | ⟨2, _⟩ => rfl | ⟨3, _⟩ => rfl).trans
    (shapeCast_apply v _ (ix4 b h (0 : Fin 1) n) (ix3 b h n) (by simp [Shape.rowMajor_val_three, Shape.rowMajor_val_four]))

theorem pay3_apply (v0 : Vec Ideal S40x32x64x128 .i8) (v3 : Vec Ideal S40x32x64 .f32) (v8 : Vec Ideal S40x32 .f32) (v10 : Vec Ideal S1x32 .f32)
    (v22 : Vec Ideal S40x32x64 .f32) (v27 : Vec Ideal S40x32x128 .f32) (b : Fin 40) (h : Fin 32) (p : Fin 64) (n : Fin 128) :
    k0_pay3 (F := Ideal) v0 v3 v8 v10 v22 v27 (ix4 b h p n)
      = Dec.hval (v8 (ix2 b h)) (v10 (ix2 0 h)) (v3 (ix3 b h p)) (v0 (ix4 b h p n)) (v22 (ix3 b h p)) (v27 (ix3 b h n)) := by
  unfold k0_pay3
  simp only [shapeCast_self]
  rw [addf_apply, mulf_apply, mulf_apply, mulf_apply, spreadH, spread4, spread4, spreadB, mulf_apply, spread3]
  have hb : broadcastTo S40x32 (subf (F := Ideal) (φ := .f32) (broadcast S1x32 (Scalar.ofBits (F := Ideal) .f32 0x00000000#32)) (exp (F := Ideal) (φ := .f32) v10)) broadcasts_S1x32_S40x32 (ix2 b h)
      = Ideal.ofBits .f32 0x00000000#32 - FloatOps.exp (F := Ideal) (φ := .f32) (v10 (ix2 0 h)) := broadcastTo_1b_ab_apply _ _ b h
  have he : exp (F := Ideal) (φ := .f32) (mulf v8 (broadcastTo S40x32 (subf (F := Ideal) (φ := .f32) (broadcast S1x32 (Scalar.ofBits (F := Ideal) .f32 0x00000000#32)) (exp (F := Ideal) (φ := .f32) v10)) broadcasts_S1x32_S40x32)) (ix2 b h)
      = Dec.decay (v8 (ix2 b h)) (v10 (ix2 0 h)) := by
    show FloatOps.exp (F := Ideal) (φ := .f32) (mulf (F := Ideal) (φ := .f32) v8 _ (ix2 b h)) = _
    rw [mulf_apply, hb]
    rfl
  rw [he]
  rfl

/-- The scales, from the largest magnitudes `t`, -/
theorem pay1_max (t : FVec Ideal S40x32x64 .f32) (y : S40x32x64.Idx) :
    k0_pay1 (F := Ideal) t (cmpf .ogt t (broadcast S40x32x64 (Scalar.ofBits (F := Ideal) .f32 0x00000000#32))) (k0_pay6 (F := Ideal)) y
      = Scalar.select (FloatOps.cmpf .ogt (t y) (Ideal.ofBits .f32 0x00000000#32)) (Ideal.div (t y) (Ideal.ofBits .f32 0x42FE0000#32)) (Ideal.ofBits .f32 0x3F800000#32) := rfl

/-- and from a state `x`; -/
theorem pay1_apply (x : FVec Ideal S40x32x64x128 .f32) (b : Fin 40) (h : Fin 32) (p : Fin 64) :
    k0_pay1 (F := Ideal) (multiReduction (F := Ideal) (φ := .f32) .maximumf [3] S40x32x64 (absf x) 0xFF800000#32 reduces_S40x32x64x128_S40x32x64 (.inl rfl) rfl)
      (cmpf .ogt (multiReduction (F := Ideal) (φ := .f32) .maximumf [3] S40x32x64 (absf x) 0xFF800000#32 reduces_S40x32x64x128_S40x32x64 (.inl rfl) rfl) (broadcast S40x32x64 (Scalar.ofBits (F := Ideal) .f32 0x00000000#32)))
      (k0_pay6 (F := Ideal)) (ix3 b h p) = Dec.sval fun n => x (ix4 b h p n) := by
  have hm := Dec.max4_apply (absf x) 0xFF800000#32 reduces_S40x32x64x128_S40x32x64 (.inl rfl) rfl b h p
  unfold Dec.sval
  dsimp only
  rw [show (fun k => FloatOps.absf (F := Ideal) (φ := .f32) (x (ix4 b h p k))) = fun k => absf x (ix4 b h p k) from rfl, ← hm]
  exact pay1_max _ _

/-- and the codes. -/
theorem pay2_apply (x : FVec Ideal S40x32x64x128 .f32) (v35 : FVec Ideal S40x32x64 .f32) (v37 : IVec S40x32x64 1) (v38 : FVec Ideal S40x32x64 .f32)
    (b : Fin 40) (h : Fin 32) (p : Fin 64) (n : Fin 128) :
    k0_pay2 (F := Ideal) x v35 v37 v38 (ix4 b h p n) = Dec.cval (x (ix4 b h p n)) (k0_pay1 (F := Ideal) v35 v37 v38 (ix3 b h p)) := by
  have hs := spread4 (k0_pay1 (F := Ideal) v35 v37 v38) b h p n
  unfold k0_pay2
  generalize k0_pay1 (F := Ideal) v35 v37 v38 = s at hs ⊢
  unfold Dec.cval
  rw [← hs]
  rfl

/-- What the body leaves in the scales, -/
theorem out7 (x0 : Vec Ideal S40x32x64x128 .i8) (x1 x2 : Vec Ideal S40x32x64 .f32) (x3 : Vec Ideal S40x32x128 .f32) (x4 : Vec Ideal S40x32 .f32)
    (x5 : Vec Ideal S1x32 .f32) (b : Fin 40) (h : Fin 32) (p : Fin 64) :
    out0_7 (F := Ideal) x0 x1 x2 x3 x4 x5 (ix3 b h p)
      = Dec.sval fun n => Dec.hval (x4 (ix2 b h)) (x5 (ix2 0 h)) (x1 (ix3 b h p)) (x0 (ix4 b h p n)) (x2 (ix3 b h p)) (x3 (ix3 b h n)) := by
  have e : out0_7 (F := Ideal) x0 x1 x2 x3 x4 x5 = k0_pay1 (k0_pay4 x0 x1 x4 x5 x2 x3) (k0_pay5 x0 x1 x4 x5 x2 x3) (k0_pay6 (F := Ideal)) := by
    have l0 : View.ld x0 r0_0 = x0 := View.ld_unit_lit _ x0 (by decide)
    have l1 : View.ld x1 r0_1 = x1 := View.ld_unit_lit _ x1 (by decide)
    have l2 : View.ld x2 r0_1 = x2 := View.ld_unit_lit _ x2 (by decide)
    have l3 : View.ld x3 r0_4 = x3 := View.ld_unit_lit _ x3 (by decide)
    have l4 : View.ld x4 r0_2 = x4 := View.ld_unit_lit _ x4 (by decide)
    have l5 : View.ld x5 r0_3 = x5 := View.ld_unit_lit _ x5 (by decide)
    unfold out0_7 k0_pay7 k0_pay8 k0_pay9
    rw [l0, l1, l2, l3, l4, l5]
    exact View.canon_cons_unit_lit _ _ _ (by decide)
  rw [e]
  unfold k0_pay5 k0_pay4
  exact (pay1_apply (k0_pay3 (F := Ideal) x0 x1 x4 x5 x2 x3) b h p).trans (congrArg Dec.sval (funext fun n => pay3_apply x0 x1 x4 x5 x2 x3 b h p n))

/-- and in the codes. -/
theorem out6 (x0 : Vec Ideal S40x32x64x128 .i8) (x1 x2 : Vec Ideal S40x32x64 .f32) (x3 : Vec Ideal S40x32x128 .f32) (x4 : Vec Ideal S40x32 .f32)
    (x5 : Vec Ideal S1x32 .f32) (b : Fin 40) (h : Fin 32) (p : Fin 64) (n : Fin 128) :
    out0_6 (F := Ideal) x0 x1 x2 x3 x4 x5 (ix4 b h p n)
      = Dec.cval (Dec.hval (x4 (ix2 b h)) (x5 (ix2 0 h)) (x1 (ix3 b h p)) (x0 (ix4 b h p n)) (x2 (ix3 b h p)) (x3 (ix3 b h n)))
        (Dec.sval fun n => Dec.hval (x4 (ix2 b h)) (x5 (ix2 0 h)) (x1 (ix3 b h p)) (x0 (ix4 b h p n)) (x2 (ix3 b h p)) (x3 (ix3 b h n))) := by
  have e : out0_6 (F := Ideal) x0 x1 x2 x3 x4 x5 = k0_pay2 (k0_pay3 x0 x1 x4 x5 x2 x3) (k0_pay4 x0 x1 x4 x5 x2 x3) (k0_pay5 x0 x1 x4 x5 x2 x3) (k0_pay6 (F := Ideal)) := by
    have l0 : View.ld x0 r0_0 = x0 := View.ld_unit_lit _ x0 (by decide)
    have l1 : View.ld x1 r0_1 = x1 := View.ld_unit_lit _ x1 (by decide)
    have l2 : View.ld x2 r0_1 = x2 := View.ld_unit_lit _ x2 (by decide)
    have l3 : View.ld x3 r0_4 = x3 := View.ld_unit_lit _ x3 (by decide)
    have l4 : View.ld x4 r0_2 = x4 := View.ld_unit_lit _ x4 (by decide)
    have l5 : View.ld x5 r0_3 = x5 := View.ld_unit_lit _ x5 (by decide)
    unfold out0_6 k0_pay7 k0_pay8 k0_pay9
    rw [l0, l1, l2, l3, l4, l5]
    exact View.canon_cons_unit_lit _ _ _ (by decide)
  rw [e, pay2_apply]
  refine congrArg₂ Dec.cval (pay3_apply x0 x1 x4 x5 x2 x3 b h p n) ?_
  unfold k0_pay5 k0_pay4
  exact (pay1_apply (k0_pay3 (F := Ideal) x0 x1 x4 x5 x2 x3) b h p).trans (congrArg Dec.sval (funext fun n => pay3_apply x0 x1 x4 x5 x2 x3 b h p n))

end Cert.DecReferenceIdeal.Hand

end
-- ==== Proof.DecGather.lean ====
/- The rows the reference of the decode step gathers, at an index. -/
module

public import proofs.«01_k».proof.DecReferenceIdeal
public import proofs.«01_k».proof.Proof.Gen.DecReferenceIdeal
public import Idealize.ShloMosaic.Lib.Claim
public import Idealize.ShloMosaic.Lib.Pipeline.ValueKit
public import Idealize.ShloMosaic.Lib.ValueLayout

@[expose] public section

set_option maxRecDepth 16384

noncomputable section

namespace Cert.DecReferenceIdeal.Hand

open Cert.DecReferenceIdeal Cert.DecReferenceIdeal.Gen
open Idealize.ShloMosaic hiding ix0 ix1 ix2 ix3 ix4 ix5 eq_ix2
open Idealize.ShloMosaic.TcCoe Idealize.ShloMosaic.ValueIdx Idealize.SL.Sem

theorem gather4 (x : S76x32x64x128.Idx → BitVec 8) (idx : IVec S40x1 32) (b : Fin 40) (h : Fin 32) (p : Fin 64) (n : Fin 128) :
    Host.gather gather_S76x32x64x128_S40x1_S40x32x64x128_123_0_n_n_0_1_13264128 x idx (ix4 b h p n)
      = x (ix4 ⟨min (idx (ix2 b 0)).toInt.toNat 75, by omega⟩ h p n) := by
  unfold Host.gather
  congr 1
  funext a
  refine Fin.ext ?_
  show (gather_S76x32x64x128_S40x1_S40x32x64x128_123_0_n_n_0_1_13264128).start (ix4 b h p n) idx a + (gather_S76x32x64x128_S40x1_S40x32x64x128_123_0_n_n_0_1_13264128).batchCoord (ix4 b h p n) a + (gather_S76x32x64x128_S40x1_S40x32x64x128_123_0_n_n_0_1_13264128).offCoord (ix4 b h p n) a = _
  rw [GatherDims.batchCoord_eq_zero _ _ _ List.not_mem_nil, Nat.add_zero]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (rfl)))
  rcases ha with rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 4) ∈ (gather_S76x32x64x128_S40x1_S40x32x64x128_123_0_n_n_0_1_13264128).startIndexMap from List.mem_singleton.mpr rfl)]
    have hsi : (gather_S76x32x64x128_S40x1_S40x32x64x128_123_0_n_n_0_1_13264128).siIdx (ix4 b h p n) ⟨List.idxOf (0 : Fin 4) (gather_S76x32x64x128_S40x1_S40x32x64x128_123_0_n_n_0_1_13264128).startIndexMap,
        List.idxOf_lt_length_iff.2 (List.mem_singleton.mpr rfl)⟩ = (ix2 b 0 : S40x1.Idx) := by
      funext c; refine Fin.ext ?_
      match c with
      | ⟨0, _⟩ => rfl
      | ⟨1, _⟩ => rfl
    rw [hsi]
    rfl
  · unfold GatherDims.start
    rw [dif_neg (show ¬(1 : Fin 4) ∈ (gather_S76x32x64x128_S40x1_S40x32x64x128_123_0_n_n_0_1_13264128).startIndexMap from (by decide : ¬(1 : Fin 4) ∈ ([0] : List (Fin 4)))), Nat.zero_add]
    unfold GatherDims.offCoord
    rw [dif_pos ((GatherDims.mem_sKept _ _).mpr ⟨(by decide : ¬(1 : Fin 4) ∈ ([0] : List (Fin 4))), List.not_mem_nil⟩)]
    rfl
  · unfold GatherDims.start
    rw [dif_neg (show ¬(2 : Fin 4) ∈ (gather_S76x32x64x128_S40x1_S40x32x64x128_123_0_n_n_0_1_13264128).startIndexMap from (by decide : ¬(2 : Fin 4) ∈ ([0] : List (Fin 4)))), Nat.zero_add]
    unfold GatherDims.offCoord
    rw [dif_pos ((GatherDims.mem_sKept _ _).mpr ⟨(by decide : ¬(2 : Fin 4) ∈ ([0] : List (Fin 4))), List.not_mem_nil⟩)]
    rfl
  · unfold GatherDims.start
    rw [dif_neg (show ¬(3 : Fin 4) ∈ (gather_S76x32x64x128_S40x1_S40x32x64x128_123_0_n_n_0_1_13264128).startIndexMap from (by decide : ¬(3 : Fin 4) ∈ ([0] : List (Fin 4)))), Nat.zero_add]
    unfold GatherDims.offCoord
    rw [dif_pos ((GatherDims.mem_sKept _ _).mpr ⟨(by decide : ¬(3 : Fin 4) ∈ ([0] : List (Fin 4))), List.not_mem_nil⟩)]
    rfl

theorem gather3 (x : S76x32x64.Idx → Ideal .f32) (idx : IVec S40x1 32) (b : Fin 40) (h : Fin 32) (p : Fin 64) :
    Host.gather gather_S76x32x64_S40x1_S40x32x64_12_0_n_n_0_1_13264 x idx (ix3 b h p)
      = x (ix3 ⟨min (idx (ix2 b 0)).toInt.toNat 75, by omega⟩ h p) := by
  unfold Host.gather
  congr 1
  funext a
  refine Fin.ext ?_
  show (gather_S76x32x64_S40x1_S40x32x64_12_0_n_n_0_1_13264).start (ix3 b h p) idx a + (gather_S76x32x64_S40x1_S40x32x64_12_0_n_n_0_1_13264).batchCoord (ix3 b h p) a + (gather_S76x32x64_S40x1_S40x32x64_12_0_n_n_0_1_13264).offCoord (ix3 b h p) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr (rfl))
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (gather_S76x32x64_S40x1_S40x32x64_12_0_n_n_0_1_13264).startIndexMap from List.mem_singleton.mpr rfl)]
    have hsi : (gather_S76x32x64_S40x1_S40x32x64_12_0_n_n_0_1_13264).siIdx (ix3 b h p) ⟨List.idxOf (0 : Fin 3) (gather_S76x32x64_S40x1_S40x32x64_12_0_n_n_0_1_13264).startIndexMap,
        List.idxOf_lt_length_iff.2 (List.mem_singleton.mpr rfl)⟩ = (ix2 b 0 : S40x1.Idx) := by
      funext c; refine Fin.ext ?_
      match c with
      | ⟨0, _⟩ => rfl
      | ⟨1, _⟩ => rfl
    rw [hsi]
    rfl
  · unfold GatherDims.start
    rw [dif_neg (show ¬(1 : Fin 3) ∈ (gather_S76x32x64_S40x1_S40x32x64_12_0_n_n_0_1_13264).startIndexMap from (by decide : ¬(1 : Fin 3) ∈ ([0] : List (Fin 3)))), Nat.zero_add]
    unfold GatherDims.offCoord
    rw [dif_pos ((GatherDims.mem_sKept _ _).mpr ⟨(by decide : ¬(1 : Fin 3) ∈ ([0] : List (Fin 3))), List.not_mem_nil⟩)]
    rfl
  · unfold GatherDims.start
    rw [dif_neg (show ¬(2 : Fin 3) ∈ (gather_S76x32x64_S40x1_S40x32x64_12_0_n_n_0_1_13264).startIndexMap from (by decide : ¬(2 : Fin 3) ∈ ([0] : List (Fin 3)))), Nat.zero_add]
    unfold GatherDims.offCoord
    rw [dif_pos ((GatherDims.mem_sKept _ _).mpr ⟨(by decide : ¬(2 : Fin 3) ∈ ([0] : List (Fin 3))), List.not_mem_nil⟩)]
    rfl

end Cert.DecReferenceIdeal.Hand

end
-- ==== Proof.DecRef.lean ====
/- The codes and the scales the reference of the decode step leaves, each one function of the arguments, index by index, where every
   slot read is one of the 76 stored. -/
module

public import proofs.«01_k».proof.Proof.DecBody
public import proofs.«01_k».proof.Proof.DecGather
public import Idealize.ShloMosaic.Lib.Pipeline.ValueKit
public import Idealize.ShloMosaic.Lib.ValueLayout

@[expose] public section

set_option maxRecDepth 16384

noncomputable section

namespace Cert.DecReferenceIdeal.Hand

open Cert.DecReferenceIdeal Cert.DecReferenceIdeal.Gen
open Idealize.ShloMosaic hiding ix0 ix1 ix2 ix3 ix4 ix5 eq_ix2
open Idealize.ShloMosaic.TcCoe Idealize.SL.Sem
open Idealize.ShloMosaic.Pipeline (Dat Cfg Window)
open Idealize.ShloMosaic.ValueIdx (ix1 ix2 ix3 ix4)

/-! ## The rows the host part reads, at an index -/

/-- The slots of the 40 rows, as the row numbers it gathers at: a negative one counted from the end. -/
def slots (a0 : IVec S59 32) : IVec S40x1 32 :=
  broadcastInDim S40x1 ![0] bcast_S40_S40x1_0
    (select (cmpi .slt (extractStridedSlice S40 ![0] a0 slices_S59_S40_0) (broadcastInDim S40 ![] bcast_S_S40 (constantI S_ 32 0#32)))
      (addi (extractStridedSlice S40 ![0] a0 slices_S59_S40_0) (broadcastInDim S40 ![] bcast_S_S40 (constantI S_ 32 76#32)))
      (extractStridedSlice S40 ![0] a0 slices_S59_S40_0))

theorem slots_apply (a0 : IVec S59 32) (b : Fin 40) (h : (a0 (ix1 ⟨b, by omega⟩)).toNat < 76) : slots a0 (ix2 b 0) = a0 (ix1 ⟨b, by omega⟩) := by
  have e : extractStridedSlice S40 ![0] a0 slices_S59_S40_0 (ix1 b) = a0 (ix1 ⟨b, by omega⟩) :=
    extractStridedSlice_apply _ _ _ (ix1 b) (ix1 ⟨b, by omega⟩) (fun a => match a with | ⟨0, _⟩ => (Nat.zero_add _).symm)
  unfold slots
  rw [broadcastInDim_apply _ _ _ (ix2 b 0) (ix1 b) (fun a => match a with | ⟨0, _⟩ => rfl)]
  show Scalar.select (Scalar.cmpi .slt (extractStridedSlice S40 ![0] a0 slices_S59_S40_0 (ix1 b)) 0#32) _ (extractStridedSlice S40 ![0] a0 slices_S59_S40_0 (ix1 b)) = _
  rw [e]
  have hc : Scalar.cmpi .slt (a0 (ix1 ⟨b, by omega⟩)) 0#32 = 0#1 := by
    have := Dec.toInt_of_lt _ h
    show BitVec.ofBool (BitVec.slt (a0 (ix1 ⟨b, by omega⟩)) 0#32) = 0#1
    rw [BitVec.slt, this, decide_eq_false (by simp)]
    rfl
  rw [hc]
  rfl

theorem slots_sl (a0 : IVec S59 32) (b : Fin 40) (h : (a0 (ix1 ⟨b, by omega⟩)).toNat < 76) :
    (⟨min (slots a0 (ix2 b 0)).toInt.toNat 75, by omega⟩ : Fin 76) = Dec.sl a0 b := by
  refine Fin.ext ?_
  show min (slots a0 (ix2 b 0)).toInt.toNat 75 = min (a0 (ix1 ⟨b, by omega⟩)).toNat 75
  rw [slots_apply a0 b h, Dec.toInt_of_lt _ h]
  rfl

theorem x_apply (a3 : FVec Ideal S8320x2560 .f32) (b : Fin 40) (h : Fin 32) (p : Fin 64) :
    shapeCast S40x32x64 (extractStridedSlice S40x2048 ![0, 0] a3 slices_S8320x2560_S40x2048_0_0) shapeCasts_S40x2048_S40x32x64 (ix3 b h p)
      = a3 (ix2 ⟨b, by omega⟩ ⟨h * 64 + p, by omega⟩) :=
  (shapeCast_apply _ _ (ix3 b h p) (ix2 b ⟨h * 64 + p, by omega⟩) (by
    rw [Shape.rowMajor_val_three, Shape.rowMajor_val_two]
    show (b : ℕ) * 2048 + (h * 64 + p) = ((b : ℕ) * 32 + h) * 64 + p
    omega)).trans
  (extractStridedSlice_apply _ _ _ (ix2 b ⟨h * 64 + p, by omega⟩) (ix2 ⟨b, by omega⟩ ⟨h * 64 + p, by omega⟩)
    (fun a => match a with | ⟨0, _⟩ => (Nat.zero_add _).symm | ⟨1, _⟩ => (Nat.zero_add _).symm))

theorem b_apply (a3 : FVec Ideal S8320x2560 .f32) (b : Fin 40) (h : Fin 32) (n : Fin 128) :
    shapeCast S40x32x128 (broadcastInDim S40x2x16x128 ![0, 1, 3] bcast_S40x2x128_S40x2x16x128_0_1_3
      (shapeCast S40x2x128 (extractStridedSlice S40x256 ![0, 2048] a3 slices_S8320x2560_S40x256_0_2048) shapeCasts_S40x256_S40x2x128)) shapeCasts_S40x2x16x128_S40x32x128 (ix3 b h n)
      = a3 (ix2 ⟨b, by omega⟩ ⟨2048 + (h / 16 * 128 + n), by omega⟩) :=
  (shapeCast_apply _ _ (ix3 b h n) (ix4 b (⟨h / 16, by omega⟩ : Fin 2) (⟨h % 16, by omega⟩ : Fin 16) n) (by
    rw [Shape.rowMajor_val_three, Shape.rowMajor_val_four]
    show (((b : ℕ) * 2 + h / 16) * 16 + h % 16) * 128 + n = ((b : ℕ) * 32 + h) * 128 + n
    omega)).trans
  ((broadcastInDim_apply _ _ _ (ix4 b (⟨h / 16, by omega⟩ : Fin 2) (⟨h % 16, by omega⟩ : Fin 16) n) (ix3 b (⟨h / 16, by omega⟩ : Fin 2) n)
    (fun a => match a with | ⟨0, _⟩ => rfl | ⟨1, _⟩ => rfl | ⟨2, _⟩ => rfl)).trans
  ((shapeCast_apply _ _ (ix3 b (⟨h / 16, by omega⟩ : Fin 2) n) (ix2 b ⟨h / 16 * 128 + n, by omega⟩) (by
    rw [Shape.rowMajor_val_three, Shape.rowMajor_val_two]
    show (b : ℕ) * 256 + (h / 16 * 128 + n) = ((b : ℕ) * 2 + h / 16) * 128 + n
    omega)).trans
  (extractStridedSlice_apply _ _ _ (ix2 b ⟨h / 16 * 128 + n, by omega⟩) (ix2 ⟨b, by omega⟩ ⟨2048 + (h / 16 * 128 + n), by omega⟩)
    (fun a => match a with | ⟨0, _⟩ => (Nat.zero_add _).symm | ⟨1, _⟩ => rfl))))

theorem d_apply (a4 : FVec Ideal S8320x128 .f32) (b : Fin 40) (h : Fin 32) :
    extractStridedSlice S40x32 ![0, 0] a4 slices_S8320x128_S40x32_0_0 (ix2 b h) = a4 (ix2 ⟨b, by omega⟩ ⟨h, by omega⟩) :=
  extractStridedSlice_apply _ _ _ (ix2 b h) (ix2 ⟨b, by omega⟩ ⟨h, by omega⟩)
    (fun a => match a with | ⟨0, _⟩ => (Nat.zero_add _).symm | ⟨1, _⟩ => (Nat.zero_add _).symm)

variable (m : (ℓ : Loc nD τ sig) → Buf (Elt Ideal) ℓ) (ρ : Dev nD → PrngReg)

/-! ## The arrays the host part makes -/

theorem V_main_v13 (c : Dev nD) : V m c main_v13 = Host.gather gather_S76x32x64x128_S40x1_S40x32x64x128_123_0_n_n_0_1_13264128
    (m ((c : Thread nD τ).loc main_arg1) : IVec S76x32x64x128 8) (slots (m ((c : Thread nD τ).loc main_arg0))) := by
  show StableHlo.after hostOps0 _ (Proc.devRef .tc main_v13) = _
  after_results
  rfl

theorem V_main_v20 (c : Dev nD) : V m c main_v20 = Host.gather gather_S76x32x64_S40x1_S40x32x64_12_0_n_n_0_1_13264
    (m ((c : Thread nD τ).loc main_arg2) : FVec Ideal S76x32x64 .f32) (slots (m ((c : Thread nD τ).loc main_arg0))) := by
  show StableHlo.after hostOps0 _ (Proc.devRef .tc main_v20) = _
  after_results
  rfl

theorem V_main_v2 (c : Dev nD) : V m c main_v2 = shapeCast S40x32x64 (extractStridedSlice S40x2048 ![0, 0] (m ((c : Thread nD τ).loc main_arg3) : FVec Ideal S8320x2560 .f32) slices_S8320x2560_S40x2048_0_0) shapeCasts_S40x2048_S40x32x64 := by
  show StableHlo.after hostOps0 _ (Proc.devRef .tc main_v2) = _
  after_results
  rfl

theorem V_main_v6 (c : Dev nD) : V m c main_v6 = shapeCast S40x32x128 (broadcastInDim S40x2x16x128 ![0, 1, 3] bcast_S40x2x128_S40x2x16x128_0_1_3
      (shapeCast S40x2x128 (extractStridedSlice S40x256 ![0, 2048] (m ((c : Thread nD τ).loc main_arg3) : FVec Ideal S8320x2560 .f32) slices_S8320x2560_S40x256_0_2048) shapeCasts_S40x256_S40x2x128)) shapeCasts_S40x2x16x128_S40x32x128 := by
  show StableHlo.after hostOps0 _ (Proc.devRef .tc main_v6) = _
  after_results
  rfl

theorem V_main_v21 (c : Dev nD) : V m c main_v21 = extractStridedSlice S40x32 ![0, 0] (m ((c : Thread nD τ).loc main_arg4) : FVec Ideal S8320x128 .f32) slices_S8320x128_S40x32_0_0 := by
  show StableHlo.after hostOps0 _ (Proc.devRef .tc main_v21) = _
  after_results

theorem V_main_v22 (c : Dev nD) : V m c main_v22 = shapeCast S1x32 (m ((c : Thread nD τ).loc main_arg5) : FVec Ideal S32 .f32) shapeCasts_S32_S1x32 := by
  show StableHlo.after hostOps0 _ (Proc.devRef .tc main_v22) = _
  after_results
  rfl

/-! ## Every block is its whole array -/

theorem idx0 : ∀ t : Fin cfg0.N, win0_0.index t = ![0, 0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0, 0] := by decide +kernel
theorem idx7 : ∀ t : Fin cfg0.N, win0_7.index t = ![0, 0, 0] := by decide +kernel

theorem covers6 : (cfg0.win 6).Covers := by decide +kernel
theorem covers7 : (cfg0.win 7).Covers := by decide +kernel

theorem blk0 (c : Dev nD) (t : Fin cfg0.N) (y : S40x32x64x128.Idx) : iblk m c 0 t y = (V m c main_v13 : IVec S40x32x64x128 8) y := by
  have e0 := win0_0.rect_emb_val t y (0 : Fin 4) rfl
  have e1 := win0_0.rect_emb_val t y (1 : Fin 4) rfl
  have e2 := win0_0.rect_emb_val t y (2 : Fin 4) rfl
  have e3 := win0_0.rect_emb_val t y (3 : Fin 4) rfl
  rw [idx0] at e0 e1 e2 e3
  refine congrArg (V m c main_v13 : IVec S40x32x64x128 8) (?_ : ((win0_0.blk t).view.emb y : S40x32x64x128.Idx) = y)
  refine funext fun a => Fin.ext ?_
  match a with
  | ⟨0, _⟩ => exact e0.trans (Nat.zero_add _)
  | ⟨1, _⟩ => exact e1.trans (Nat.zero_add _)
  | ⟨2, _⟩ => exact e2.trans (Nat.zero_add _)
  | ⟨3, _⟩ => exact e3.trans (Nat.zero_add _)

theorem blk1 (c : Dev nD) (t : Fin cfg0.N) (y : S40x32x64.Idx) : iblk m c 1 t y = (V m c main_v20 : FVec Ideal S40x32x64 .f32) y := by
  have e0 := win0_1.rect_emb_val t y (0 : Fin 3) rfl
  have e1 := win0_1.rect_emb_val t y (1 : Fin 3) rfl
  have e2 := win0_1.rect_emb_val t y (2 : Fin 3) rfl
  rw [idx1] at e0 e1 e2
  refine congrArg (V m c main_v20 : FVec Ideal S40x32x64 .f32) (?_ : ((win0_1.blk t).view.emb y : S40x32x64.Idx) = y)
  refine funext fun a => Fin.ext ?_
  match a with
  | ⟨0, _⟩ => exact e0.trans (Nat.zero_add _)
  | ⟨1, _⟩ => exact e1.trans (Nat.zero_add _)
  | ⟨2, _⟩ => exact e2.trans (Nat.zero_add _)

theorem blk2 (c : Dev nD) (t : Fin cfg0.N) (y : S40x32x64.Idx) : iblk m c 2 t y = (V m c main_v2 : FVec Ideal S40x32x64 .f32) y := by
  have e0 := win0_2.rect_emb_val t y (0 : Fin 3) rfl
  have e1 := win0_2.rect_emb_val t y (1 : Fin 3) rfl
  have e2 := win0_2.rect_emb_val t y (2 : Fin 3) rfl
  rw [idx2] at e0 e1 e2
  refine congrArg (V m c main_v2 : FVec Ideal S40x32x64 .f32) (?_ : ((win0_2.blk t).view.emb y : S40x32x64.Idx) = y)
  refine funext fun a => Fin.ext ?_
  match a with
  | ⟨0, _⟩ => exact e0.trans (Nat.zero_add _)
  | ⟨1, _⟩ => exact e1.trans (Nat.zero_add _)
  | ⟨2, _⟩ => exact e2.trans (Nat.zero_add _)

theorem blk3 (c : Dev nD) (t : Fin cfg0.N) (y : S40x32x128.Idx) : iblk m c 3 t y = (V m c main_v6 : FVec Ideal S40x32x128 .f32) y := by
  have e0 := win0_3.rect_emb_val t y (0 : Fin 3) rfl
  have e1 := win0_3.rect_emb_val t y (1 : Fin 3) rfl
  have e2 := win0_3.rect_emb_val t y (2 : Fin 3) rfl
  rw [idx3] at e0 e1 e2
  refine congrArg (V m c main_v6 : FVec Ideal S40x32x128 .f32) (?_ : ((win0_3.blk t).view.emb y : S40x32x128.Idx) = y)
  refine funext fun a => Fin.ext ?_
  match a with
  | ⟨0, _⟩ => exact e0.trans (Nat.zero_add _)
  | ⟨1, _⟩ => exact e1.trans (Nat.zero_add _)
  | ⟨2, _⟩ => exact e2.trans (Nat.zero_add _)

theorem blk4 (c : Dev nD) (t : Fin cfg0.N) (y : S40x32.Idx) : iblk m c 4 t y = (V m c main_v21 : FVec Ideal S40x32 .f32) y := by
  have e0 := win0_4.rect_emb_val t y (0 : Fin 2) rfl
  have e1 := win0_4.rect_emb_val t y (1 : Fin 2) rfl
  rw [idx4] at e0 e1
  refine congrArg (V m c main_v21 : FVec Ideal S40x32 .f32) (?_ : ((win0_4.blk t).view.emb y : S40x32.Idx) = y)
  refine funext fun a => Fin.ext ?_
  match a with
  | ⟨0, _⟩ => exact e0.trans (Nat.zero_add _)
  | ⟨1, _⟩ => exact e1.trans (Nat.zero_add _)

theorem blk5 (c : Dev nD) (t : Fin cfg0.N) (y : S1x32.Idx) : iblk m c 5 t y = (V m c main_v22 : FVec Ideal S1x32 .f32) y := by
  have e0 := win0_5.rect_emb_val t y (0 : Fin 2) rfl
  have e1 := win0_5.rect_emb_val t y (1 : Fin 2) rfl
  rw [idx5] at e0 e1
  refine congrArg (V m c main_v22 : FVec Ideal S1x32 .f32) (?_ : ((win0_5.blk t).view.emb y : S1x32.Idx) = y)
  refine funext fun a => Fin.ext ?_
  match a with
  | ⟨0, _⟩ => exact e0.trans (Nat.zero_add _)
  | ⟨1, _⟩ => exact e1.trans (Nat.zero_add _)

/-- The new state, from the blocks. -/
theorem state (c : Dev nD) (t : Fin cfg0.N) (hs : ∀ b : Fin 40, ((m ((c : Thread nD τ).loc main_arg0) : IVec S59 32) (ix1 ⟨b, by omega⟩)).toNat < 76)
    (b : Fin 40) (h : Fin 32) (p : Fin 64) (n : Fin 128) :
    Dec.hval (iblk m c 4 t (ix2 b h)) (iblk m c 5 t (ix2 0 h)) (iblk m c 1 t (ix3 b h p)) (iblk m c 0 t (ix4 b h p n)) (iblk m c 2 t (ix3 b h p)) (iblk m c 3 t (ix3 b h n))
      = Dec.HG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b h p n := by
  unfold Dec.HG
  rw [blk0, blk1, blk2, blk3, blk4, blk5, V_main_v13, V_main_v20, V_main_v2, V_main_v6, V_main_v21, V_main_v22, gather4, gather3, x_apply, b_apply, d_apply,
    slots_sl _ b (hs b), ValueIdx.shapeCast_a_1a_apply]

/-- The new codes, from the whole arguments; -/
def GC (a0 : IVec S59 32) (a1 : IVec S76x32x64x128 8) (a2 : FVec Ideal S76x32x64 .f32) (a3 : FVec Ideal S8320x2560 .f32)
    (a4 : FVec Ideal S8320x128 .f32) (a5 : FVec Ideal S32 .f32) : IVec S40x32x64x128 8 := fun i => Dec.CG a0 a1 a2 a3 a4 a5 (i 0) (i 1) (i 2) (i 3)

/-- and the scales. -/
def GS (a0 : IVec S59 32) (a1 : IVec S76x32x64x128 8) (a2 : FVec Ideal S76x32x64 .f32) (a3 : FVec Ideal S8320x2560 .f32)
    (a4 : FVec Ideal S8320x128 .f32) (a5 : FVec Ideal S32 .f32) : FVec Ideal S40x32x64 .f32 := fun i => Dec.SG a0 a1 a2 a3 a4 a5 (i 0) (i 1) (i 2)

theorem final6 (c : Dev nD) (hs : ∀ b : Fin 40, ((m ((c : Thread nD τ).loc main_arg0) : IVec S59 32) (ix1 ⟨b, by omega⟩)).toNat < 76) :
    (dats m 0 c).arrAt 6 cfg0.N = GC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ covers6 fun t _ y => ?_
  show (dats m 0 c).after 6 t (win0_6.xinj (grid0.coords t) y) = GC _ _ _ _ _ _ ((win0_6.blk t).view.emb y)
  rw [after0_6]
  have e0 := win0_6.rect_emb_val t y (0 : Fin 4) rfl
  have e1 := win0_6.rect_emb_val t y (1 : Fin 4) rfl
  have e2 := win0_6.rect_emb_val t y (2 : Fin 4) rfl
  have e3 := win0_6.rect_emb_val t y (3 : Fin 4) rfl
  rw [idx6] at e0 e1 e2 e3
  generalize hz : ((win0_6.blk t).view.emb y : S40x32x64x128.Idx) = z
  have hx : (win0_6.xinj (grid0.coords t) y : S40x32x64x128.Idx) = ix4 (z 0) (z 1) (z 2) (z 3) := by
    rw [← hz]
    refine funext fun a => Fin.ext ?_
    match a with
    | ⟨0, _⟩ => exact (e0.trans (Nat.zero_add _)).symm
    | ⟨1, _⟩ => exact (e1.trans (Nat.zero_add _)).symm
    | ⟨2, _⟩ => exact (e2.trans (Nat.zero_add _)).symm
    | ⟨3, _⟩ => exact (e3.trans (Nat.zero_add _)).symm
  rw [hx]
  refine (out6 _ _ _ _ _ _ _ _ _ _).trans ?_
  exact congrArg₂ Dec.cval (state m c t hs _ _ _ _) (congrArg Dec.sval (funext fun n => state m c t hs _ _ _ n))

theorem final7 (c : Dev nD) (hs : ∀ b : Fin 40, ((m ((c : Thread nD τ).loc main_arg0) : IVec S59 32) (ix1 ⟨b, by omega⟩)).toNat < 76) :
    (dats m 0 c).arrAt 7 cfg0.N = GS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ covers7 fun t _ y => ?_
  show (dats m 0 c).after 7 t (win0_7.xinj (grid0.coords t) y) = GS _ _ _ _ _ _ ((win0_7.blk t).view.emb y)
  rw [after0_7]
  have e0 := win0_7.rect_emb_val t y (0 : Fin 3) rfl
  have e1 := win0_7.rect_emb_val t y (1 : Fin 3) rfl
  have e2 := win0_7.rect_emb_val t y (2 : Fin 3) rfl
  rw [idx7] at e0 e1 e2
  generalize hz : ((win0_7.blk t).view.emb y : S40x32x64.Idx) = z
  have hx : (win0_7.xinj (grid0.coords t) y : S40x32x64.Idx) = ix3 (z 0) (z 1) (z 2) := by
    rw [← hz]
    refine funext fun a => Fin.ext ?_
    match a with
    | ⟨0, _⟩ => exact (e0.trans (Nat.zero_add _)).symm
    | ⟨1, _⟩ => exact (e1.trans (Nat.zero_add _)).symm
    | ⟨2, _⟩ => exact (e2.trans (Nat.zero_add _)).symm
  rw [hx]
  refine (out7 _ _ _ _ _ _ _ _ _).trans ?_
  exact congrArg Dec.sval (funext fun n => state m c t hs _ _ _ n)

/-- The run with both results named, the arguments unchanged. -/
theorem run (hs : ∀ (c : Dev nD) (b : Fin 40), ((m ((c : Thread nD τ).loc main_arg0) : IVec S59 32) (ix1 ⟨b, by omega⟩)).toNat < 76) :
    θ_run defs (onTc (τ := τ) (main (F := Ideal))) ⟨m, fun _ => 0, ρ⟩ fun r => ∀ c : Dev nD,
      r.2.mem ((c : Thread nD τ).loc main_v23_0) = GC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v23_1) = GS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 6).trans (final6 m c (hs c)), ((h.1 c).1 7).trans (final7 m c (hs c)), h.2.1 c⟩)
    (θ_run_and (run_main m ρ) (frame m ρ))

end Cert.DecReferenceIdeal.Hand

end
-- ==== Proof.lean ====
/- The proof of everything the certificate claims: for the feed-forward block, for the output projection and for the decode step,
   the frames, that the idealized kernel is the kernel, and that kernel and reference agree over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Skeleton
public import proofs.«01_k».proof.Proof.Gen.OutReferenceIdeal.Launch
public import proofs.«01_k».proof.Proof.Gen.OutReferenceIdeal.Points
public import proofs.«01_k».proof.Proof.Gen.OutReferenceIdeal.Frame
public import proofs.«01_k».proof.Proof.Gen.ReferenceIdeal.Value
public import proofs.«01_k».proof.Proof.Gen.OutReferenceIdeal.Value
public import proofs.«01_k».proof.Proof.FfnBits
public import proofs.«01_k».proof.Proof.FfnFrame
public import proofs.«01_k».proof.Proof.FfnValue
public import proofs.«01_k».proof.Proof.FfnRef
public import proofs.«01_k».proof.Proof.OutBits
public import proofs.«01_k».proof.Proof.OutFrame
public import proofs.«01_k».proof.Proof.OutValue
public import proofs.«01_k».proof.Proof.OutRef
public import proofs.«01_k».proof.Proof.Gen.DecKernel
public import proofs.«01_k».proof.Proof.Gen.DecKernel.Skeleton
public import proofs.«01_k».proof.Proof.Gen.DecKernel.Launch
public import proofs.«01_k».proof.Proof.Gen.DecKernel.Points
public import proofs.«01_k».proof.Proof.DecFrameBits
public import proofs.«01_k».proof.Proof.Gen.DecKernelIdeal
public import proofs.«01_k».proof.Proof.Gen.DecKernelIdeal.Skeleton
public import proofs.«01_k».proof.Proof.Gen.DecKernelIdeal.Launch
public import proofs.«01_k».proof.Proof.Gen.DecKernelIdeal.Points
public import proofs.«01_k».proof.Proof.Gen.DecReferenceIdeal
public import proofs.«01_k».proof.Proof.Gen.DecReferenceIdeal.Skeleton
public import proofs.«01_k».proof.Proof.Gen.DecReferenceIdeal.Launch
public import proofs.«01_k».proof.Proof.Gen.DecReferenceIdeal.Points
public import proofs.«01_k».proof.Proof.Gen.DecReferenceIdeal.Frame
public import proofs.«01_k».proof.Proof.Gen.Pre_slots_stored
public import proofs.«01_k».proof.Proof.DecOkBits
public import proofs.«01_k».proof.Proof.DecValue
public import proofs.«01_k».proof.Proof.DecRef
public import Idealize.ShloMosaic.Adequacy
public import Idealize.ShloMosaic.Init

@[expose] public section

noncomputable section

-- The frames also say that every semaphore counter ends at zero.

namespace Cert.Proof

open Idealize.ShloMosaic Idealize.SL.Sem

/-- The kernel's frame, for the words it runs on. -/
theorem frame_kernel : Cert.quiescent_Kernel (hKernel := Cert.Kernel.Gen.facts) := fun m g _ =>
  θ_run_and (Cert.Kernel.Hand.frame_of_forget m g (fun c => (Cert.Kernel.Hand.dats m 0 c).toRForget Cert.Kernel.Hand.forgets0)
      (Cert.Kernel.Hand.A_eq m) (Cert.Kernel.Hand.run_main m g))
    ((θ_run Cert.Kernel.defs _ _).mono (fun _ h => h.2) (Cert.Kernel.Hand.run_main_quiescent m g))

/-- The idealized kernel's frame. -/
theorem frame_ideal : Cert.quiescent_KernelIdeal (hKernelIdeal := Cert.KernelIdeal.Gen.facts) := fun m g _ =>
  θ_run_and (Cert.KernelIdeal.Hand.Forget.frame_of_forget m g (fun c => (Cert.KernelIdeal.Hand.Forget.dats m 0 c).toRForget Cert.KernelIdeal.Hand.Forget.forgets0)
      (Cert.KernelIdeal.Hand.Forget.A_eq m) (Cert.KernelIdeal.Hand.Forget.run_main m g))
    ((θ_run Cert.KernelIdeal.defs _ _).mono (fun _ h => h.2) (Cert.KernelIdeal.Hand.Forget.run_main_quiescent m g))

/-- The reference's codes are the kernel's, from the same arguments, -/
theorem codes_eq (a0 a1 : Vec Ideal Cert.KernelIdeal.S1 .f32) (a2 : Vec Ideal Cert.KernelIdeal.S8232x4096 .fp8e4m3)
    (a4 : Vec Ideal Cert.KernelIdeal.S4096x5376 .fp8e4m3) (a5 : Vec Ideal Cert.KernelIdeal.S5376 .f32) :
    Cert.ReferenceIdeal.Gen.k0_pay1 (F := Ideal) a0 a1 a2 a4 a5 = Cert.KernelIdeal.Hand.Exact.GU a0 a1 a2 a4 a5 := by
  funext i
  obtain ⟨r, n, rfl⟩ : ∃ (r : Fin 8232) (n : Fin 5376), i = ValueIdx.ix2 r n := ⟨i 0, i 1, ValueIdx.eq_ix2 i⟩
  exact Cert.ReferenceIdeal.Hand.codes_apply a0 a1 a2 a4 a5 r n

/-- and so is its result. -/
theorem result_eq (a0 a1 : Vec Ideal Cert.KernelIdeal.S1 .f32) (a2 : Vec Ideal Cert.KernelIdeal.S8232x4096 .fp8e4m3)
    (a3 : Vec Ideal Cert.KernelIdeal.S8232x4096 .f32) (a4 : Vec Ideal Cert.KernelIdeal.S4096x5376 .fp8e4m3)
    (a5 : Vec Ideal Cert.KernelIdeal.S5376 .f32) (a6 : Vec Ideal Cert.KernelIdeal.S5376x4096 .fp8e4m3) (a7 : Vec Ideal Cert.KernelIdeal.S4096 .f32) :
    Cert.ReferenceIdeal.Gen.k0_pay2 (F := Ideal) a0 a1 a2 a4 a5 a6 a7 a3 = Cert.KernelIdeal.Hand.Exact.GO a0 a1 a2 a3 a4 a5 a6 a7 := by
  funext i
  obtain ⟨r, n, rfl⟩ : ∃ (r : Fin 8232) (n : Fin 4096), i = ValueIdx.ix2 r n := ⟨i 0, i 1, ValueIdx.eq_ix2 i⟩
  refine (Cert.ReferenceIdeal.Hand.result_apply a0 a1 a2 a4 a5 a6 a7 a3 r n).trans ?_
  rw [codes_eq]
  rfl

/-- Both programs compute the same two arrays over the extended reals. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, _, Cert.KernelIdeal.Hand.Exact.run m g, ?_⟩
  refine (θ_run Cert.ReferenceIdeal.defs _ _).mono (fun r h c => ?_) (Cert.ReferenceIdeal.Value.run (F := Ideal) m' g')
  obtain ⟨h8, h9, hk⟩ := h c
  obtain ⟨e0, e1, e2, e3, e4, e5, e6, e7⟩ := hm c
  refine ⟨h8.trans ?_, h9.trans ?_, hk⟩
  · refine (result_eq _ _ _ _ _ _ _ _).trans ?_
    rw [e0, e1, e2, e3, e4, e5, e6, e7]
  · refine (codes_eq _ _ _ _ _).trans ?_
    rw [e0, e1, e2, e4, e5]

/-- The output projection's frame, for the words it runs on. -/
theorem out_frame_kernel : Cert.quiescent_OutKernel (hOutKernel := Cert.OutKernel.Gen.facts) := fun m g _ =>
  θ_run_and (Cert.OutKernel.Hand.frame_of_forget m g (fun c => (Cert.OutKernel.Hand.dats m 0 c).toRForget Cert.OutKernel.Hand.forgets0)
      (Cert.OutKernel.Hand.A_eq m) (Cert.OutKernel.Hand.run_main m g))
    ((θ_run Cert.OutKernel.defs _ _).mono (fun _ h => h.2) (Cert.OutKernel.Hand.run_main_quiescent m g))

/-- The idealized output projection's frame. -/
theorem out_frame_ideal : Cert.quiescent_OutKernelIdeal (hOutKernelIdeal := Cert.OutKernelIdeal.Gen.facts) := fun m g _ =>
  θ_run_and (Cert.OutKernelIdeal.Hand.Forget.frame_of_forget m g (fun c => (Cert.OutKernelIdeal.Hand.Forget.dats m 0 c).toRForget Cert.OutKernelIdeal.Hand.Forget.forgets0)
      (Cert.OutKernelIdeal.Hand.Forget.A_eq m) (Cert.OutKernelIdeal.Hand.Forget.run_main m g))
    ((θ_run Cert.OutKernelIdeal.defs _ _).mono (fun _ h => h.2) (Cert.OutKernelIdeal.Hand.Forget.run_main_quiescent m g))

/-- The reference's residual is the output projection's, from the same arguments, -/
theorem out_residual_eq (a0 : Vec Ideal Cert.OutKernelIdeal.S1 .f32) (a2 : Vec Ideal Cert.OutKernelIdeal.S8232x2048 .fp8e4m3)
    (a3 : Vec Ideal Cert.OutKernelIdeal.S8232x4096 .bf16) (a4 : Vec Ideal Cert.OutKernelIdeal.S2048x4096 .fp8e4m3) (a5 : Vec Ideal Cert.OutKernelIdeal.S4096 .f32) :
    Cert.OutReferenceIdeal.Gen.k0_pay1 (F := Ideal) a0 a2 a4 a5 a3 = Cert.OutKernelIdeal.Hand.Exact.GH a0 a2 a3 a4 a5 := by
  funext i
  obtain ⟨r, n, rfl⟩ : ∃ (r : Fin 8232) (n : Fin 4096), i = ValueIdx.ix2 r n := ⟨i 0, i 1, ValueIdx.eq_ix2 i⟩
  exact Cert.OutReferenceIdeal.Hand.h_apply a0 a2 a4 a5 a3 r n

/-- and so are its codes. -/
theorem out_codes_eq (a0 a1 : Vec Ideal Cert.OutKernelIdeal.S1 .f32) (a2 : Vec Ideal Cert.OutKernelIdeal.S8232x2048 .fp8e4m3)
    (a3 : Vec Ideal Cert.OutKernelIdeal.S8232x4096 .bf16) (a4 : Vec Ideal Cert.OutKernelIdeal.S2048x4096 .fp8e4m3) (a5 a6 : Vec Ideal Cert.OutKernelIdeal.S4096 .f32) :
    Cert.OutReferenceIdeal.Gen.k0_pay2 (F := Ideal) a0 a1 a2 a4 a5 a3 a6 = Cert.OutKernelIdeal.Hand.Exact.GF a0 a1 a2 a3 a4 a5 a6 := by
  funext i
  obtain ⟨r, n, rfl⟩ : ∃ (r : Fin 8232) (n : Fin 4096), i = ValueIdx.ix2 r n := ⟨i 0, i 1, ValueIdx.eq_ix2 i⟩
  refine (Cert.OutReferenceIdeal.Hand.codes_apply a0 a1 a2 a4 a5 a3 a6 r n).trans ?_
  rw [out_residual_eq]
  rfl

/-- Both output projections compute the same two arrays over the extended reals. -/
theorem out_algebraic : Cert.algebraic_OutKernelIdeal_OutReferenceIdeal (hOutKernelIdeal := Cert.OutKernelIdeal.Gen.facts) (hOutReferenceIdeal := Cert.OutReferenceIdeal.Gen.facts) := by
  intro m g m' g' _ hm
  refine ⟨_, _, Cert.OutKernelIdeal.Hand.Exact.run m g, ?_⟩
  refine (θ_run Cert.OutReferenceIdeal.defs _ _).mono (fun r h c => ?_) (Cert.OutReferenceIdeal.Value.run (F := Ideal) m' g')
  obtain ⟨h7, h8, hk⟩ := h c
  obtain ⟨e0, e1, e2, e3, e4, e5, e6⟩ := hm c
  refine ⟨h7.trans ?_, h8.trans ?_, hk⟩
  · refine (out_residual_eq _ _ _ _ _).trans ?_
    rw [e0, e2, e3, e4, e5]
  · refine (out_codes_eq _ _ _ _ _ _ _).trans ?_
    rw [e0, e1, e2, e3, e4, e5, e6]

/-- Under the precondition, every slot the decode step reads is one of the 76 stored. -/
theorem dec_slots {m : (ℓ : Loc Cert.DecKernelIdeal.nD Cert.DecKernelIdeal.τ Cert.DecKernelIdeal.sig) → Buf (Elt Ideal) ℓ}
    (h : Cert.Pre_DecKernelIdeal (hPre_slots_stored := Cert.Pre_slots_stored.Gen.facts) m) (b : Fin 40) : (Cert.DecKernelIdeal.Slots.slot m b).toNat < 76 :=
  @Dec.slot_lt _ _ Cert.Pre_slots_stored.Gen.facts _ _ _ _ _ _ _ (h 0) b

/-- The decode step's frame, as run, -/
theorem dec_frame_kernel : Cert.quiescent_DecKernel (hDecKernel := Cert.DecKernel.Gen.facts) (hPre_slots_stored := Cert.Pre_slots_stored.Gen.facts) := fun m g h =>
  Cert.DecKernel.Hand.frame m g (Cert.DecKernel.Slots.ok m fun b => @Dec.slot_lt _ _ Cert.Pre_slots_stored.Gen.facts _ _ _ _ _ _ _ (h 0) b)

/-- and idealized. -/
theorem dec_frame_ideal : Cert.quiescent_DecKernelIdeal (hDecKernelIdeal := Cert.DecKernelIdeal.Gen.facts) (hPre_slots_stored := Cert.Pre_slots_stored.Gen.facts) := fun m g h =>
  Cert.DecKernelIdeal.Hand.frame m g (Cert.DecKernelIdeal.Slots.ok m (dec_slots h))

/-- Both decode steps leave the same codes and the same scales over the extended reals. -/
theorem dec_algebraic : Cert.algebraic_DecKernelIdeal_DecReferenceIdeal (hDecKernelIdeal := Cert.DecKernelIdeal.Gen.facts)
    (hDecReferenceIdeal := Cert.DecReferenceIdeal.Gen.facts) (hPre_slots_stored := Cert.Pre_slots_stored.Gen.facts) := by
  intro m g m' g' hp hm
  refine ⟨_, _, Cert.DecKernelIdeal.Hand.run m g (dec_slots hp), ?_⟩
  have hs : ∀ (c : Dev Cert.DecReferenceIdeal.nD) (b : Fin 40),
      ((m' ((c.tc : Thread Cert.DecReferenceIdeal.nD Cert.DecReferenceIdeal.τ).loc Cert.DecReferenceIdeal.main_arg0) : IVec Cert.DecReferenceIdeal.S59 32) (ValueIdx.ix1 ⟨b, by omega⟩)).toNat < 76 := fun c b => by
    obtain rfl : c = 0 := Subsingleton.elim _ _
    rw [(hm 0).1]
    exact dec_slots hp b
  refine (θ_run Cert.DecReferenceIdeal.defs _ _).mono (fun r h c => ?_) (Cert.DecReferenceIdeal.Hand.run m' g' hs)
  obtain ⟨h0, h1, hk⟩ := h c
  obtain ⟨e0, e1, e2, e3, e4, e5, e6⟩ := hm c
  refine ⟨h0.trans ?_, h1.trans ?_, hk⟩
  · rw [e0, e1, e2, e3, e4, e5]
    rfl
  · rw [e0, e1, e2, e3, e4, e5]
    rfl

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.DecKernel.Gen.facts, Cert.DecKernelIdeal.Gen.facts, Cert.DecReferenceIdeal.Gen.facts, Cert.Pre_slots_stored.Gen.facts,
  frame_kernel, frame_ideal, fun m g _ => Cert.ReferenceIdeal.Gen.frame m g,
  out_frame_kernel, out_frame_ideal, fun m g _ => Cert.OutReferenceIdeal.Gen.frame m g,
  dec_frame_kernel, dec_frame_ideal, fun m g _ => Cert.DecReferenceIdeal.Gen.frame m g, fun m g _ => Cert.DecReferenceIdeal.Gen.frame m g,
  trivial, algebraic, trivial, out_algebraic, trivial, dec_algebraic⟩

end Cert.Proof

end
